-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v12)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v12) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v45_0)) (v1 : (c : Dev Cert.ProjIdeal.nD) → Buf (Elt Ideal) ((c.tc : Thread Cert.ProjIdeal.nD Cert.ProjIdeal.τ).loc Cert.ProjIdeal.main_v45_1)) (v2 : (c : Dev Cert.ProjIdeal.nD) → Buf (Elt Ideal) ((c.tc : Thread Cert.ProjIdeal.nD Cert.ProjIdeal.τ).loc Cert.ProjIdeal.main_v45_2)) (v3 : (c : Dev Cert.ProjIdeal.nD) → Buf (Elt Ideal) ((c.tc : Thread Cert.ProjIdeal.nD Cert.ProjIdeal.τ).loc Cert.ProjIdeal.main_v45_3)) (v4 : (c : Dev Cert.ProjIdeal.nD) → Buf (Elt Ideal) ((c.tc : Thread Cert.ProjIdeal.nD Cert.ProjIdeal.τ).loc Cert.ProjIdeal.main_v45_4)) (v5 : (c : Dev Cert.ProjIdeal.nD) → Buf (Elt Ideal) ((c.tc : Thread Cert.ProjIdeal.nD Cert.ProjIdeal.τ).loc Cert.ProjIdeal.main_v45_5)) (v6 : (c : Dev Cert.ProjIdeal.nD) → Buf (Elt Ideal) ((c.tc : Thread Cert.ProjIdeal.nD Cert.ProjIdeal.τ).loc Cert.ProjIdeal.main_v45_6)) (v7 : (c : Dev Cert.ProjIdeal.nD) → Buf (Elt Ideal) ((c.tc : Thread Cert.ProjIdeal.nD Cert.ProjIdeal.τ).loc Cert.ProjIdeal.main_v45_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v45_0) = v0 c
          ∧ r.2.mem ((c.tc : Thread Cert.ProjIdeal.nD Cert.ProjIdeal.τ).loc Cert.ProjIdeal.main_v45_1) = v1 c
          ∧ r.2.mem ((c.tc : Thread Cert.ProjIdeal.nD Cert.ProjIdeal.τ).loc Cert.ProjIdeal.main_v45_2) = v2 c
          ∧ r.2.mem ((c.tc : Thread Cert.ProjIdeal.nD Cert.ProjIdeal.τ).loc Cert.ProjIdeal.main_v45_3) = v3 c
          ∧ r.2.mem ((c.tc : Thread Cert.ProjIdeal.nD Cert.ProjIdeal.τ).loc Cert.ProjIdeal.main_v45_4) = v4 c
          ∧ r.2.mem ((c.tc : Thread Cert.ProjIdeal.nD Cert.ProjIdeal.τ).loc Cert.ProjIdeal.main_v45_5) = v5 c
          ∧ r.2.mem ((c.tc : Thread Cert.ProjIdeal.nD Cert.ProjIdeal.τ).loc Cert.ProjIdeal.main_v45_6) = v6 c
          ∧ r.2.mem ((c.tc : Thread Cert.ProjIdeal.nD Cert.ProjIdeal.τ).loc Cert.ProjIdeal.main_v45_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_v29) = v4 c
          ∧ r.2.mem ((c.tc : Thread Cert.ProjRefIdeal.nD Cert.ProjRefIdeal.τ).loc Cert.ProjRefIdeal.main_v88) = v5 c
          ∧ r.2.mem ((c.tc : Thread Cert.ProjRefIdeal.nD Cert.ProjRefIdeal.τ).loc Cert.ProjRefIdeal.main_v90) = v6 c
          ∧ r.2.mem ((c.tc : Thread Cert.ProjRefIdeal.nD Cert.ProjRefIdeal.τ).loc Cert.ProjRefIdeal.main_v151) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v63) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hExperts : Cert.Experts.Facts) (hExpertsIdeal : Cert.ExpertsIdeal.Facts) (hExpertsRefIdeal : Cert.ExpertsRefIdeal.Facts) (hPre_scores_finite : Cert.Pre_scores_finite.Facts) (hPre_experts_in_range : Cert.Pre_experts_in_range.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Proj (hProj := hProj)
    ∧ quiescent_ProjIdeal (hProjIdeal := hProjIdeal)
    ∧ quiescent_ProjRefIdeal (hProjRefIdeal := hProjRefIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Proj_ProjIdeal
    ∧ algebraic_ProjIdeal_ProjRefIdeal (hProjIdeal := hProjIdeal) (hProjRefIdeal := hProjRefIdeal)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
-- ==== Pre_experts_in_range.lean ====
abbrev S151552x1024 : Shape := ⟨2, ![151552, 1024]⟩
abbrev S296 : Shape := ⟨1, ![296]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S_S296 : S_.BroadcastsInDim S296 (![] : Fin 0 → Fin S296.rank)
  bcast_S_S1 : S_.BroadcastsInDim S1 (![] : Fin 0 → Fin S1.rank)

variable [Facts]

def fn {F : FTy → Type} [FloatOps F] (main_arg0 : FVec F S151552x1024 .f32) (main_arg1 : IVec S296 32) (main_arg2 : IVec S1 32) (main_arg3 : FVec F S32x1024x512 .f32) (main_arg4 : FVec F S32x1024x512 .f32) (main_arg5 : FVec F S32x512x1024 .f32) : IVec S296 1 × IVec S1 1 :=
  let main_c : IVec S_ 32 := constantI S_ 32 0#32
  let main_v0 : IVec S296 32 := broadcastInDim S296 ![] bcast_S_S296 main_c
  let main_v1 : IVec S296 1 := cmpi .sge main_arg1 main_v0
  let main_c_0 : IVec S_ 32 := constantI S_ 32 31#32
  let main_v2 : IVec S296 32 := broadcastInDim S296 ![] bcast_S_S296 main_c_0
  let main_v3 : IVec S296 1 := cmpi .sle main_arg1 main_v2
  let main_v4 : IVec S296 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Pre_scores_finite.lean ====
abbrev S8x8192x6x64 : Shape := ⟨4, ![8, 8192, 6, 64]⟩
abbrev S8x8192x2x64 : Shape := ⟨4, ![8, 8192, 2, 64]⟩
abbrev S8x256x2x64 : Shape := ⟨4, ![8, 256, 2, 64]⟩
abbrev S6 : Shape := ⟨1, ![6]⟩
abbrev S_ : Shape := ⟨0, ![]⟩

class Facts : Prop where
  bcast_S_S8x8192x6x64 : S_.BroadcastsInDim S8x8192x6x64 (![] : Fin 0 → Fin S8x8192x6x64.rank)
  reducesTo_S8x8192x6x64_S_d0_1_2_3 : S8x8192x6x64.ReducesTo [0, 1, 2, 3] S_
  h_S_ : 0 < S_.numel
  bcast_S_S8x8192x2x64 : S_.BroadcastsInDim S8x8192x2x64 (![] : Fin 0 → Fin S8x8192x2x64.rank)
  reducesTo_S8x8192x2x64_S_d0_1_2_3 : S8x8192x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S6 : S_.BroadcastsInDim S6 (![] : Fin 0 → Fin S6.rank)
  reducesTo_S6_S_d0 : S6.ReducesTo [0] S_

variable [Facts]

def fn_part1 {F : FTy → Type} [FloatOps F] (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  main_v18

def fn {F : FTy → Type} [FloatOps F] (main_arg0 : FVec F S8x8192x6x64 .f32) (main_arg1 : FVec F S8x8192x2x64 .f32) (main_arg2 : FVec F S8x8192x2x64 .f32) (main_arg3 : FVec F S8x256x2x64 .f32) (main_arg4 : FVec F S8x256x2x64 .f32) (main_arg5 : FVec F S6 .f32) : IVec S_ 1 :=
  let main_v0 : FVec F S8x8192x6x64 .f32 := Host.absf main_arg0
  let main_cst : FVec F S_ .f32 := constant S_ .f32 0x7F800000#32
  let main_v1 : FVec F S8x8192x6x64 .f32 := broadcastInDim S8x8192x6x64 ![] bcast_S_S8x8192x6x64 main_cst
  let main_v2 : IVec S8x8192x6x64 1 := cmpf .olt main_v0 main_v1
  let main_c : IVec S_ 1 := constantI S_ 1 1#1
  let main_v3 : IVec S_ 1 := (fun x v => Host.reduce IntOp.andi x v reducesTo_S8x8192x6x64_S_d0_1_2_3 h_S_) main_v2 main_c
  let main_v4 : FVec F S8x8192x2x64 .f32 := Host.absf main_arg1
  let main_cst_0 : FVec F S_ .f32 := constant S_ .f32 0x7F800000#32
  let main_v5 : FVec F S8x8192x2x64 .f32 := broadcastInDim S8x8192x2x64 ![] bcast_S_S8x8192x2x64 main_cst_0
  let main_v6 : IVec S8x8192x2x64 1 := cmpf .olt main_v4 main_v5
  let main_c_1 : IVec S_ 1 := constantI S_ 1 1#1
  let main_v7 : IVec S_ 1 := (fun x v => Host.reduce IntOp.andi x v reducesTo_S8x8192x2x64_S_d0_1_2_3 h_S_) main_v6 main_c_1
  let main_v8 : IVec S_ 1 := andi main_v3 main_v7
  let main_v9 : FVec F S8x256x2x64 .f32 := Host.absf main_arg3
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S6 .f32 := Host.absf main_arg5
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_v13 main_v16
-- ==== Attn.lean ====
abbrev S8x8192x6x64 : Shape := ⟨4, ![8, 8192, 6, 64]⟩
abbrev S8x8192x2x64 : Shape := ⟨4, ![8, 8192, 2, 64]⟩
abbrev S8x256x2x64 : Shape := ⟨4, ![8, 256, 2, 64]⟩
abbrev S6 : Shape := ⟨1, ![6]⟩
abbrev S65536x384 : Shape := ⟨2, ![65536, 384]⟩
abbrev S_ : Shape := ⟨0, ![]⟩
abbrev S8x8192x128 : Shape := ⟨3, ![8, 8192, 128]⟩
abbrev S8x256x128 : Shape := ⟨3, ![8, 256, 128]⟩
abbrev S256x384 : Shape := ⟨2, ![256, 384]⟩
abbrev S1x128x128 : Shape := ⟨3, ![1, 128, 128]⟩
abbrev S1x256x128 : Shape := ⟨3, ![1, 256, 128]⟩
abbrev S128x128 : Shape := ⟨2, ![128, 128]⟩
abbrev S128x64 : Shape := ⟨2, ![128, 64]⟩
abbrev S256x128 : Shape := ⟨2, ![256, 128]⟩
abbrev S256x64 : Shape := ⟨2, ![256, 64]⟩
abbrev S384x384 : Shape := ⟨2, ![384, 384]⟩
abbrev S384x1 : Shape := ⟨2, ![384, 1]⟩
abbrev S384x128 : Shape := ⟨2, ![384, 128]⟩
abbrev S384x256 : Shape := ⟨2, ![384, 256]⟩
abbrev S1 : Shape := ⟨1, ![1]⟩
abbrev S384 : Shape := ⟨1, ![384]⟩

abbrev nBuf : Space → Nat
  | .hbm => 20
  | .vmem => 24
  | .smem => 1
  | _ => 0

abbrev bufTy : (tb : Table) → Fin (tcTables nBuf tb) → BufTy
  | .hbm, ⟨0, _⟩ => ⟨S8x8192x6x64, .f32⟩
  | .hbm, ⟨1, _⟩ => ⟨S8x8192x2x64, .f32⟩
  | .hbm, ⟨2, _⟩ => ⟨S8x8192x2x64, .f32⟩
  | .hbm, ⟨3, _⟩ => ⟨S8x256x2x64, .f32⟩
  | .hbm, ⟨4, _⟩ => ⟨S8x256x2x64, .f32⟩
  | .hbm, ⟨5, _⟩ => ⟨S6, .f32⟩
  | .hbm, ⟨6, _⟩ => ⟨S65536x384, .f32⟩
  | .hbm, ⟨7, _⟩ => ⟨S_, .f32⟩
  | .hbm, ⟨8, _⟩ => ⟨S65536x384, .f32⟩
  | .hbm, ⟨9, _⟩ => ⟨S65536x384, .f32⟩
  | .hbm, ⟨10, _⟩ => ⟨S65536x384, .bf16⟩
  | .hbm, ⟨11, _⟩ => ⟨S8x8192x128, .f32⟩
  | .hbm, ⟨12, _⟩ => ⟨S8x8192x128, .bf16⟩
  | .hbm, ⟨13, _⟩ => ⟨S8x8192x128, .f32⟩
  | .hbm, ⟨14, _⟩ => ⟨S8x8192x128, .bf16⟩
  | .hbm, ⟨15, _⟩ => ⟨S8x256x128, .f32⟩
  | .hbm, ⟨16, _⟩ => ⟨S8x256x128, .bf16⟩
  | .hbm, ⟨17, _⟩ => ⟨S8x256x128, .f32⟩
  | .hbm, ⟨18, _⟩ => ⟨S8x256x128, .bf16⟩
  | .hbm, ⟨19, _⟩ => ⟨S65536x384, .bf16⟩
  | .local _ .vmem, ⟨0, _⟩ => ⟨S256x384, .bf16⟩
  | .local _ .vmem, ⟨1, _⟩ => ⟨S256x384, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x256x128, .bf16⟩
  | .local _ .vmem, ⟨19, _⟩ => ⟨S1x256x128, .bf16⟩
  | .local _ .vmem, ⟨20, _⟩ => ⟨S1x256x128, .bf16⟩
  | .local _ .vmem, ⟨21, _⟩ => ⟨S1x256x128, .bf16⟩
  | .local _ .vmem, ⟨22, _⟩ => ⟨S256x384, .bf16⟩
  | .local _ .vmem, ⟨23, _⟩ => ⟨S256x384, .bf16⟩
  | .local _ .smem, ⟨0, _⟩ => ⟨S6, .f32⟩
  | _, _ => ⟨S8x8192x6x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  ![arg0.toNat, v4.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  ![arg0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c2_i32_0 : BitVec 32 := 2#32
  let v2 : BitVec 32 := Scalar.addi v1 c2_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  ![arg0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![arg0.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c63_i32 : BitVec 32 := 63#32
  let v3 : BitVec 32 := Scalar.maxsi c0_i32_0 v2
  let v4 : BitVec 32 := Scalar.minsi c63_i32 v3
  let c0_i32_1 : BitVec 32 := 0#32
  let c0_i32_2 : BitVec 32 := 0#32
  ![arg0.toNat, v4.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  ![arg0.toNat, v4.toNat, c0_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c2_i32_0 : BitVec 32 := 2#32
  let v2 : BitVec 32 := Scalar.addi v1 c2_i32_0
  let c0_i32 : BitVec 32 := 0#32
  let c63_i32 : BitVec 32 := 63#32
  let v3 : BitVec 32 := Scalar.maxsi c0_i32 v2
  let v4 : BitVec 32 := Scalar.minsi c63_i32 v3
  let c0_i32_1 : BitVec 32 := 0#32
  let c0_i32_2 : BitVec 32 := 0#32
  ![arg0.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c63_i32 : BitVec 32 := 63#32
  let v3 : BitVec 32 := Scalar.maxsi c0_i32 v2
  let v4 : BitVec 32 := Scalar.minsi c63_i32 v3
  let c0_i32_0 : BitVec 32 := 0#32
  let c0_i32_1 : BitVec 32 := 0#32
  ![arg0.toNat, v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x8192x6x64 : Shape := ⟨4, ![8, 8192, 6, 64]⟩
abbrev S8x8192x2x64 : Shape := ⟨4, ![8, 8192, 2, 64]⟩
abbrev S8x256x2x64 : Shape := ⟨4, ![8, 256, 2, 64]⟩
abbrev S6 : Shape := ⟨1, ![6]⟩
abbrev S8x8192x2x3x64 : Shape := ⟨5, ![8, 8192, 2, 3, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x2x8192x8192x3 : Shape := ⟨5, ![8, 2, 8192, 8192, 3]⟩
abbrev S8x2x3x8192x8192 : Shape := ⟨5, ![8, 2, 3, 8192, 8192]⟩
abbrev S8x2x256x8192x3 : Shape := ⟨5, ![8, 2, 256, 8192, 3]⟩
abbrev S8x2x3x8192x256 : Shape := ⟨5, ![8, 2, 3, 8192, 256]⟩
abbrev S1x2x3x1x1 : Shape := ⟨5, ![1, 2, 3, 1, 1]⟩
abbrev S8x2x3x8192x1 : Shape := ⟨5, ![8, 2, 3, 8192, 1]⟩
abbrev S8x2x3x8192x8449 : Shape := ⟨5, ![8, 2, 3, 8192, 8449]⟩
abbrev S8x2x3x8192 : Shape := ⟨4, ![8, 2, 3, 8192]⟩
abbrev S8x2x64x3x8192 : Shape := ⟨5, ![8, 2, 64, 3, 8192]⟩
abbrev S65536x384 : Shape := ⟨2, ![65536, 384]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x6x64, .f32⟩
  | .hbm, ⟨1, _⟩ => ⟨S8x8192x2x64, .f32⟩
  | .hbm, ⟨2, _⟩ => ⟨S8x8192x2x64, .f32⟩
  | .hbm, ⟨3, _⟩ => ⟨S8x256x2x64, .f32⟩
  | .hbm, ⟨4, _⟩ => ⟨S8x256x2x64, .f32⟩
  | .hbm, ⟨5, _⟩ => ⟨S6, .f32⟩
  | .hbm, ⟨6, _⟩ => ⟨S8x8192x2x3x64, .f32⟩
  | .hbm, ⟨7, _⟩ => ⟨S8192, .i32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S_, .i32⟩
  | .hbm, ⟨15, _⟩ => ⟨S8192x8192, .i32⟩
  | .hbm, ⟨16, _⟩ => ⟨S8192x8192, .i1⟩
  | .hbm, ⟨17, _⟩ => ⟨S8x2x8192x8192x3, .f32⟩
  | .hbm, ⟨18, _⟩ => ⟨S8x2x3x8192x8192, .f32⟩
  | .hbm, ⟨19, _⟩ => ⟨S_, .f32⟩
  | .hbm, ⟨20, _⟩ => ⟨S8x2x3x8192x8192, .f32⟩
  | .hbm, ⟨21, _⟩ => ⟨S8x2x3x8192x8192, .f32⟩
  | .hbm, ⟨22, _⟩ => ⟨S_, .f32⟩
  | .hbm, ⟨23, _⟩ => ⟨S_, .f32⟩
  | .hbm, ⟨24, _⟩ => ⟨S8x2x3x8192x8192, .i1⟩
  | .hbm, ⟨25, _⟩ => ⟨S8x2x3x8192x8192, .f32⟩
  | .hbm, ⟨26, _⟩ => ⟨S8x2x3x8192x8192, .f32⟩
  | .hbm, ⟨27, _⟩ => ⟨S8x2x256x8192x3, .f32⟩
  | .hbm, ⟨28, _⟩ => ⟨S8x2x3x8192x256, .f32⟩
  | .hbm, ⟨29, _⟩ => ⟨S_, .f32⟩
  | .hbm, ⟨30, _⟩ => ⟨S8x2x3x8192x256, .f32⟩
  | .hbm, ⟨31, _⟩ => ⟨S8x2x3x8192x256, .f32⟩
  | .hbm, ⟨32, _⟩ => ⟨S1x2x3x1x1, .f32⟩
  | .hbm, ⟨33, _⟩ => ⟨S8x2x3x8192x1, .f32⟩
  | .hbm, ⟨34, _⟩ => ⟨S8x2x3x8192x8449, .f32⟩
  | .hbm, ⟨35, _⟩ => ⟨S_, .f32⟩
  | .hbm, ⟨36, _⟩ => ⟨S8x2x3x8192, .f32⟩
  | .hbm, ⟨37, _⟩ => ⟨S_, .f32⟩
  | .hbm, ⟨38, _⟩ => ⟨S8x2x3x8192, .f32⟩
  | .hbm, ⟨39, _⟩ => ⟨S8x2x3x8192, .f32⟩
  | .hbm, ⟨40, _⟩ => ⟨S8x2x3x8192x1, .f32⟩
  | .hbm, ⟨41, _⟩ => ⟨S8x2x3x8192x8449, .f32⟩
  | .hbm, ⟨42, _⟩ => ⟨S8x2x3x8192x8449, .f32⟩
  | .hbm, ⟨43, _⟩ => ⟨S8x2x3x8192x8449, .f32⟩
  | .hbm, ⟨44, _⟩ => ⟨S_, .f32⟩
  | .hbm, ⟨45, _⟩ => ⟨S8x2x3x8192, .f32⟩
  | .hbm, ⟨46, _⟩ => ⟨S8x2x3x8192x1, .f32⟩
  | .hbm, ⟨47, _⟩ => ⟨S8x2x3x8192x8449, .f32⟩
  | .hbm, ⟨48, _⟩ => ⟨S8x2x3x8192x8449, .f32⟩
  | .hbm, ⟨49, _⟩ => ⟨S8x2x3x8192x8192, .f32⟩
  | .hbm, ⟨50, _⟩ => ⟨S8x2x64x3x8192, .f32⟩
  | .hbm, ⟨51, _⟩ => ⟨S8x8192x2x3x64, .f32⟩
  | .hbm, ⟨52, _⟩ => ⟨S8x2x3x8192x256, .f32⟩
  | .hbm, ⟨53, _⟩ => ⟨S8x2x64x3x8192, .f32⟩
  | .hbm, ⟨54, _⟩ => ⟨S8x8192x2x3x64, .f32⟩
  | .hbm, ⟨55, _⟩ => ⟨S8x8192x2x3x64, .f32⟩
  | .hbm, ⟨56, _⟩ => ⟨S65536x384, .f32⟩
  | .hbm, ⟨57, _⟩ => ⟨S65536x384, .bf16⟩
  | _, _ => ⟨S8x8192x6x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proj.lean ====
abbrev S8x8192x1024 : Shape := ⟨3, ![8, 8192, 1024]⟩
abbrev S8x1024 : Shape := ⟨2, ![8, 1024]⟩
abbrev S1024x2304 : Shape := ⟨2, ![1024, 2304]⟩
abbrev S8192 : Shape := ⟨1, ![8192]⟩
abbrev S_ : Shape := ⟨0, ![]⟩
abbrev S16 : Shape := ⟨1, ![16]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S128x1 : Shape := ⟨2, ![128, 1]⟩
abbrev S65536x1024 : Shape := ⟨2, ![65536, 1024]⟩
abbrev S8x1x1024 : Shape := ⟨3, ![8, 1, 1024]⟩
abbrev S65536x256 : Shape := ⟨2, ![65536, 256]⟩
abbrev S65536x384 : Shape := ⟨2, ![65536, 384]⟩
abbrev S65536x128 : Shape := ⟨2, ![65536, 128]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S512x384 : Shape := ⟨2, ![512, 384]⟩
abbrev S1x1024 : Shape := ⟨2, ![1, 1024]⟩
abbrev S1024x256 : Shape := ⟨2, ![1024, 256]⟩
abbrev S1024x384 : Shape := ⟨2, ![1024, 384]⟩
abbrev S1024x128 : Shape := ⟨2, ![1024, 128]⟩

abbrev nBuf : Space → Nat
  | .hbm => 172
  | .vmem => 27
  | .smem => 0
  | _ => 0

abbrev hbmTy0_0 (i : Nat) : BufTy := match i % 128 with
  | 0 => ⟨S8x8192x1024, .f32⟩
  | 1 => ⟨S8x1024, .f32⟩
  | 2 => ⟨S8x1024, .f32⟩
  | 3 => ⟨S1024x2304, .f32⟩
  | 4 => ⟨S8192, .i32⟩
  | 5 => ⟨S_, .i32⟩
  | 6 => ⟨S_, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S8192, .i32⟩
  | 14 => ⟨S8192, .i32⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S8192, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i1⟩
  | 37 => ⟨S_, .i32⟩
  | 38 => ⟨S_, .i1⟩
  | 39 => ⟨S8192, .i1⟩
  | 40 => ⟨S8192, .i1⟩
  | 41 => ⟨S8192, .i1⟩
  | 42 => ⟨S8192, .i32⟩
  | 43 => ⟨S8192, .i32⟩
  | 44 => ⟨S8192, .i32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S128, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S128, .i32⟩
  | 61 => ⟨S128, .i32⟩
  | 62 => ⟨S_, .i32⟩
  | 63 => ⟨S128, .i32⟩
  | 64 => ⟨S128, .i1⟩
  | 65 => ⟨S_, .i32⟩
  | 66 => ⟨S128, .i32⟩
  | 67 => ⟨S128, .i1⟩
  | 68 => ⟨S_, .i32⟩
  | 69 => ⟨S_, .i1⟩
  | 70 => ⟨S128, .i1⟩
  | 71 => ⟨S128, .i1⟩
  | 72 => ⟨S128, .i1⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S1x128, .i1⟩
  | 80 => ⟨S8192x1, .i32⟩
  | 81 => ⟨S8192x1, .i32⟩
  | 82 => ⟨S8192x128, .i1⟩
  | 83 => ⟨S8192x128, .i32⟩
  | 84 => ⟨S8192x128, .i32⟩
  | 85 => ⟨S8192x128, .i32⟩
  | 86 => ⟨S8192x128, .f32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S128, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i1⟩
  | 101 => ⟨S_, .i32⟩
  | 102 => ⟨S_, .i1⟩
  | 103 => ⟨S128, .i1⟩
  | 104 => ⟨S128, .i1⟩
  | 105 => ⟨S128, .i1⟩
  | 106 => ⟨S128, .i32⟩
  | 107 => ⟨S128, .i32⟩
  | 108 => ⟨S128, .i32⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S128, .f32⟩
  | 118 => ⟨S1x128, .f32⟩
  | 119 => ⟨S8192x128, .f32⟩
  | 120 => ⟨S8192x128, .f32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S128, .i32⟩
  | _ => ⟨S8x8192x1024, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S_, .i32⟩
  | 5 => ⟨S128, .i32⟩
  | 6 => ⟨S128, .i1⟩
  | 7 => ⟨S_, .i32⟩
  | 8 => ⟨S_, .i1⟩
  | 9 => ⟨S128, .i1⟩
  | 10 => ⟨S128, .i1⟩
  | 11 => ⟨S128, .i1⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S_, .f32⟩
  | 19 => ⟨S_, .f32⟩
  | 20 => ⟨S128, .f32⟩
  | 21 => ⟨S128, .f32⟩
  | 22 => ⟨S128, .f32⟩
  | 23 => ⟨S128, .f32⟩
  | 24 => ⟨S8192x128, .f32⟩
  | 25 => ⟨S8192x128, .f32⟩
  | 26 => ⟨S1x128, .f32⟩
  | 27 => ⟨S8192x128, .f32⟩
  | 28 => ⟨S8192x128, .f32⟩
  | 29 => ⟨S65536x1024, .f32⟩
  | 30 => ⟨S8x1x1024, .f32⟩
  | 31 => ⟨S_, .f32⟩
  | 32 => ⟨S8x1x1024, .f32⟩
  | 33 => ⟨S8x1x1024, .f32⟩
  | 34 => ⟨S8x1x1024, .f32⟩
  | 35 => ⟨S1024x2304, .bf16⟩
  | 36 => ⟨S65536x256, .f32⟩
  | 37 => ⟨S65536x256, .f32⟩
  | 38 => ⟨S65536x384, .bf16⟩
  | 39 => ⟨S65536x384, .bf16⟩
  | 40 => ⟨S65536x384, .bf16⟩
  | 41 => ⟨S65536x128, .bf16⟩
  | 42 => ⟨S65536x128, .bf16⟩
  | 43 => ⟨S65536x384, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2304, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x384, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S512x384, .bf16⟩
  | .local _ .vmem, ⟨26, _⟩ => ⟨S512x384, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_cst_1 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v10 : Ref sig .tc := ⟨.hbm, 75, rfl⟩
abbrev main_c_3 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v16 : Ref sig .tc := ⟨.hbm, 85, rfl⟩
abbrev main_v17 : Ref sig .tc := ⟨.hbm, 86, rfl⟩
abbrev main_c_4 : Ref sig .tc := ⟨.hbm, 87, rfl⟩
abbrev main_call4_v0 : Ref sig .tc := ⟨.hbm, 88, rfl⟩
abbrev main_call4_c : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_1 : Ref sig .tc := ⟨.hbm, 95, rfl⟩
abbrev main_call4_v5 : Ref sig .tc := ⟨.hbm, 96, rfl⟩
abbrev main_call4_v6 : Ref sig .tc := ⟨.hbm, 97, rfl⟩
abbrev main_call4_c_2 : Ref sig .tc := ⟨.hbm, 98, rfl⟩
abbrev main_call4_v7 : Ref sig .tc := ⟨.hbm, 99, rfl⟩
abbrev main_call4_v8 : Ref sig .tc := ⟨.hbm, 100, rfl⟩
abbrev main_call4_c_3 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_v12 : Ref sig .tc := ⟨.hbm, 105, rfl⟩
abbrev main_call4_v13 : Ref sig .tc := ⟨.hbm, 106, rfl⟩
abbrev main_call4_v14 : Ref sig .tc := ⟨.hbm, 107, rfl⟩
abbrev main_v18 : Ref sig .tc := ⟨.hbm, 108, rfl⟩
abbrev main_c_5 : Ref sig .tc := ⟨.hbm, 109, rfl⟩
abbrev main_v19 : Ref sig .tc := ⟨.hbm, 110, rfl⟩
abbrev main_v20 : Ref sig .tc := ⟨.hbm, 111, rfl⟩
abbrev main_c_6 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_v27 : Ref sig .tc := ⟨.hbm, 119, rfl⟩
abbrev main_v28 : Ref sig .tc := ⟨.hbm, 120, rfl⟩
abbrev main_c_7 : Ref sig .tc := ⟨.hbm, 121, rfl⟩
abbrev main_call5_v0 : Ref sig .tc := ⟨.hbm, 122, rfl⟩
abbrev main_call5_c : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_c_1 : Ref sig .tc := ⟨.hbm, 129, rfl⟩
abbrev main_call5_v5 : Ref sig .tc := ⟨.hbm, 130, rfl⟩
abbrev main_call5_v6 : Ref sig .tc := ⟨.hbm, 131, rfl⟩
abbrev main_call5_c_2 : Ref sig .tc := ⟨.hbm, 132, rfl⟩
abbrev main_call5_v7 : Ref sig .tc := ⟨.hbm, 133, rfl⟩
abbrev main_call5_v8 : Ref sig .tc := ⟨.hbm, 134, rfl⟩
abbrev main_call5_c_3 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_v29 : Ref sig .tc := ⟨.hbm, 142, rfl⟩
abbrev main_c_8 : Ref sig .tc := ⟨.hbm, 143, rfl⟩
abbrev main_v30 : Ref sig .tc := ⟨.hbm, 144, rfl⟩
abbrev main_v31 : Ref sig .tc := ⟨.hbm, 145, rfl⟩
abbrev main_cst_9 : Ref sig .tc := ⟨.hbm, 146, rfl⟩
abbrev main_cst_10 : Ref sig .tc := ⟨.hbm, 147, rfl⟩
abbrev main_call6_v0 : Ref sig .tc := ⟨.hbm, 148, rfl⟩
abbrev main_call6_v1 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_cst_11 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_v44 : Ref sig .tc := ⟨.hbm, 163, rfl⟩
abbrev main_v45_0 : Ref sig .tc := ⟨.hbm, 164, rfl⟩
abbrev main_v45_1 : Ref sig .tc := ⟨.hbm, 165, rfl⟩
abbrev main_v45_2 : Ref sig .tc := ⟨.hbm, 166, rfl⟩
abbrev main_v45_3 : Ref sig .tc := ⟨.hbm, 167, rfl⟩
abbrev main_v45_4 : Ref sig .tc := ⟨.hbm, 168, rfl⟩
abbrev main_v45_5 : Ref sig .tc := ⟨.hbm, 169, rfl⟩
abbrev main_v45_6 : Ref sig .tc := ⟨.hbm, 170, rfl⟩
abbrev main_v45_7 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S8x8192x1024 : Shape := ⟨3, ![8, 8192, 1024]⟩
abbrev S8x1024 : Shape := ⟨2, ![8, 1024]⟩
abbrev S1024x2304 : Shape := ⟨2, ![1024, 2304]⟩
abbrev S8192 : Shape := ⟨1, ![8192]⟩
abbrev S_ : Shape := ⟨0, ![]⟩
abbrev S8x1x1024 : Shape := ⟨3, ![8, 1, 1024]⟩
abbrev S8x8192x2304 : Shape := ⟨3, ![8, 8192, 2304]⟩
abbrev S8x8192x256 : Shape := ⟨3, ![8, 8192, 256]⟩
abbrev S8x8192x384 : Shape := ⟨3, ![8, 8192, 384]⟩
abbrev S8x8192x128 : Shape := ⟨3, ![8, 8192, 128]⟩
abbrev S65536x256 : Shape := ⟨2, ![65536, 256]⟩
abbrev S65536x384 : Shape := ⟨2, ![65536, 384]⟩
abbrev S8x8192x2x64 : Shape := ⟨4, ![8, 8192, 2, 64]⟩
abbrev S16 : Shape := ⟨1, ![16]⟩
abbrev S8x8192x2x32 : Shape := ⟨4, ![8, 8192, 2, 32]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S8x8192x2x16 : Shape := ⟨4, ![8, 8192, 2, 16]⟩
abbrev S65536x128 : Shape := ⟨2, ![65536, 128]⟩
abbrev S8x8192x6x64 : Shape := ⟨4, ![8, 8192, 6, 64]⟩
abbrev S8x8192x6x32 : Shape := ⟨4, ![8, 8192, 6, 32]⟩
abbrev S8x8192x6x16 : Shape := ⟨4, ![8, 8192, 6, 16]⟩

abbrev nBuf : Space → Nat
  | .hbm => 201
  | .vmem => 0
  | .smem => 0
  | _ => 0

abbrev hbmTy0_0 (i : Nat) : BufTy := match i % 128 with
  | 0 => ⟨S8x8192x1024, .f32⟩
  | 1 => ⟨S8x1024, .f32⟩
  | 2 => ⟨S8x1024, .f32⟩
  | 3 => ⟨S1024x2304, .f32⟩
  | 4 => ⟨S8192, .i32⟩
  | 5 => ⟨S_, .i32⟩
  | 6 => ⟨S_, .i32⟩
  | 7 => ⟨S8192, .i32⟩
  | 8 => ⟨S8192, .i32⟩
  | 9 => ⟨S8192, .i32⟩
  | 10 => ⟨S_, .i32⟩
  | 11 => ⟨S8192, .i32⟩
  | 12 => ⟨S8192, .i1⟩
  | 13 => ⟨S8192, .i32⟩
  | 14 => ⟨S8192, .i32⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S8192, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i1⟩
  | 37 => ⟨S_, .i32⟩
  | 38 => ⟨S_, .i1⟩
  | 39 => ⟨S8192, .i1⟩
  | 40 => ⟨S8192, .i1⟩
  | 41 => ⟨S8192, .i1⟩
  | 42 => ⟨S8192, .i32⟩
  | 43 => ⟨S8192, .i32⟩
  | 44 => ⟨S8192, .i32⟩
  | 45 => ⟨S8x1x1024, .f32⟩
  | 46 => ⟨S_, .f32⟩
  | 47 => ⟨S8x1x1024, .f32⟩
  | 48 => ⟨S8x1x1024, .f32⟩
  | 49 => ⟨S8x8192x1024, .f32⟩
  | 50 => ⟨S8x8192x1024, .f32⟩
  | 51 => ⟨S8x1x1024, .f32⟩
  | 52 => ⟨S8x8192x1024, .f32⟩
  | 53 => ⟨S8x8192x1024, .f32⟩
  | 54 => ⟨S8x8192x2304, .f32⟩
  | 55 => ⟨S8x8192x256, .f32⟩
  | 56 => ⟨S8x8192x384, .f32⟩
  | 57 => ⟨S8x8192x384, .f32⟩
  | 58 => ⟨S8x8192x128, .f32⟩
  | 59 => ⟨S8x8192x128, .f32⟩
  | 60 => ⟨S8x8192x256, .f32⟩
  | 61 => ⟨S8x8192x384, .f32⟩
  | 62 => ⟨S8x8192x384, .f32⟩
  | 63 => ⟨S65536x256, .f32⟩
  | 64 => ⟨S65536x256, .f32⟩
  | 65 => ⟨S65536x384, .f32⟩
  | 66 => ⟨S65536x384, .bf16⟩
  | 67 => ⟨S65536x384, .f32⟩
  | 68 => ⟨S65536x384, .bf16⟩
  | 69 => ⟨S65536x384, .f32⟩
  | 70 => ⟨S_, .f32⟩
  | 71 => ⟨S65536x384, .f32⟩
  | 72 => ⟨S65536x384, .f32⟩
  | 73 => ⟨S65536x384, .bf16⟩
  | 74 => ⟨S8x8192x2x64, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S8x8192x2x32, .f32⟩
  | 84 => ⟨S8192x1, .i32⟩
  | 85 => ⟨S8192x1, .f32⟩
  | 86 => ⟨S1x16, .f32⟩
  | 87 => ⟨S8192x16, .f32⟩
  | 88 => ⟨S8192x16, .f32⟩
  | 89 => ⟨S8192x16, .f32⟩
  | 90 => ⟨S8192x16, .f32⟩
  | 91 => ⟨S1x8192x1x16, .f32⟩
  | 92 => ⟨S8192x16, .f32⟩
  | 93 => ⟨S1x8192x1x16, .f32⟩
  | 94 => ⟨S8x8192x2x16, .f32⟩
  | 95 => ⟨S8x8192x2x16, .f32⟩
  | 96 => ⟨S8x8192x2x16, .f32⟩
  | 97 => ⟨S8x8192x2x16, .f32⟩
  | 98 => ⟨S8x8192x2x16, .f32⟩
  | 99 => ⟨S8x8192x2x16, .f32⟩
  | 100 => ⟨S8x8192x2x16, .f32⟩
  | 101 => ⟨S8x8192x2x16, .f32⟩
  | 102 => ⟨S8x8192x2x16, .f32⟩
  | 103 => ⟨S8x8192x2x16, .f32⟩
  | 104 => ⟨S8x8192x2x16, .f32⟩
  | 105 => ⟨S8x8192x2x16, .f32⟩
  | 106 => ⟨S8x8192x2x32, .f32⟩
  | 107 => ⟨S8x8192x2x32, .f32⟩
  | 108 => ⟨S8192x1, .i32⟩
  | 109 => ⟨S8192x1, .f32⟩
  | 110 => ⟨S1x16, .f32⟩
  | 111 => ⟨S8192x16, .f32⟩
  | 112 => ⟨S8192x16, .f32⟩
  | 113 => ⟨S8192x16, .f32⟩
  | 114 => ⟨S8192x16, .f32⟩
  | 115 => ⟨S1x8192x1x16, .f32⟩
  | 116 => ⟨S8192x16, .f32⟩
  | 117 => ⟨S1x8192x1x16, .f32⟩
  | 118 => ⟨S8x8192x2x16, .f32⟩
  | 119 => ⟨S8x8192x2x16, .f32⟩
  | 120 => ⟨S8x8192x2x16, .f32⟩
  | 121 => ⟨S8x8192x2x16, .f32⟩
  | 122 => ⟨S8x8192x2x16, .f32⟩
  | 123 => ⟨S8x8192x2x16, .f32⟩
  | 124 => ⟨S8x8192x2x16, .f32⟩
  | 125 => ⟨S8x8192x2x16, .f32⟩
  | 126 => ⟨S8x8192x2x16, .f32⟩
  | 127 => ⟨S8x8192x2x16, .f32⟩
  | _ => ⟨S8x8192x1024, .f32⟩

abbrev hbmTy0_1 (i : Nat) : BufTy := match i % 128 with
  | 0 => ⟨S8x8192x2x16, .f32⟩
  | 1 => ⟨S8x8192x2x16, .f32⟩
  | 2 => ⟨S8x8192x2x32, .f32⟩
  | 3 => ⟨S8x8192x2x64, .f32⟩
  | 4 => ⟨S8x8192x128, .f32⟩
  | 5 => ⟨S65536x128, .f32⟩
  | 6 => ⟨S65536x128, .bf16⟩
  | 7 => ⟨S65536x128, .f32⟩
  | 8 => ⟨S65536x128, .bf16⟩
  | 9 => ⟨S8x8192x6x64, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S8x8192x6x32, .f32⟩
  | 19 => ⟨S8192x1, .i32⟩
  | 20 => ⟨S8192x1, .f32⟩
  | 21 => ⟨S1x16, .f32⟩
  | 22 => ⟨S8192x16, .f32⟩
  | 23 => ⟨S8192x16, .f32⟩
  | 24 => ⟨S8192x16, .f32⟩
  | 25 => ⟨S8192x16, .f32⟩
  | 26 => ⟨S1x8192x1x16, .f32⟩
  | 27 => ⟨S8192x16, .f32⟩
  | 28 => ⟨S1x8192x1x16, .f32⟩
  | 29 => ⟨S8x8192x6x16, .f32⟩
  | 30 => ⟨S8x8192x6x16, .f32⟩
  | 31 => ⟨S8x8192x6x16, .f32⟩
  | 32 => ⟨S8x8192x6x16, .f32⟩
  | 33 => ⟨S8x8192x6x16, .f32⟩
  | 34 => ⟨S8x8192x6x16, .f32⟩
  | 35 => ⟨S8x8192x6x16, .f32⟩
  | 36 => ⟨S8x8192x6x16, .f32⟩
  | 37 => ⟨S8x8192x6x16, .f32⟩
  | 38 => ⟨S8x8192x6x16, .f32⟩
  | 39 => ⟨S8x8192x6x16, .f32⟩
  | 40 => ⟨S8x8192x6x16, .f32⟩
  | 41 => ⟨S8x8192x6x32, .f32⟩
  | 42 => ⟨S8x8192x6x32, .f32⟩
  | 43 => ⟨S8192x1, .i32⟩
  | 44 => ⟨S8192x1, .f32⟩
  | 45 => ⟨S1x16, .f32⟩
  | 46 => ⟨S8192x16, .f32⟩
  | 47 => ⟨S8192x16, .f32⟩
  | 48 => ⟨S8192x16, .f32⟩
  | 49 => ⟨S8192x16, .f32⟩
  | 50 => ⟨S1x8192x1x16, .f32⟩
  | 51 => ⟨S8192x16, .f32⟩
  | 52 => ⟨S1x8192x1x16, .f32⟩
  | 53 => ⟨S8x8192x6x16, .f32⟩
  | 54 => ⟨S8x8192x6x16, .f32⟩
  | 55 => ⟨S8x8192x6x16, .f32⟩
  | 56 => ⟨S8x8192x6x16, .f32⟩
  | 57 => ⟨S8x8192x6x16, .f32⟩
  | 58 => ⟨S8x8192x6x16, .f32⟩
  | 59 => ⟨S8x8192x6x16, .f32⟩
  | 60 => ⟨S8x8192x6x16, .f32⟩
  | 61 => ⟨S8x8192x6x16, .f32⟩
  | 62 => ⟨S8x8192x6x16, .f32⟩
  | 63 => ⟨S8x8192x6x16, .f32⟩
  | 64 => ⟨S8x8192x6x16, .f32⟩
  | 65 => ⟨S8x8192x6x32, .f32⟩
  | 66 => ⟨S8x8192x6x64, .f32⟩
  | 67 => ⟨S8x8192x384, .f32⟩
  | 68 => ⟨S65536x384, .f32⟩
  | 69 => ⟨S_, .f32⟩
  | 70 => ⟨S65536x384, .f32⟩
  | 71 => ⟨S65536x384, .f32⟩
  | 72 => ⟨S65536x384, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_cst : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_4 : Ref sig .tc := ⟨.hbm, 140, rfl⟩
abbrev main_v94 : Ref sig .tc := ⟨.hbm, 141, rfl⟩
abbrev main_v95 : Ref sig .tc := ⟨.hbm, 142, rfl⟩
abbrev main_cst_5 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_6 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩

abbrev nD : Nat := 1
abbrev τ : Topo := Topo.v7x

variable {F : FTy → Type} [FloatOps F]
-- ==== Experts.lean ====
abbrev S151552x1024 : Shape := ⟨2, ![151552, 1024]⟩
abbrev S296 : Shape := ⟨1, ![296]⟩
abbrev S1 : Shape := ⟨1, ![1]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S151552x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S151552x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S296, .i32⟩
  | .local _ .smem, ⟨1, _⟩ => ⟨S1, .i32⟩
  | _, _ => ⟨S151552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S151552x1024 : Shape := ⟨2, ![151552, 1024]⟩
abbrev S296 : Shape := ⟨1, ![296]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S296x1x1 : Shape := ⟨3, ![296, 1, 1]⟩
abbrev S296x512x1024 : Shape := ⟨3, ![296, 512, 1024]⟩
abbrev S296x1 : Shape := ⟨2, ![296, 1]⟩
abbrev S296x3 : Shape := ⟨2, ![296, 3]⟩
abbrev S296x1x1024x512 : Shape := ⟨4, ![296, 1, 1024, 512]⟩
abbrev S296x1024x512 : Shape := ⟨3, ![296, 1024, 512]⟩
abbrev S296x512x512 : Shape := ⟨3, ![296, 512, 512]⟩
abbrev S296x1x512x1024 : Shape := ⟨4, ![296, 1, 512, 1024]⟩

abbrev nBuf : Space → Nat
  | .hbm => 118
  | .vmem => 0
  | .smem => 0
  | _ => 0

abbrev bufTy : (tb : Table) → Fin (tcTables nBuf tb) → BufTy
  | .hbm, ⟨0, _⟩ => ⟨S151552x1024, .f32⟩
  | .hbm, ⟨1, _⟩ => ⟨S296, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S296, .i32⟩
  | .hbm, ⟨7, _⟩ => ⟨S_, .i32⟩
  | .hbm, ⟨8, _⟩ => ⟨S296, .i32⟩
  | .hbm, ⟨9, _⟩ => ⟨S296, .i1⟩
  | .hbm, ⟨10, _⟩ => ⟨S296x1x1, .i1⟩
  | .hbm, ⟨11, _⟩ => ⟨S296x512x1024, .f32⟩
  | .hbm, ⟨12, _⟩ => ⟨S_, .f32⟩
  | .hbm, ⟨13, _⟩ => ⟨S_, .f32⟩
  | .hbm, ⟨14, _⟩ => ⟨S296x512x1024, .i1⟩
  | .hbm, ⟨15, _⟩ => ⟨S296x512x1024, .f32⟩
  | .hbm, ⟨16, _⟩ => ⟨S296x512x1024, .f32⟩
  | .hbm, ⟨17, _⟩ => ⟨S_, .i32⟩
  | .hbm, ⟨18, _⟩ => ⟨S296, .i32⟩
  | .hbm, ⟨19, _⟩ => ⟨S296, .i1⟩
  | .hbm, ⟨20, _⟩ => ⟨S_, .i32⟩
  | .hbm, ⟨21, _⟩ => ⟨S296, .i32⟩
  | .hbm, ⟨22, _⟩ => ⟨S296, .i32⟩
  | .hbm, ⟨23, _⟩ => ⟨S296, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S296x1, .i32⟩
  | .hbm, ⟨41, _⟩ => ⟨S296x1, .i32⟩
  | .hbm, ⟨42, _⟩ => ⟨S296x1, .i32⟩
  | .hbm, ⟨43, _⟩ => ⟨S296x3, .i32⟩
  | .hbm, ⟨44, _⟩ => ⟨S296x1x1024x512, .f32⟩
  | .hbm, ⟨45, _⟩ => ⟨S296x1024x512, .f32⟩
  | .hbm, ⟨46, _⟩ => ⟨S296x512x512, .f32⟩
  | .hbm, ⟨47, _⟩ => ⟨S296x512x512, .f32⟩
  | .hbm, ⟨48, _⟩ => ⟨S296x512x512, .f32⟩
  | .hbm, ⟨49, _⟩ => ⟨S_, .f32⟩
  | .hbm, ⟨50, _⟩ => ⟨S296x512x512, .f32⟩
  | .hbm, ⟨51, _⟩ => ⟨S296x512x512, .f32⟩
  | .hbm, ⟨52, _⟩ => ⟨S_, .f32⟩
  | .hbm, ⟨53, _⟩ => ⟨S296x512x512, .f32⟩
  | .hbm, ⟨54, _⟩ => ⟨S296x512x512, .f32⟩
  | .hbm, ⟨55, _⟩ => ⟨S296x512x512, .f32⟩
  | .hbm, ⟨56, _⟩ => ⟨S_, .i32⟩
  | .hbm, ⟨57, _⟩ => ⟨S296, .i32⟩
  | .hbm, ⟨58, _⟩ => ⟨S296, .i1⟩
  | .hbm, ⟨59, _⟩ => ⟨S_, .i32⟩
  | .hbm, ⟨60, _⟩ => ⟨S296, .i32⟩
  | .hbm, ⟨61, _⟩ => ⟨S296, .i32⟩
  | .hbm, ⟨62, _⟩ => ⟨S296, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S296x1, .i32⟩
  | .hbm, ⟨80, _⟩ => ⟨S296x1, .i32⟩
  | .hbm, ⟨81, _⟩ => ⟨S296x1, .i32⟩
  | .hbm, ⟨82, _⟩ => ⟨S296x3, .i32⟩
  | .hbm, ⟨83, _⟩ => ⟨S296x1x1024x512, .f32⟩
  | .hbm, ⟨84, _⟩ => ⟨S296x1024x512, .f32⟩
  | .hbm, ⟨85, _⟩ => ⟨S296x512x512, .f32⟩
  | .hbm, ⟨86, _⟩ => ⟨S296x512x512, .f32⟩
  | .hbm, ⟨87, _⟩ => ⟨S_, .i32⟩
  | .hbm, ⟨88, _⟩ => ⟨S296, .i32⟩
  | .hbm, ⟨89, _⟩ => ⟨S296, .i1⟩
  | .hbm, ⟨90, _⟩ => ⟨S_, .i32⟩
  | .hbm, ⟨91, _⟩ => ⟨S296, .i32⟩
  | .hbm, ⟨92, _⟩ => ⟨S296, .i32⟩
  | .hbm, ⟨93, _⟩ => ⟨S296, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S296x1, .i32⟩
  | .hbm, ⟨111, _⟩ => ⟨S296x1, .i32⟩
  | .hbm, ⟨112, _⟩ => ⟨S296x1, .i32⟩
  | .hbm, ⟨113, _⟩ => ⟨S296x3, .i32⟩
  | .hbm, ⟨114, _⟩ => ⟨S296x1x512x1024, .f32⟩
  | .hbm, ⟨115, _⟩ => ⟨S296x512x1024, .f32⟩
  | .hbm, ⟨116, _⟩ => ⟨S296x512x1024, .f32⟩
  | .hbm, ⟨117, _⟩ => ⟨S151552x1024, .f32⟩
  | _, _ => ⟨S151552x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_c_4 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_c_6 : Ref sig .tc := ⟨.hbm, 32, rfl⟩
abbrev main_c_7 : Ref sig .tc := ⟨.hbm, 33, rfl⟩
abbrev main_v15 : Ref sig .tc := ⟨.hbm, 34, rfl⟩
abbrev main_c_8 : Ref sig .tc := ⟨.hbm, 35, rfl⟩
abbrev main_c_9 : Ref sig .tc := ⟨.hbm, 36, rfl⟩
abbrev main_v16 : Ref sig .tc := ⟨.hbm, 37, rfl⟩
abbrev main_c_10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v25 : Ref sig .tc := ⟨.hbm, 55, rfl⟩
abbrev main_c_11 : Ref sig .tc := ⟨.hbm, 56, rfl⟩
abbrev main_v26 : Ref sig .tc := ⟨.hbm, 57, rfl⟩
abbrev main_v27 : Ref sig .tc := ⟨.hbm, 58, rfl⟩
abbrev main_c_12 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_13 : Ref sig .tc := ⟨.hbm, 63, rfl⟩
abbrev main_c_14 : Ref sig .tc := ⟨.hbm, 64, rfl⟩
abbrev main_v31 : Ref sig .tc := ⟨.hbm, 65, rfl⟩
abbrev main_c_15 : Ref sig .tc := ⟨.hbm, 66, rfl⟩
abbrev main_c_16 : Ref sig .tc := ⟨.hbm, 67, rfl⟩
abbrev main_v32 : Ref sig .tc := ⟨.hbm, 68, rfl⟩
abbrev main_c_17 : Ref sig .tc := ⟨.hbm, 69, rfl⟩
abbrev main_v33 : Ref sig .tc := ⟨.hbm, 70, rfl⟩
abbrev main_c_18 : Ref sig .tc := ⟨.hbm, 71, rfl⟩
abbrev main_c_19 : Ref sig .tc := ⟨.hbm, 72, rfl⟩
abbrev main_v34 : Ref sig .tc := ⟨.hbm, 73, rfl⟩
abbrev main_c_20 : Ref sig .tc := ⟨.hbm, 74, rfl⟩
abbrev main_c_21 : Ref sig .tc := ⟨.hbm, 75, rfl⟩
abbrev main_v35 : Ref sig .tc := ⟨.hbm, 76, rfl⟩
abbrev main_c_22 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_23 : Ref sig .tc := ⟨.hbm, 87, rfl⟩
abbrev main_v45 : Ref sig .tc := ⟨.hbm, 88, rfl⟩
abbrev main_v46 : Ref sig .tc := ⟨.hbm, 89, rfl⟩
abbrev main_c_24 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_25 : Ref sig .tc := ⟨.hbm, 94, rfl⟩
abbrev main_c_26 : Ref sig .tc := ⟨.hbm, 95, rfl⟩
abbrev main_v50 : Ref sig .tc := ⟨.hbm, 96, rfl⟩
abbrev main_c_27 : Ref sig .tc := ⟨.hbm, 97, rfl⟩
abbrev main_c_28 : Ref sig .tc := ⟨.hbm, 98, rfl⟩
abbrev main_v51 : Ref sig .tc := ⟨.hbm, 99, rfl⟩
abbrev main_c_29 : Ref sig .tc := ⟨.hbm, 100, rfl⟩
abbrev main_v52 : Ref sig .tc := ⟨.hbm, 101, rfl⟩
abbrev main_c_30 : Ref sig .tc := ⟨.hbm, 102, rfl⟩
abbrev main_c_31 : Ref sig .tc := ⟨.hbm, 103, rfl⟩
abbrev main_v53 : Ref sig .tc := ⟨.hbm, 104, rfl⟩
abbrev main_c_32 : Ref sig .tc := ⟨.hbm, 105, rfl⟩
abbrev main_c_33 : Ref sig .tc := ⟨.hbm, 106, rfl⟩
abbrev main_v54 : Ref sig .tc := ⟨.hbm, 107, rfl⟩
abbrev main_c_34 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]
-- ==== Proof.Attn.Core.lean ====
/- The attention kernel's arithmetic on one tile of queries, read at an element: one softmax over the 384 keys
   around the tile, the 256 context keys and the sink. -/
module

public import proofs.«01_k».proof.Proof.Gen.AttnIdeal.Skeleton
public import Idealize.ShloMosaic.Lib.Pointwise

@[expose] public section

set_option maxRecDepth 16384

noncomputable section

namespace Cert.AttnTile

open Cert.AttnIdeal Cert.AttnIdeal.Gen Idealize.ShloMosaic Idealize.ShloMosaic.TcCoe Idealize.SL.Sem

/-- The largest of a row of scores: of the keys near the query, of the context keys, and the sink. -/
def top (sl : Fin 384 → EReal) (sc : Fin 256 → EReal) (s : EReal) : EReal :=
  max (max (Finset.univ.fold max ⊥ sl) (Finset.univ.fold max ⊥ sc)) s

/-- Attention of one query, from its scores and one column of the values: the sink takes a share of the softmax
    and contributes no value. -/
def attv (sl : Fin 384 → EReal) (sc : Fin 256 → EReal) (s : EReal) (vl : Fin 384 → EReal) (vc : Fin 256 → EReal) : EReal :=
  Ideal.div ((∑ n, Ideal.exp (sl n - top sl sc s) * vl n) + ∑ n, Ideal.exp (sc n - top sl sc s) * vc n)
    ((∑ n, Ideal.exp (sl n - top sl sc s)) + (∑ n, Ideal.exp (sc n - top sl sc s)) + Ideal.exp (s - top sl sc s))

/-- Three blocks of 128 rows one under the other. -/
def cat3 {α : Type} (a b c : Fin 128 → α) (n : Fin 384) : α :=
  if h : n.val < 128 then a ⟨n.val, h⟩ else if h' : n.val - 128 < 128 then b ⟨n.val - 128, h'⟩ else c ⟨n.val - 128 - 128, by omega⟩

/-- The word of minus infinity. -/
theorem ofBits_negInf : Ideal.ofBits .f32 0xFF800000#32 = ⊥ := by
  simp [Ideal.ofBits, Ideal.ieee]

/-- The mask constant of the idealized kernel is minus infinity. -/
theorem mask_val : Named.named (F := Ideal) κ "mask" (φ := .f32) 0xF149F2CA#32 = (⊥ : EReal) :=
  IdealRules.named_const.ideal_named_scalar _ _ _ _ rfl

theorem top_at (sl : FVec Ideal S384x384 .f32) (sc : FVec Ideal S384x256 .f32) (sk : FVec Ideal S384x1 .f32) (r : Fin 384) :
    k0_pay57 (F := Ideal) sl sc sk (ix2 r 0) = top (fun n => sl (ix2 r n)) (fun n => sc (ix2 r n)) (sk (ix2 r 0)) := by
  pointwise [k0_pay57, top, ofBits_negInf]

theorem attn_at (sl : FVec Ideal S384x384 .f32) (sc : FVec Ideal S384x256 .f32) (sk : FVec Ideal S384x1 .f32)
    (v0 v1 v2 : FVec Ideal S128x128 .bf16) (vc : FVec Ideal S256x128 .bf16) (r : Fin 384) (l : Fin 128) :
    k0_pay82 v0 v1 v2 vc (k0_pay60 sl sc sk (k0_pay57 sl sc sk)) (k0_pay61 sl (k0_pay57 sl sc sk)) (k0_pay62 sc (k0_pay57 sl sc sk)) (ix2 r l)
      = attv (fun n => sl (ix2 r n)) (fun n => sc (ix2 r n)) (sk (ix2 r 0))
          (cat3 (fun n => v0 (ix2 n l)) (fun n => v1 (ix2 n l)) (fun n => v2 (ix2 n l))) (fun n => vc (ix2 n l)) := by
  pointwise [k0_pay82, k0_pay60, k0_pay61, k0_pay62, k0_pay58, k0_pay59, attv, top_at, cat3]

/-- Column `d` of the left half of a block of two heads. -/
abbrev lo (d : Fin 64) : Fin 128 := ⟨d.val, by omega⟩
/-- Column `d` of the right half of a block of two heads. -/
abbrev hi (d : Fin 64) : Fin 128 := ⟨64 + d.val, by omega⟩

theorem lane_lo : ∀ x : Fin 64, IntOp.cmpi CmpIPredicate.slt (BitVec.ofNat 32 x.val) 64#32 = 1#1 := by decide +kernel
theorem lane_hi : ∀ x : Fin 64, IntOp.cmpi CmpIPredicate.slt (BitVec.ofNat 32 (64 + x.val)) 64#32 = 0#1 := by decide +kernel
theorem sel_one {α : Type} (x y : α) : Scalar.select 1#1 x y = x := rfl
theorem sel_zero {α : Type} (x y : α) : Scalar.select 0#1 x y = y := rfl

theorem sloc0_at (mask : IVec S384x384 1) (a b c : FVec Ideal S128x128 .bf16) (k0 k1 k2 : FVec Ideal S1x128x128 .bf16) (r n : Fin 384) :
    k0_pay38 (F := Ideal) (k0_pay3 k0) (k0_pay3 k1) (k0_pay3 k2) k0_pay35 mask a b c (ix2 r n)
      = Scalar.select (mask (ix2 r n))
          (∑ d : Fin 64, cat3 (fun m => a (ix2 m (lo d))) (fun m => b (ix2 m (hi d))) (fun m => c (ix2 m (lo d))) r
            * cat3 (fun m => k0 (ix3 0 m (lo d))) (fun m => k1 (ix3 0 m (lo d))) (fun m => k2 (ix3 0 m (lo d))) n) ⊥ := by
  pointwise [k0_pay38, k0_pay37, k0_pay3, k0_pay2, k0_pay35, mask_val]
  simp only [lane_lo, lane_hi, sel_one, sel_zero, cat3]
  by_cases h : r.val < 128
  · simp only [h, dite_true, zero_mul, Finset.sum_const_zero, add_zero]
  · by_cases h' : r.val - 128 < 128
    · simp only [h, h', dite_true, dite_false, zero_mul, Finset.sum_const_zero, zero_add]
    · simp only [h, h', dite_false, zero_mul, Finset.sum_const_zero, add_zero]

theorem sloc1_at (mask : IVec S384x384 1) (a b c : FVec Ideal S128x128 .bf16) (k0 k1 k2 : FVec Ideal S1x128x128 .bf16) (r n : Fin 384) :
    k0_pay43 (F := Ideal) (k0_pay4 k0) (k0_pay4 k1) (k0_pay4 k2) k0_pay35 mask (k0_pay41 k0_pay35 a) b c (ix2 r n)
      = Scalar.select (mask (ix2 r n))
          (∑ d : Fin 64, cat3 (fun m => a (ix2 m (hi d))) (fun m => b (ix2 m (lo d))) (fun m => c (ix2 m (hi d))) r
            * cat3 (fun m => k0 (ix3 0 m (hi d))) (fun m => k1 (ix3 0 m (hi d))) (fun m => k2 (ix3 0 m (hi d))) n) ⊥ := by
  pointwise [k0_pay43, k0_pay42, k0_pay41, k0_pay4, k0_pay2, k0_pay35, mask_val]
  simp only [lane_lo, lane_hi, sel_one, sel_zero, cat3]
  by_cases h : r.val < 128
  · simp only [h, dite_true, zero_mul, Finset.sum_const_zero, zero_add]
  · by_cases h' : r.val - 128 < 128
    · simp only [h, h', dite_true, dite_false, zero_mul, Finset.sum_const_zero, add_zero]
    · simp only [h, h', dite_false, zero_mul, Finset.sum_const_zero, zero_add]

theorem sctx0_at (a b c : FVec Ideal S128x128 .bf16) (k : FVec Ideal S1x256x128 .bf16) (r : Fin 384) (n : Fin 256) :
    k0_pay39 (F := Ideal) (k0_pay27 k) k0_pay35 a b c (ix2 r n)
      = ∑ d : Fin 64, cat3 (fun m => a (ix2 m (lo d))) (fun m => b (ix2 m (hi d))) (fun m => c (ix2 m (lo d))) r
            * k (ix3 0 n (lo d)) := by
  pointwise [k0_pay39, k0_pay37, k0_pay27, k0_pay26, k0_pay35]
  simp only [lane_lo, lane_hi, sel_one, sel_zero, cat3]
  by_cases h : r.val < 128
  · simp only [h, dite_true, zero_mul, Finset.sum_const_zero, add_zero]
  · by_cases h' : r.val - 128 < 128
    · simp only [h, h', dite_true, dite_false, zero_mul, Finset.sum_const_zero, zero_add]
    · simp only [h, h', dite_false, zero_mul, Finset.sum_const_zero, add_zero]

theorem sctx1_at (a b c : FVec Ideal S128x128 .bf16) (k : FVec Ideal S1x256x128 .bf16) (r : Fin 384) (n : Fin 256) :
    k0_pay44 (F := Ideal) (k0_pay28 k) k0_pay35 (k0_pay41 k0_pay35 a) b c (ix2 r n)
      = ∑ d : Fin 64, cat3 (fun m => a (ix2 m (hi d))) (fun m => b (ix2 m (lo d))) (fun m => c (ix2 m (hi d))) r
            * k (ix3 0 n (hi d)) := by
  pointwise [k0_pay44, k0_pay42, k0_pay41, k0_pay28, k0_pay26, k0_pay35]
  simp only [lane_lo, lane_hi, sel_one, sel_zero, cat3]
  by_cases h : r.val < 128
  · simp only [h, dite_true, zero_mul, Finset.sum_const_zero, zero_add]
  · by_cases h' : r.val - 128 < 128
    · simp only [h, h', dite_true, dite_false, zero_mul, Finset.sum_const_zero, add_zero]
    · simp only [h, h', dite_false, zero_mul, Finset.sum_const_zero, zero_add]

/-- The head of the group that row `r` of the stack belongs to. -/
theorem blk_word : ∀ r : Fin 384, k0_pay34 (ix2 r 0) = BitVec.ofNat 32 (r.val / 128) := by
  intro r
  pointwise [k0_pay34]
  revert r
  decide +kernel

theorem rem_word : ∀ r : Fin 384, Scalar.select
                  (IntOp.andi
                    (IntOp.xori
                      (IntOp.cmpi CmpIPredicate.slt
                        (IntOp.remsi ArithUnit.vector (BitVec.ofNat 32 r.val)
                          (Scalar.select (Scalar.cmpi CmpIPredicate.eq 128#32 0#32) 1#32 128#32))
                        0#32)
                      (Scalar.cmpi CmpIPredicate.slt
                        (Scalar.select (Scalar.cmpi CmpIPredicate.eq 128#32 0#32) 1#32 128#32) 0#32))
                    (IntOp.cmpi CmpIPredicate.ne
                      (IntOp.remsi ArithUnit.vector (BitVec.ofNat 32 r.val)
                        (Scalar.select (Scalar.cmpi CmpIPredicate.eq 128#32 0#32) 1#32 128#32))
                      0#32))
                  (IntOp.addi
                    (IntOp.remsi ArithUnit.vector (BitVec.ofNat 32 r.val)
                      (Scalar.select (Scalar.cmpi CmpIPredicate.eq 128#32 0#32) 1#32 128#32))
                    (Scalar.select (Scalar.cmpi CmpIPredicate.eq 128#32 0#32) 1#32 128#32))
                  (IntOp.remsi ArithUnit.vector (BitVec.ofNat 32 r.val)
                    (Scalar.select (Scalar.cmpi CmpIPredicate.eq 128#32 0#32) 1#32 128#32)) = BitVec.ofNat 32 (r.val % 128) := by
  decide +kernel

theorem off_word (r n : Fin 384) : k0_pay32 (ix2 r n) = BitVec.ofNat 32 (r.val % 128 + 512 - n.val) - 384#32 := by
  pointwise [k0_pay32]
  rw [rem_word]
  apply BitVec.eq_of_toNat_eq
  simp only [IntOp.subi, IntOp.addi, BitVec.toNat_sub, BitVec.toNat_add, BitVec.toNat_ofNat]
  omega

theorem band_word : ∀ k : Fin 640, IntOp.cmpi CmpIPredicate.sle (IntOp.absi (BitVec.ofNat 32 k.val - 384#32)) 128#32
    = if 256 ≤ k.val ∧ k.val ≤ 512 then 1#1 else 0#1 := by
  decide +kernel

/-- Key `n` of the window is one that query `r` of block `bi` attends to: at most 128 away, and not in a block past
    either end of the sequence. -/
abbrev ok (bi : ℕ) (r n : Fin 384) : Prop :=
  (r.val % 128 ≤ n.val ∧ n.val ≤ r.val % 128 + 256) ∧ (128 ≤ n.val ∨ 0 < bi) ∧ (n.val < 256 ∨ bi < 63)

theorem near_word : ∀ n : Fin 384, IntOp.cmpi CmpIPredicate.sge (BitVec.ofNat 32 n.val) 128#32 = if 128 ≤ n.val then 1#1 else 0#1 := by
  decide +kernel
theorem far_word : ∀ n : Fin 384, IntOp.cmpi CmpIPredicate.slt (BitVec.ofNat 32 n.val) 256#32 = if n.val < 256 then 1#1 else 0#1 := by
  decide +kernel
theorem first0 : ∀ i : Fin 32, Scalar.cmpi CmpIPredicate.sgt (Scalar.addi (Scalar.muli (BitVec.ofNat 32 i.val) 2#32) 0#32) 0#32
    = if 0 < 2 * i.val + 0 then 1#1 else 0#1 := by decide +kernel
theorem last0 : ∀ i : Fin 32, Scalar.cmpi CmpIPredicate.slt (Scalar.addi (Scalar.muli (BitVec.ofNat 32 i.val) 2#32) 0#32) 63#32
    = if 2 * i.val + 0 < 63 then 1#1 else 0#1 := by decide +kernel
theorem first1 : ∀ i : Fin 32, Scalar.cmpi CmpIPredicate.sgt (Scalar.addi (Scalar.muli (BitVec.ofNat 32 i.val) 2#32) 1#32) 0#32
    = if 0 < 2 * i.val + 1 then 1#1 else 0#1 := by decide +kernel
theorem last1 : ∀ i : Fin 32, Scalar.cmpi CmpIPredicate.slt (Scalar.addi (Scalar.muli (BitVec.ofNat 32 i.val) 2#32) 1#32) 63#32
    = if 2 * i.val + 1 < 63 then 1#1 else 0#1 := by decide +kernel

theorem and_or_bits (p q q' s s' : Prop) [Decidable p] [Decidable q] [Decidable q'] [Decidable s] [Decidable s'] :
    IntOp.andi (IntOp.andi (if p then 1#1 else 0#1) (IntOp.ori (if q then 1#1 else 0#1) (if q' then 1#1 else 0#1)))
      (IntOp.ori (if s then 1#1 else 0#1) (if s' then 1#1 else 0#1)) = if p ∧ (q ∨ q') ∧ (s ∨ s') then 1#1 else 0#1 := by
  by_cases p <;> by_cases q <;> by_cases q' <;> by_cases s <;> by_cases s' <;> simp_all [IntOp.andi, IntOp.ori]

theorem band_at (r n : Fin 384) :
    IntOp.cmpi CmpIPredicate.sle (IntOp.absi (k0_pay32 (ix2 r n))) 128#32 = if r.val % 128 ≤ n.val ∧ n.val ≤ r.val % 128 + 256 then 1#1 else 0#1 := by
  rw [off_word]
  refine (band_word ⟨r.val % 128 + 512 - n.val, by omega⟩).trans (if_congr ?_ rfl rfl)
  show 256 ≤ r.val % 128 + 512 - n.val ∧ r.val % 128 + 512 - n.val ≤ 512 ↔ _
  omega

theorem mask0_at (i : Fin 32) (r n : Fin 384) :
    k0_pay36 (BitVec.ofNat 32 i.val) (iota .tc S384x384 32 [1] iota_S384x384_d1_w32) k0_pay32 (ix2 r n)
      = if ok (2 * i.val + 0) r n then 1#1 else 0#1 := by
  pointwise [k0_pay36, k0_pay33]
  rw [band_at, near_word, far_word, first0, last0, and_or_bits]
  rfl

theorem mask1_at (i : Fin 32) (r n : Fin 384) :
    k0_pay48 (iota .tc S384x384 32 [1] iota_S384x384_d1_w32) (Scalar.addi (Scalar.muli (BitVec.ofNat 32 i.val) 2#32) 1#32)
      (k0_pay46 (BitVec.ofNat 32 i.val) (iota .tc S384x384 32 [1] iota_S384x384_d1_w32) (k0_pay33 k0_pay32)) k0_pay47 (ix2 r n)
      = if ok (2 * i.val + 1) r n then 1#1 else 0#1 := by
  pointwise [k0_pay48, k0_pay46, k0_pay33, k0_pay47]
  rw [band_at, near_word, far_word, first1, last1, and_or_bits]

theorem sel_if (p : Prop) [Decidable p] (x y : EReal) : Scalar.select (if p then 1#1 else 0#1) x y = if p then x else y := by
  by_cases h : p <;> simp [h, sel_one, sel_zero]

/-- The sink of the head that row `r` of the stack belongs to. -/
theorem sink_at (s0 s1 s2 : EReal) (r : Fin 384) :
    k0_pay40 (F := Ideal) k0_pay34 s0 s1 s2 (ix2 r 0) = cat3 (fun _ => s0) (fun _ => s1) (fun _ => s2) r := by
  pointwise [k0_pay40, blk_word, cat3]
  have hb : r.val / 128 < 3 := by omega
  by_cases h : r.val < 128
  · simp only [h, dite_true, show r.val / 128 = 0 by omega]; rfl
  · by_cases h' : r.val - 128 < 128
    · simp only [h, h', dite_true, dite_false, show r.val / 128 = 1 by omega]; rfl
    · simp only [h, h', dite_false, show r.val / 128 = 2 by omega]; rfl

end Cert.AttnTile

end
-- ==== Proof.Attn.Tiles.lean ====
/- The four groups of three heads that a block of 256 queries is worked in, and the six stores of 128 rows by two
   heads they are laid out in, read at an element. -/
module

public import proofs.«01_k».proof.Proof.Attn.Core
public import Idealize.ShloMosaic.Lib.Pointwise

@[expose] public section

set_option maxRecDepth 16384

noncomputable section

namespace Cert.AttnTile

open Cert.AttnIdeal Cert.AttnIdeal.Gen Idealize.ShloMosaic Idealize.ShloMosaic.TcCoe Idealize.SL.Sem

/-- One head's attention for one query: the position of the query's tile and its row there, the query, the window's keys,
    the context's keys, the sink, and a column of the values of either. -/
def head (bi : ℕ) (i : Fin 384) (q : Fin 64 → EReal) (k : Fin 384 → Fin 64 → EReal) (kc : Fin 256 → Fin 64 → EReal) (s : EReal)
    (v : Fin 384 → EReal) (vc : Fin 256 → EReal) : EReal :=
  attv (fun n => if ok bi i n then ∑ d, q d * k n d else ⊥) (fun n => ∑ d, q d * kc n d) s v vc

abbrev S := FVec Ideal S128x128 .bf16
abbrev T := FVec Ideal S1x128x128 .bf16
abbrev U := FVec Ideal S1x256x128 .bf16

/-- Row `x` of the part of the stack that belongs to head `g` of the group. -/
abbrev row (g : Fin 3) (x : Fin 128) : Fin 384 := ⟨128 * g.val + x.val, by omega⟩
/-- The column of the key-value head that column `l` of a pair of heads reads, of the left and of the right one. -/
abbrev left (l : Fin 128) : Fin 128 := ⟨l.val % 64, by omega⟩
abbrev right (l : Fin 128) : Fin 128 := ⟨64 + l.val % 64, by omega⟩

theorem dup_left (v : T) (n l : Fin 128) : k0_pay15 (F := Ideal) v (ix2 n l) = v (ix3 0 n (left l)) := by
  pointwise [k0_pay15, k0_pay14]
  by_cases h : l.val < 64
  · simp only [h, dite_true]
    exact congrArg v (congrArg (ix3 0 n) (Fin.ext (by simp; omega)))
  · simp only [h, dite_false]
    exact congrArg v (congrArg (ix3 0 n) (Fin.ext (by simp; omega)))
theorem dup_right (v : T) (n l : Fin 128) : k0_pay16 (F := Ideal) v (ix2 n l) = v (ix3 0 n (right l)) := by
  pointwise [k0_pay16, k0_pay14]
  by_cases h : l.val < 64
  · simp only [h, dite_true]
    exact congrArg v (congrArg (ix3 0 n) (Fin.ext (by simp; omega)))
  · simp only [h, dite_false]
    exact congrArg v (congrArg (ix3 0 n) (Fin.ext (by simp; omega)))
theorem dupc_left (v : U) (n : Fin 256) (l : Fin 128) : k0_pay30 (F := Ideal) v (ix2 n l) = v (ix3 0 n (left l)) := by
  pointwise [k0_pay30, k0_pay29]
  by_cases h : l.val < 64
  · simp only [h, dite_true]
    exact congrArg v (congrArg (ix3 0 n) (Fin.ext (by simp; omega)))
  · simp only [h, dite_false]
    exact congrArg v (congrArg (ix3 0 n) (Fin.ext (by simp; omega)))
theorem dupc_right (v : U) (n : Fin 256) (l : Fin 128) : k0_pay31 (F := Ideal) v (ix2 n l) = v (ix3 0 n (right l)) := by
  pointwise [k0_pay31, k0_pay29]
  by_cases h : l.val < 64
  · simp only [h, dite_true]
    exact congrArg v (congrArg (ix3 0 n) (Fin.ext (by simp; omega)))
  · simp only [h, dite_false]
    exact congrArg v (congrArg (ix3 0 n) (Fin.ext (by simp; omega)))

theorem cat3_0 {α : Type} (a b c : Fin 128 → α) (x : Fin 128) : cat3 a b c (row 0 x) = a x := by
  simp [cat3, row]
theorem cat3_1 {α : Type} (a b c : Fin 128 → α) (x : Fin 128) : cat3 a b c (row 1 x) = b x := by
  simp [cat3, row]
theorem cat3_2 {α : Type} (a b c : Fin 128 → α) (x : Fin 128) : cat3 a b c (row 2 x) = c x := by
  have h : ¬ 256 + x.val < 128 := by omega
  have h' : ¬ 256 + x.val - 128 < 128 := by omega
  simp only [cat3, row, Fin.val_two, Nat.reduceMul, h, h', dite_false]
  refine congrArg c (Fin.ext ?_)
  show 256 + x.val - 128 - 128 = x.val
  omega

/-- A head of tile `bi` from blocks: the query's entries, then the window's blocks of keys, those of the context, the
    sink, and the same of the values; `u` names the columns of the keys and `w` the column of the values. -/
abbrev headT (bi : ℕ) (x : Fin 384) (q : Fin 64 → EReal) (u : Fin 64 → Fin 128) (k0 k1 k2 : T) (kc : U) (s : EReal) (w : Fin 128)
    (v0 v1 v2 : T) (vc : U) : EReal :=
  head bi x q (fun n d => cat3 (fun m => k0 (ix3 0 m (u d))) (fun m => k1 (ix3 0 m (u d))) (fun m => k2 (ix3 0 m (u d))) n)
    (fun n d => kc (ix3 0 n (u d))) s
    (cat3 (fun m => v0 (ix3 0 m w)) (fun m => v1 (ix3 0 m w)) (fun m => v2 (ix3 0 m w))) (fun n => vc (ix3 0 n w))

abbrev lanes : IVec S384x384 32 := iota .tc S384x384 32 [1] iota_S384x384_d1_w32

/-- The word of the second tile of block `i`. -/
abbrev w1 (i : Fin 32) : BitVec 32 := Scalar.addi (Scalar.muli (BitVec.ofNat 32 i.val) 2#32) 1#32

section
variable (i : Fin 32) (a b c : S) (k0 k1 k2 : T) (kc : U) (s0 s1 s2 : EReal) (v0 v1 v2 : T) (vc : U)
abbrev sl00 := k0_pay38 (F := Ideal) (k0_pay3 k0) (k0_pay6 k1) (k0_pay9 k2) k0_pay35 (k0_pay36 (BitVec.ofNat 32 i.val) lanes k0_pay32) a b c
abbrev sc00 := k0_pay39 (F := Ideal) (k0_pay27 kc) k0_pay35 a b c
abbrev sk00 := k0_pay40 (F := Ideal) k0_pay34 s0 s1 s2
end

theorem out00_eq (i : Fin 32) (a b c : S) (k0 k1 k2 : T) (kc : U) (s0 s1 s2 : EReal) (v0 v1 v2 : T) (vc : U) (r : Fin 384) (l : Fin 128) :
    k0_pay82 (k0_pay15 v0) (k0_pay18 v1) (k0_pay21 v2) (k0_pay30 vc) (k0_pay60 (sl00 i a b c k0 k1 k2) (sc00 a b c kc) (sk00 s0 s1 s2) (k0_pay57 (sl00 i a b c k0 k1 k2) (sc00 a b c kc) (sk00 s0 s1 s2))) (k0_pay61 (sl00 i a b c k0 k1 k2) (k0_pay57 (sl00 i a b c k0 k1 k2) (sc00 a b c kc) (sk00 s0 s1 s2))) (k0_pay62 (sc00 a b c kc) (k0_pay57 (sl00 i a b c k0 k1 k2) (sc00 a b c kc) (sk00 s0 s1 s2))) (ix2 r l)
      = headT (2 * i.val + 0) r
          (fun d => cat3 (fun m => a (ix2 m (lo d))) (fun m => b (ix2 m (hi d))) (fun m => c (ix2 m (lo d))) r)
          lo k0 k1 k2 kc (cat3 (fun _ => s0) (fun _ => s1) (fun _ => s2) r) (left l) v0 v1 v2 vc := by
  refine (attn_at (k0_pay38 (F := Ideal) (k0_pay3 k0) (k0_pay3 k1) (k0_pay3 k2) k0_pay35 (k0_pay36 (BitVec.ofNat 32 i.val) lanes k0_pay32) a b c) (k0_pay39 (F := Ideal) (k0_pay27 kc) k0_pay35 a b c) (k0_pay40 (F := Ideal) k0_pay34 s0 s1 s2) (k0_pay15 v0) (k0_pay15 v1) (k0_pay15 v2) (k0_pay30 vc) r l).trans ?_
  simp only [headT, head, sloc0_at, sctx0_at, sink_at, dup_left, dupc_left, mask0_at, sel_if]

section
variable (i : Fin 32) (a b c : S) (k0 k1 k2 : T) (kc : U) (s0 s1 s2 : EReal) (v0 v1 v2 : T) (vc : U)
abbrev sl01 := k0_pay43 (F := Ideal) (k0_pay4 k0) (k0_pay7 k1) (k0_pay10 k2) k0_pay35 (k0_pay36 (BitVec.ofNat 32 i.val) lanes k0_pay32) (k0_pay41 k0_pay35 a) b c
abbrev sc01 := k0_pay44 (F := Ideal) (k0_pay28 kc) k0_pay35 (k0_pay41 k0_pay35 a) b c
abbrev sk01 := k0_pay45 (F := Ideal) k0_pay34 s0 s1 s2
end

theorem out01_eq (i : Fin 32) (a b c : S) (k0 k1 k2 : T) (kc : U) (s0 s1 s2 : EReal) (v0 v1 v2 : T) (vc : U) (r : Fin 384) (l : Fin 128) :
    k0_pay84 (k0_pay16 v0) (k0_pay19 v1) (k0_pay22 v2) (k0_pay31 vc) (k0_pay66 (sl01 i a b c k0 k1 k2) (sc01 a b c kc) (sk01 s0 s1 s2)) (k0_pay67 (sl01 i a b c k0 k1 k2) (sc01 a b c kc) (sk01 s0 s1 s2)) (k0_pay68 (sl01 i a b c k0 k1 k2) (sc01 a b c kc) (sk01 s0 s1 s2)) (ix2 r l)
      = headT (2 * i.val + 0) r
          (fun d => cat3 (fun m => a (ix2 m (hi d))) (fun m => b (ix2 m (lo d))) (fun m => c (ix2 m (hi d))) r)
          hi k0 k1 k2 kc (cat3 (fun _ => s0) (fun _ => s1) (fun _ => s2) r) (right l) v0 v1 v2 vc := by
  refine (attn_at (k0_pay43 (F := Ideal) (k0_pay4 k0) (k0_pay4 k1) (k0_pay4 k2) k0_pay35 (k0_pay36 (BitVec.ofNat 32 i.val) lanes k0_pay32) (k0_pay41 k0_pay35 a) b c) (k0_pay44 (F := Ideal) (k0_pay28 kc) k0_pay35 (k0_pay41 k0_pay35 a) b c) (k0_pay40 (F := Ideal) k0_pay34 s0 s1 s2) (k0_pay16 v0) (k0_pay16 v1) (k0_pay16 v2) (k0_pay31 vc) r l).trans ?_
  simp only [headT, head, sloc1_at, sctx1_at, sink_at, dup_right, dupc_right, mask0_at, sel_if]

section
variable (i : Fin 32) (a b c : S) (k0 k1 k2 : T) (kc : U) (s0 s1 s2 : EReal) (v0 v1 v2 : T) (vc : U)
abbrev sl10 := k0_pay50 (F := Ideal) (k0_pay6 k0) (k0_pay9 k1) (k0_pay12 k2) lanes k0_pay35 (w1 i) (k0_pay46 (BitVec.ofNat 32 i.val) lanes (k0_pay33 k0_pay32)) k0_pay47 a b c
abbrev sc10 := k0_pay51 (F := Ideal) (k0_pay27 kc) k0_pay35 a b c
abbrev sk10 := k0_pay52 (F := Ideal) k0_pay34 s0 s1 s2
end

theorem out10_eq (i : Fin 32) (a b c : S) (k0 k1 k2 : T) (kc : U) (s0 s1 s2 : EReal) (v0 v1 v2 : T) (vc : U) (r : Fin 384) (l : Fin 128) :
    k0_pay91 (k0_pay18 v0) (k0_pay21 v1) (k0_pay24 v2) (k0_pay30 vc) (k0_pay73 (sk10 s0 s1 s2) (k0_pay69 (sl10 i a b c k0 k1 k2) (sc10 a b c kc) (sk10 s0 s1 s2)) (k0_pay71 (sl10 i a b c k0 k1 k2) (sc10 a b c kc) (sk10 s0 s1 s2)) (k0_pay72 (sl10 i a b c k0 k1 k2) (sc10 a b c kc) (sk10 s0 s1 s2))) (k0_pay74 (k0_pay70 (sl10 i a b c k0 k1 k2) (sc10 a b c kc) (sk10 s0 s1 s2))) (k0_pay75 (k0_pay71 (sl10 i a b c k0 k1 k2) (sc10 a b c kc) (sk10 s0 s1 s2))) (ix2 r l)
      = headT (2 * i.val + 1) r
          (fun d => cat3 (fun m => a (ix2 m (lo d))) (fun m => b (ix2 m (hi d))) (fun m => c (ix2 m (lo d))) r)
          lo k0 k1 k2 kc (cat3 (fun _ => s0) (fun _ => s1) (fun _ => s2) r) (left l) v0 v1 v2 vc := by
  refine (attn_at (k0_pay38 (F := Ideal) (k0_pay3 k0) (k0_pay3 k1) (k0_pay3 k2) k0_pay35 (k0_pay48 lanes (w1 i) (k0_pay46 (BitVec.ofNat 32 i.val) lanes (k0_pay33 k0_pay32)) k0_pay47) a b c) (k0_pay39 (F := Ideal) (k0_pay27 kc) k0_pay35 a b c) (k0_pay40 (F := Ideal) k0_pay34 s0 s1 s2) (k0_pay15 v0) (k0_pay15 v1) (k0_pay15 v2) (k0_pay30 vc) r l).trans ?_
  simp only [headT, head, sloc0_at, sctx0_at, sink_at, dup_left, dupc_left, mask1_at, sel_if]

section
variable (i : Fin 32) (a b c : S) (k0 k1 k2 : T) (kc : U) (s0 s1 s2 : EReal) (v0 v1 v2 : T) (vc : U)
abbrev sl11 := k0_pay54 (F := Ideal) (k0_pay7 k0) (k0_pay10 k1) (k0_pay13 k2) k0_pay35 (k0_pay48 lanes (w1 i) (k0_pay46 (BitVec.ofNat 32 i.val) lanes (k0_pay33 k0_pay32)) k0_pay47) a b c
abbrev sc11 := k0_pay55 (F := Ideal) (k0_pay28 kc) k0_pay35 a b c
abbrev sk11 := k0_pay56 (F := Ideal) k0_pay34 s0 s1 s2
end

theorem out11_eq (i : Fin 32) (a b c : S) (k0 k1 k2 : T) (kc : U) (s0 s1 s2 : EReal) (v0 v1 v2 : T) (vc : U) (r : Fin 384) (l : Fin 128) :
    k0_pay92 (k0_pay19 v0) (k0_pay22 v1) (k0_pay25 v2) (k0_pay31 vc) (k0_pay79 (sl11 i a b c k0 k1 k2) (sc11 a b c kc) (sk11 s0 s1 s2)) (k0_pay80 (sl11 i a b c k0 k1 k2) (sc11 a b c kc) (sk11 s0 s1 s2)) (k0_pay81 (sl11 i a b c k0 k1 k2) (sc11 a b c kc) (sk11 s0 s1 s2)) (ix2 r l)
      = headT (2 * i.val + 1) r
          (fun d => cat3 (fun m => a (ix2 m (hi d))) (fun m => b (ix2 m (lo d))) (fun m => c (ix2 m (hi d))) r)
          hi k0 k1 k2 kc (cat3 (fun _ => s0) (fun _ => s1) (fun _ => s2) r) (right l) v0 v1 v2 vc := by
  refine (attn_at (k0_pay43 (F := Ideal) (k0_pay4 k0) (k0_pay4 k1) (k0_pay4 k2) k0_pay35 (k0_pay48 lanes (w1 i) (k0_pay46 (BitVec.ofNat 32 i.val) lanes (k0_pay33 k0_pay32)) k0_pay47) (k0_pay41 k0_pay35 a) b c) (k0_pay44 (F := Ideal) (k0_pay28 kc) k0_pay35 (k0_pay41 k0_pay35 a) b c) (k0_pay40 (F := Ideal) k0_pay34 s0 s1 s2) (k0_pay16 v0) (k0_pay16 v1) (k0_pay16 v2) (k0_pay31 vc) r l).trans ?_
  simp only [headT, head, sloc1_at, sctx1_at, sink_at, dup_right, dupc_right, mask1_at, sel_if]

theorem head_row (bi : ℕ) (g : Fin 3) (x : Fin 128) (q : Fin 64 → EReal) (k : Fin 384 → Fin 64 → EReal) (kc : Fin 256 → Fin 64 → EReal)
    (s : EReal) (v : Fin 384 → EReal) (vc : Fin 256 → EReal) : head bi (row g x) q k kc s v vc = head bi (row 0 x) q k kc s v vc := by
  have e : ∀ n, ok bi (row g x) n = ok bi (row 0 x) n := fun n => by
    have e1 : (row g x).val % 128 = x.val := by show (128 * g.val + x.val) % 128 = x.val; omega
    have e2 : (row 0 x).val % 128 = x.val := by show (128 * 0 + x.val) % 128 = x.val; omega
    simp only [ok, e1, e2]
  simp only [head, e]

theorem lane_word : ∀ l : Fin 128, IntOp.cmpi CmpIPredicate.slt (BitVec.ofNat 32 l.val) 64#32 = if l.val < 64 then 1#1 else 0#1 := by
  decide +kernel

theorem out00_0 (i : Fin 32) (a b c : S) (k0 k1 k2 : T) (kc : U) (s0 s1 s2 : EReal) (v0 v1 v2 : T) (vc : U) (x l : Fin 128) (r : Fin 384) (hr : r = row 0 x) :
    k0_pay82 (k0_pay15 v0) (k0_pay18 v1) (k0_pay21 v2) (k0_pay30 vc) (k0_pay60 (sl00 i a b c k0 k1 k2) (sc00 a b c kc) (sk00 s0 s1 s2) (k0_pay57 (sl00 i a b c k0 k1 k2) (sc00 a b c kc) (sk00 s0 s1 s2))) (k0_pay61 (sl00 i a b c k0 k1 k2) (k0_pay57 (sl00 i a b c k0 k1 k2) (sc00 a b c kc) (sk00 s0 s1 s2))) (k0_pay62 (sc00 a b c kc) (k0_pay57 (sl00 i a b c k0 k1 k2) (sc00 a b c kc) (sk00 s0 s1 s2))) (ix2 r l)
      = headT (2 * i.val + 0) (row 0 x) (fun d => a (ix2 x (lo d))) lo k0 k1 k2 kc s0 (left l) v0 v1 v2 vc := by
  subst hr
  rw [out00_eq]
  simp only [cat3_0]

theorem out00_1 (i : Fin 32) (a b c : S) (k0 k1 k2 : T) (kc : U) (s0 s1 s2 : EReal) (v0 v1 v2 : T) (vc : U) (x l : Fin 128) (r : Fin 384) (hr : r = row 1 x) :
    k0_pay82 (k0_pay15 v0) (k0_pay18 v1) (k0_pay21 v2) (k0_pay30 vc) (k0_pay60 (sl00 i a b c k0 k1 k2) (sc00 a b c kc) (sk00 s0 s1 s2) (k0_pay57 (sl00 i a b c k0 k1 k2) (sc00 a b c kc) (sk00 s0 s1 s2))) (k0_pay61 (sl00 i a b c k0 k1 k2) (k0_pay57 (sl00 i a b c k0 k1 k2) (sc00 a b c kc) (sk00 s0 s1 s2))) (k0_pay62 (sc00 a b c kc) (k0_pay57 (sl00 i a b c k0 k1 k2) (sc00 a b c kc) (sk00 s0 s1 s2))) (ix2 r l)
      = headT (2 * i.val + 0) (row 0 x) (fun d => b (ix2 x (hi d))) lo k0 k1 k2 kc s1 (left l) v0 v1 v2 vc := by
  subst hr
  rw [out00_eq]
  simp only [cat3_1]
  exact head_row _ 1 x _ _ _ _ _ _

theorem out00_2 (i : Fin 32) (a b c : S) (k0 k1 k2 : T) (kc : U) (s0 s1 s2 : EReal) (v0 v1 v2 : T) (vc : U) (x l : Fin 128) (r : Fin 384) (hr : r = row 2 x) :
    k0_pay82 (k0_pay15 v0) (k0_pay18 v1) (k0_pay21 v2) (k0_pay30 vc) (k0_pay60 (sl00 i a b c k0 k1 k2) (sc00 a b c kc) (sk00 s0 s1 s2) (k0_pay57 (sl00 i a b c k0 k1 k2) (sc00 a b c kc) (sk00 s0 s1 s2))) (k0_pay61 (sl00 i a b c k0 k1 k2) (k0_pay57 (sl00 i a b c k0 k1 k2) (sc00 a b c kc) (sk00 s0 s1 s2))) (k0_pay62 (sc00 a b c kc) (k0_pay57 (sl00 i a b c k0 k1 k2) (sc00 a b c kc) (sk00 s0 s1 s2))) (ix2 r l)
      = headT (2 * i.val + 0) (row 0 x) (fun d => c (ix2 x (lo d))) lo k0 k1 k2 kc s2 (left l) v0 v1 v2 vc := by
  subst hr
  rw [out00_eq]
  simp only [cat3_2]
  exact head_row _ 2 x _ _ _ _ _ _

theorem out01_0 (i : Fin 32) (a b c : S) (k0 k1 k2 : T) (kc : U) (s0 s1 s2 : EReal) (v0 v1 v2 : T) (vc : U) (x l : Fin 128) (r : Fin 384) (hr : r = row 0 x) :
    k0_pay84 (k0_pay16 v0) (k0_pay19 v1) (k0_pay22 v2) (k0_pay31 vc) (k0_pay66 (sl01 i a b c k0 k1 k2) (sc01 a b c kc) (sk01 s0 s1 s2)) (k0_pay67 (sl01 i a b c k0 k1 k2) (sc01 a b c kc) (sk01 s0 s1 s2)) (k0_pay68 (sl01 i a b c k0 k1 k2) (sc01 a b c kc) (sk01 s0 s1 s2)) (ix2 r l)
      = headT (2 * i.val + 0) (row 0 x) (fun d => a (ix2 x (hi d))) hi k0 k1 k2 kc s0 (right l) v0 v1 v2 vc := by
  subst hr
  rw [out01_eq]
  simp only [cat3_0]

theorem out01_1 (i : Fin 32) (a b c : S) (k0 k1 k2 : T) (kc : U) (s0 s1 s2 : EReal) (v0 v1 v2 : T) (vc : U) (x l : Fin 128) (r : Fin 384) (hr : r = row 1 x) :
    k0_pay84 (k0_pay16 v0) (k0_pay19 v1) (k0_pay22 v2) (k0_pay31 vc) (k0_pay66 (sl01 i a b c k0 k1 k2) (sc01 a b c kc) (sk01 s0 s1 s2)) (k0_pay67 (sl01 i a b c k0 k1 k2) (sc01 a b c kc) (sk01 s0 s1 s2)) (k0_pay68 (sl01 i a b c k0 k1 k2) (sc01 a b c kc) (sk01 s0 s1 s2)) (ix2 r l)
      = headT (2 * i.val + 0) (row 0 x) (fun d => b (ix2 x (lo d))) hi k0 k1 k2 kc s1 (right l) v0 v1 v2 vc := by
  subst hr
  rw [out01_eq]
  simp only [cat3_1]
  exact head_row _ 1 x _ _ _ _ _ _

theorem out01_2 (i : Fin 32) (a b c : S) (k0 k1 k2 : T) (kc : U) (s0 s1 s2 : EReal) (v0 v1 v2 : T) (vc : U) (x l : Fin 128) (r : Fin 384) (hr : r = row 2 x) :
    k0_pay84 (k0_pay16 v0) (k0_pay19 v1) (k0_pay22 v2) (k0_pay31 vc) (k0_pay66 (sl01 i a b c k0 k1 k2) (sc01 a b c kc) (sk01 s0 s1 s2)) (k0_pay67 (sl01 i a b c k0 k1 k2) (sc01 a b c kc) (sk01 s0 s1 s2)) (k0_pay68 (sl01 i a b c k0 k1 k2) (sc01 a b c kc) (sk01 s0 s1 s2)) (ix2 r l)
      = headT (2 * i.val + 0) (row 0 x) (fun d => c (ix2 x (hi d))) hi k0 k1 k2 kc s2 (right l) v0 v1 v2 vc := by
  subst hr
  rw [out01_eq]
  simp only [cat3_2]
  exact head_row _ 2 x _ _ _ _ _ _

theorem out10_0 (i : Fin 32) (a b c : S) (k0 k1 k2 : T) (kc : U) (s0 s1 s2 : EReal) (v0 v1 v2 : T) (vc : U) (x l : Fin 128) (r : Fin 384) (hr : r = row 0 x) :
    k0_pay91 (k0_pay18 v0) (k0_pay21 v1) (k0_pay24 v2) (k0_pay30 vc) (k0_pay73 (sk10 s0 s1 s2) (k0_pay69 (sl10 i a b c k0 k1 k2) (sc10 a b c kc) (sk10 s0 s1 s2)) (k0_pay71 (sl10 i a b c k0 k1 k2) (sc10 a b c kc) (sk10 s0 s1 s2)) (k0_pay72 (sl10 i a b c k0 k1 k2) (sc10 a b c kc) (sk10 s0 s1 s2))) (k0_pay74 (k0_pay70 (sl10 i a b c k0 k1 k2) (sc10 a b c kc) (sk10 s0 s1 s2))) (k0_pay75 (k0_pay71 (sl10 i a b c k0 k1 k2) (sc10 a b c kc) (sk10 s0 s1 s2))) (ix2 r l)
      = headT (2 * i.val + 1) (row 0 x) (fun d => a (ix2 x (lo d))) lo k0 k1 k2 kc s0 (left l) v0 v1 v2 vc := by
  subst hr
  rw [out10_eq]
  simp only [cat3_0]

theorem out10_1 (i : Fin 32) (a b c : S) (k0 k1 k2 : T) (kc : U) (s0 s1 s2 : EReal) (v0 v1 v2 : T) (vc : U) (x l : Fin 128) (r : Fin 384) (hr : r = row 1 x) :
    k0_pay91 (k0_pay18 v0) (k0_pay21 v1) (k0_pay24 v2) (k0_pay30 vc) (k0_pay73 (sk10 s0 s1 s2) (k0_pay69 (sl10 i a b c k0 k1 k2) (sc10 a b c kc) (sk10 s0 s1 s2)) (k0_pay71 (sl10 i a b c k0 k1 k2) (sc10 a b c kc) (sk10 s0 s1 s2)) (k0_pay72 (sl10 i a b c k0 k1 k2) (sc10 a b c kc) (sk10 s0 s1 s2))) (k0_pay74 (k0_pay70 (sl10 i a b c k0 k1 k2) (sc10 a b c kc) (sk10 s0 s1 s2))) (k0_pay75 (k0_pay71 (sl10 i a b c k0 k1 k2) (sc10 a b c kc) (sk10 s0 s1 s2))) (ix2 r l)
      = headT (2 * i.val + 1) (row 0 x) (fun d => b (ix2 x (hi d))) lo k0 k1 k2 kc s1 (left l) v0 v1 v2 vc := by
  subst hr
  rw [out10_eq]
  simp only [cat3_1]
  exact head_row _ 1 x _ _ _ _ _ _

theorem out10_2 (i : Fin 32) (a b c : S) (k0 k1 k2 : T) (kc : U) (s0 s1 s2 : EReal) (v0 v1 v2 : T) (vc : U) (x l : Fin 128) (r : Fin 384) (hr : r = row 2 x) :
    k0_pay91 (k0_pay18 v0) (k0_pay21 v1) (k0_pay24 v2) (k0_pay30 vc) (k0_pay73 (sk10 s0 s1 s2) (k0_pay69 (sl10 i a b c k0 k1 k2) (sc10 a b c kc) (sk10 s0 s1 s2)) (k0_pay71 (sl10 i a b c k0 k1 k2) (sc10 a b c kc) (sk10 s0 s1 s2)) (k0_pay72 (sl10 i a b c k0 k1 k2) (sc10 a b c kc) (sk10 s0 s1 s2))) (k0_pay74 (k0_pay70 (sl10 i a b c k0 k1 k2) (sc10 a b c kc) (sk10 s0 s1 s2))) (k0_pay75 (k0_pay71 (sl10 i a b c k0 k1 k2) (sc10 a b c kc) (sk10 s0 s1 s2))) (ix2 r l)
      = headT (2 * i.val + 1) (row 0 x) (fun d => c (ix2 x (lo d))) lo k0 k1 k2 kc s2 (left l) v0 v1 v2 vc := by
  subst hr
  rw [out10_eq]
  simp only [cat3_2]
  exact head_row _ 2 x _ _ _ _ _ _

theorem out11_0 (i : Fin 32) (a b c : S) (k0 k1 k2 : T) (kc : U) (s0 s1 s2 : EReal) (v0 v1 v2 : T) (vc : U) (x l : Fin 128) (r : Fin 384) (hr : r = row 0 x) :
    k0_pay92 (k0_pay19 v0) (k0_pay22 v1) (k0_pay25 v2) (k0_pay31 vc) (k0_pay79 (sl11 i a b c k0 k1 k2) (sc11 a b c kc) (sk11 s0 s1 s2)) (k0_pay80 (sl11 i a b c k0 k1 k2) (sc11 a b c kc) (sk11 s0 s1 s2)) (k0_pay81 (sl11 i a b c k0 k1 k2) (sc11 a b c kc) (sk11 s0 s1 s2)) (ix2 r l)
      = headT (2 * i.val + 1) (row 0 x) (fun d => a (ix2 x (hi d))) hi k0 k1 k2 kc s0 (right l) v0 v1 v2 vc := by
  subst hr
  rw [out11_eq]
  simp only [cat3_0]

theorem out11_1 (i : Fin 32) (a b c : S) (k0 k1 k2 : T) (kc : U) (s0 s1 s2 : EReal) (v0 v1 v2 : T) (vc : U) (x l : Fin 128) (r : Fin 384) (hr : r = row 1 x) :
    k0_pay92 (k0_pay19 v0) (k0_pay22 v1) (k0_pay25 v2) (k0_pay31 vc) (k0_pay79 (sl11 i a b c k0 k1 k2) (sc11 a b c kc) (sk11 s0 s1 s2)) (k0_pay80 (sl11 i a b c k0 k1 k2) (sc11 a b c kc) (sk11 s0 s1 s2)) (k0_pay81 (sl11 i a b c k0 k1 k2) (sc11 a b c kc) (sk11 s0 s1 s2)) (ix2 r l)
      = headT (2 * i.val + 1) (row 0 x) (fun d => b (ix2 x (lo d))) hi k0 k1 k2 kc s1 (right l) v0 v1 v2 vc := by
  subst hr
  rw [out11_eq]
  simp only [cat3_1]
  exact head_row _ 1 x _ _ _ _ _ _

theorem out11_2 (i : Fin 32) (a b c : S) (k0 k1 k2 : T) (kc : U) (s0 s1 s2 : EReal) (v0 v1 v2 : T) (vc : U) (x l : Fin 128) (r : Fin 384) (hr : r = row 2 x) :
    k0_pay92 (k0_pay19 v0) (k0_pay22 v1) (k0_pay25 v2) (k0_pay31 vc) (k0_pay79 (sl11 i a b c k0 k1 k2) (sc11 a b c kc) (sk11 s0 s1 s2)) (k0_pay80 (sl11 i a b c k0 k1 k2) (sc11 a b c kc) (sk11 s0 s1 s2)) (k0_pay81 (sl11 i a b c k0 k1 k2) (sc11 a b c kc) (sk11 s0 s1 s2)) (ix2 r l)
      = headT (2 * i.val + 1) (row 0 x) (fun d => c (ix2 x (hi d))) hi k0 k1 k2 kc s2 (right l) v0 v1 v2 vc := by
  subst hr
  rw [out11_eq]
  simp only [cat3_2]
  exact head_row _ 2 x _ _ _ _ _ _

theorem st00 (i : Fin 32) (a b c : S) (k0 k1 k2 : T) (kc : U) (s0 s1 s2 s3 s4 s5 : EReal) (v0 v1 v2 : T) (vc : U) (x l : Fin 128) :
    k0_pay88 (k0_pay15 v0) (k0_pay18 v1) (k0_pay21 v2) (k0_pay30 vc) k0_pay35 (k0_pay60 (sl00 i a a b k0 k1 k2) (sc00 a a b kc) (sk00 s0 s1 s2) (k0_pay57 (sl00 i a a b k0 k1 k2) (sc00 a a b kc) (sk00 s0 s1 s2))) (k0_pay61 (sl00 i a a b k0 k1 k2) (k0_pay57 (sl00 i a a b k0 k1 k2) (sc00 a a b kc) (sk00 s0 s1 s2))) (k0_pay62 (sc00 a a b kc) (k0_pay57 (sl00 i a a b k0 k1 k2) (sc00 a a b kc) (sk00 s0 s1 s2))) (ix2 x l)
      = if l.val < 64 then headT (2 * i.val + 0) (row 0 x) (fun d => a (ix2 x (lo d))) lo k0 k1 k2 kc s0 (left l) v0 v1 v2 vc
        else headT (2 * i.val + 0) (row 0 x) (fun d => a (ix2 x (hi d))) lo k0 k1 k2 kc s1 (left l) v0 v1 v2 vc := by
  pointwise [k0_pay88, k0_pay35]
  rw [lane_word, sel_if]
  exact if_congr Iff.rfl (out00_0 i a a b k0 k1 k2 kc s0 s1 s2 v0 v1 v2 vc x l _ (Fin.ext (by simp [row]))) (out00_1 i a a b k0 k1 k2 kc s0 s1 s2 v0 v1 v2 vc x l _ (Fin.ext (by simp [row])))

theorem st01 (i : Fin 32) (a b c : S) (k0 k1 k2 : T) (kc : U) (s0 s1 s2 s3 s4 s5 : EReal) (v0 v1 v2 : T) (vc : U) (x l : Fin 128) :
    k0_pay89 k0_pay35 (k0_pay83 (k0_pay15 v0) (k0_pay18 v1) (k0_pay21 v2) (k0_pay30 vc) (k0_pay60 (sl00 i a a b k0 k1 k2) (sc00 a a b kc) (sk00 s0 s1 s2) (k0_pay57 (sl00 i a a b k0 k1 k2) (sc00 a a b kc) (sk00 s0 s1 s2))) (k0_pay61 (sl00 i a a b k0 k1 k2) (k0_pay57 (sl00 i a a b k0 k1 k2) (sc00 a a b kc) (sk00 s0 s1 s2))) (k0_pay62 (sc00 a a b kc) (k0_pay57 (sl00 i a a b k0 k1 k2) (sc00 a a b kc) (sk00 s0 s1 s2)))) (k0_pay85 (k0_pay16 v0) (k0_pay19 v1) (k0_pay22 v2) (k0_pay31 vc) (k0_pay66 (sl01 i b c c k0 k1 k2) (sc01 b c c kc) (sk01 s3 s4 s5)) (k0_pay67 (sl01 i b c c k0 k1 k2) (sc01 b c c kc) (sk01 s3 s4 s5)) (k0_pay68 (sl01 i b c c k0 k1 k2) (sc01 b c c kc) (sk01 s3 s4 s5))) (ix2 x l)
      = if l.val < 64 then headT (2 * i.val + 0) (row 0 x) (fun d => b (ix2 x (lo d))) lo k0 k1 k2 kc s2 (left l) v0 v1 v2 vc
        else headT (2 * i.val + 0) (row 0 x) (fun d => b (ix2 x (hi d))) hi k0 k1 k2 kc s3 (right l) v0 v1 v2 vc := by
  pointwise [k0_pay89, k0_pay83, k0_pay85, k0_pay35]
  rw [lane_word, sel_if]
  exact if_congr Iff.rfl (out00_2 i a a b k0 k1 k2 kc s0 s1 s2 v0 v1 v2 vc x l _ (Fin.ext (by simp [row]))) (out01_0 i b c c k0 k1 k2 kc s3 s4 s5 v0 v1 v2 vc x l _ (Fin.ext (by simp [row])))

theorem st02 (i : Fin 32) (a b c : S) (k0 k1 k2 : T) (kc : U) (s0 s1 s2 s3 s4 s5 : EReal) (v0 v1 v2 : T) (vc : U) (x l : Fin 128) :
    k0_pay90 k0_pay35 (k0_pay86 (k0_pay16 v0) (k0_pay19 v1) (k0_pay22 v2) (k0_pay31 vc) (k0_pay66 (sl01 i b c c k0 k1 k2) (sc01 b c c kc) (sk01 s3 s4 s5)) (k0_pay67 (sl01 i b c c k0 k1 k2) (sc01 b c c kc) (sk01 s3 s4 s5)) (k0_pay68 (sl01 i b c c k0 k1 k2) (sc01 b c c kc) (sk01 s3 s4 s5))) (k0_pay87 (k0_pay16 v0) (k0_pay19 v1) (k0_pay22 v2) (k0_pay31 vc) (k0_pay66 (sl01 i b c c k0 k1 k2) (sc01 b c c kc) (sk01 s3 s4 s5)) (k0_pay67 (sl01 i b c c k0 k1 k2) (sc01 b c c kc) (sk01 s3 s4 s5)) (k0_pay68 (sl01 i b c c k0 k1 k2) (sc01 b c c kc) (sk01 s3 s4 s5))) (ix2 x l)
      = if l.val < 64 then headT (2 * i.val + 0) (row 0 x) (fun d => c (ix2 x (lo d))) hi k0 k1 k2 kc s4 (right l) v0 v1 v2 vc
        else headT (2 * i.val + 0) (row 0 x) (fun d => c (ix2 x (hi d))) hi k0 k1 k2 kc s5 (right l) v0 v1 v2 vc := by
  pointwise [k0_pay90, k0_pay86, k0_pay87, k0_pay35]
  rw [lane_word, sel_if]
  exact if_congr Iff.rfl (out01_1 i b c c k0 k1 k2 kc s3 s4 s5 v0 v1 v2 vc x l _ (Fin.ext (by simp [row]))) (out01_2 i b c c k0 k1 k2 kc s3 s4 s5 v0 v1 v2 vc x l _ (Fin.ext (by simp [row])))

theorem st10 (i : Fin 32) (a b c : S) (k0 k1 k2 : T) (kc : U) (s0 s1 s2 s3 s4 s5 : EReal) (v0 v1 v2 : T) (vc : U) (x l : Fin 128) :
    k0_pay93 (k0_pay18 v0) (k0_pay21 v1) (k0_pay24 v2) (k0_pay30 vc) k0_pay35 (k0_pay73 (sk10 s0 s1 s2) (k0_pay69 (sl10 i a a b k0 k1 k2) (sc10 a a b kc) (sk10 s0 s1 s2)) (k0_pay71 (sl10 i a a b k0 k1 k2) (sc10 a a b kc) (sk10 s0 s1 s2)) (k0_pay72 (sl10 i a a b k0 k1 k2) (sc10 a a b kc) (sk10 s0 s1 s2))) (k0_pay74 (k0_pay70 (sl10 i a a b k0 k1 k2) (sc10 a a b kc) (sk10 s0 s1 s2))) (k0_pay75 (k0_pay71 (sl10 i a a b k0 k1 k2) (sc10 a a b kc) (sk10 s0 s1 s2))) (ix2 x l)
      = if l.val < 64 then headT (2 * i.val + 1) (row 0 x) (fun d => a (ix2 x (lo d))) lo k0 k1 k2 kc s0 (left l) v0 v1 v2 vc
        else headT (2 * i.val + 1) (row 0 x) (fun d => a (ix2 x (hi d))) lo k0 k1 k2 kc s1 (left l) v0 v1 v2 vc := by
  pointwise [k0_pay93, k0_pay35]
  rw [lane_word, sel_if]
  exact if_congr Iff.rfl (out10_0 i a a b k0 k1 k2 kc s0 s1 s2 v0 v1 v2 vc x l _ (Fin.ext (by simp [row]))) (out10_1 i a a b k0 k1 k2 kc s0 s1 s2 v0 v1 v2 vc x l _ (Fin.ext (by simp [row])))

theorem st11 (i : Fin 32) (a b c : S) (k0 k1 k2 : T) (kc : U) (s0 s1 s2 s3 s4 s5 : EReal) (v0 v1 v2 : T) (vc : U) (x l : Fin 128) :
    k0_pay94 (k0_pay18 v0) (k0_pay19 v0) (k0_pay21 v1) (k0_pay22 v1) (k0_pay24 v2) (k0_pay25 v2) (k0_pay30 vc) (k0_pay31 vc) k0_pay35 (k0_pay73 (sk10 s0 s1 s2) (k0_pay69 (sl10 i a a b k0 k1 k2) (sc10 a a b kc) (sk10 s0 s1 s2)) (k0_pay71 (sl10 i a a b k0 k1 k2) (sc10 a a b kc) (sk10 s0 s1 s2)) (k0_pay72 (sl10 i a a b k0 k1 k2) (sc10 a a b kc) (sk10 s0 s1 s2))) (k0_pay74 (k0_pay70 (sl10 i a a b k0 k1 k2) (sc10 a a b kc) (sk10 s0 s1 s2))) (k0_pay75 (k0_pay71 (sl10 i a a b k0 k1 k2) (sc10 a a b kc) (sk10 s0 s1 s2))) (k0_pay79 (sl11 i b c c k0 k1 k2) (sc11 b c c kc) (sk11 s3 s4 s5)) (k0_pay80 (sl11 i b c c k0 k1 k2) (sc11 b c c kc) (sk11 s3 s4 s5)) (k0_pay81 (sl11 i b c c k0 k1 k2) (sc11 b c c kc) (sk11 s3 s4 s5)) (ix2 x l)
      = if l.val < 64 then headT (2 * i.val + 1) (row 0 x) (fun d => b (ix2 x (lo d))) lo k0 k1 k2 kc s2 (left l) v0 v1 v2 vc
        else headT (2 * i.val + 1) (row 0 x) (fun d => b (ix2 x (hi d))) hi k0 k1 k2 kc s3 (right l) v0 v1 v2 vc := by
  pointwise [k0_pay94, k0_pay35]
  rw [lane_word, sel_if]
  exact if_congr Iff.rfl (out10_2 i a a b k0 k1 k2 kc s0 s1 s2 v0 v1 v2 vc x l _ (Fin.ext (by simp [row]))) (out11_0 i b c c k0 k1 k2 kc s3 s4 s5 v0 v1 v2 vc x l _ (Fin.ext (by simp [row])))

theorem st12 (i : Fin 32) (a b c : S) (k0 k1 k2 : T) (kc : U) (s0 s1 s2 s3 s4 s5 : EReal) (v0 v1 v2 : T) (vc : U) (x l : Fin 128) :
    k0_pay1 (k0_pay95 (k0_pay19 v0) (k0_pay22 v1) (k0_pay25 v2) (k0_pay31 vc) k0_pay35 (k0_pay79 (sl11 i b c c k0 k1 k2) (sc11 b c c kc) (sk11 s3 s4 s5)) (k0_pay80 (sl11 i b c c k0 k1 k2) (sc11 b c c kc) (sk11 s3 s4 s5)) (k0_pay81 (sl11 i b c c k0 k1 k2) (sc11 b c c kc) (sk11 s3 s4 s5))) (ix2 x l)
      = if l.val < 64 then headT (2 * i.val + 1) (row 0 x) (fun d => c (ix2 x (lo d))) hi k0 k1 k2 kc s4 (right l) v0 v1 v2 vc
        else headT (2 * i.val + 1) (row 0 x) (fun d => c (ix2 x (hi d))) hi k0 k1 k2 kc s5 (right l) v0 v1 v2 vc := by
  pointwise [k0_pay1, k0_pay95, k0_pay35]
  rw [lane_word, sel_if]
  exact if_congr Iff.rfl (out11_1 i b c c k0 k1 k2 kc s3 s4 s5 v0 v1 v2 vc x l _ (Fin.ext (by simp [row]))) (out11_2 i b c c k0 k1 k2 kc s3 s4 s5 v0 v1 v2 vc x l _ (Fin.ext (by simp [row])))

end Cert.AttnTile

end
-- ==== Proof.Attn.Words.lean ====
/- One block of 256 queries of the attention kernel, read at an element. -/
module

public import proofs.«01_k».proof.Proof.Attn.Tiles
public import proofs.«01_k».proof.Proof.Gen.AttnIdeal.Value
public import Idealize.ShloMosaic.Lib.Pipeline.ValueKit

@[expose] public section

set_option maxRecDepth 16384

noncomputable section

namespace Cert.AttnTile

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

section
variable (c : Dev nD) (t : Fin cfg0.N)
/-- What the tile reads of the queries, of one block of keys or values, of the context, and of the sink. -/
abbrev rq (o : Fin 2 → ℕ) (h : ∀ a, o a + S128x128.size a ≤ S256x384.size a) : S :=
  View.readAt (Elt Ideal) (ms0_1 t).view (Rect.unit (s := S256x384) o S128x128.size h).toLoadRect ((hs0_1 t).unread (iblk m c 1 t))
abbrev rs (o : Fin 1 → ℕ) (h : ∀ a, o a + S1.size a ≤ S6.size a) : EReal :=
  View.readAt (Elt Ideal) (ms0_0 t).view (Rect.unit (s := S6) o S1.size h).toLoadRect ((hs0_0 t).unread (iblk m c 0 t)) (Shape.Idx.first (s := S1) (by decide))
abbrev r2 : T := View.readAt (Elt Ideal) (ms0_2 t).view (Rect.unit ![0, 0, 0] S1x128x128.size inb_S1x128x128_S1x128x128_0_0_0).toLoadRect ((hs0_2 t).unread (iblk m c 2 t))
abbrev r3 : T := View.readAt (Elt Ideal) (ms0_3 t).view (Rect.unit ![0, 0, 0] S1x128x128.size inb_S1x128x128_S1x128x128_0_0_0).toLoadRect ((hs0_3 t).unread (iblk m c 3 t))
abbrev r4 : T := View.readAt (Elt Ideal) (ms0_4 t).view (Rect.unit ![0, 0, 0] S1x128x128.size inb_S1x128x128_S1x128x128_0_0_0).toLoadRect ((hs0_4 t).unread (iblk m c 4 t))
abbrev r5 : T := View.readAt (Elt Ideal) (ms0_5 t).view (Rect.unit ![0, 0, 0] S1x128x128.size inb_S1x128x128_S1x128x128_0_0_0).toLoadRect ((hs0_5 t).unread (iblk m c 5 t))
abbrev r6 : T := View.readAt (Elt Ideal) (ms0_6 t).view (Rect.unit ![0, 0, 0] S1x128x128.size inb_S1x128x128_S1x128x128_0_0_0).toLoadRect ((hs0_6 t).unread (iblk m c 6 t))
abbrev r7 : T := View.readAt (Elt Ideal) (ms0_7 t).view (Rect.unit ![0, 0, 0] S1x128x128.size inb_S1x128x128_S1x128x128_0_0_0).toLoadRect ((hs0_7 t).unread (iblk m c 7 t))
abbrev r8 : T := View.readAt (Elt Ideal) (ms0_8 t).view (Rect.unit ![0, 0, 0] S1x128x128.size inb_S1x128x128_S1x128x128_0_0_0).toLoadRect ((hs0_8 t).unread (iblk m c 8 t))
abbrev r9 : T := View.readAt (Elt Ideal) (ms0_9 t).view (Rect.unit ![0, 0, 0] S1x128x128.size inb_S1x128x128_S1x128x128_0_0_0).toLoadRect ((hs0_9 t).unread (iblk m c 9 t))
abbrev r10 : U := View.readAt (Elt Ideal) (ms0_10 t).view (Rect.unit ![0, 0, 0] S1x256x128.size inb_S1x256x128_S1x256x128_0_0_0).toLoadRect ((hs0_10 t).unread (iblk m c 10 t))
abbrev r11 : U := View.readAt (Elt Ideal) (ms0_11 t).view (Rect.unit ![0, 0, 0] S1x256x128.size inb_S1x256x128_S1x256x128_0_0_0).toLoadRect ((hs0_11 t).unread (iblk m c 11 t))
end

theorem r2_at (c : Dev nD) (t : Fin cfg0.N) (x : Fin 128) (l : Fin 128) : r2 m c t (ix3 0 x l) = iblk m c 2 t (ix3 0 x l) := by
  simp only [View.readAt_eq_ld, (hs0_2 t).read_unread]
  pointwise

theorem r3_at (c : Dev nD) (t : Fin cfg0.N) (x : Fin 128) (l : Fin 128) : r3 m c t (ix3 0 x l) = iblk m c 3 t (ix3 0 x l) := by
  simp only [View.readAt_eq_ld, (hs0_3 t).read_unread]
  pointwise

theorem r4_at (c : Dev nD) (t : Fin cfg0.N) (x : Fin 128) (l : Fin 128) : r4 m c t (ix3 0 x l) = iblk m c 4 t (ix3 0 x l) := by
  simp only [View.readAt_eq_ld, (hs0_4 t).read_unread]
  pointwise

theorem r5_at (c : Dev nD) (t : Fin cfg0.N) (x : Fin 128) (l : Fin 128) : r5 m c t (ix3 0 x l) = iblk m c 5 t (ix3 0 x l) := by
  simp only [View.readAt_eq_ld, (hs0_5 t).read_unread]
  pointwise

theorem r6_at (c : Dev nD) (t : Fin cfg0.N) (x : Fin 128) (l : Fin 128) : r6 m c t (ix3 0 x l) = iblk m c 6 t (ix3 0 x l) := by
  simp only [View.readAt_eq_ld, (hs0_6 t).read_unread]
  pointwise

theorem r7_at (c : Dev nD) (t : Fin cfg0.N) (x : Fin 128) (l : Fin 128) : r7 m c t (ix3 0 x l) = iblk m c 7 t (ix3 0 x l) := by
  simp only [View.readAt_eq_ld, (hs0_7 t).read_unread]
  pointwise

theorem r8_at (c : Dev nD) (t : Fin cfg0.N) (x : Fin 128) (l : Fin 128) : r8 m c t (ix3 0 x l) = iblk m c 8 t (ix3 0 x l) := by
  simp only [View.readAt_eq_ld, (hs0_8 t).read_unread]
  pointwise

theorem r9_at (c : Dev nD) (t : Fin cfg0.N) (x : Fin 128) (l : Fin 128) : r9 m c t (ix3 0 x l) = iblk m c 9 t (ix3 0 x l) := by
  simp only [View.readAt_eq_ld, (hs0_9 t).read_unread]
  pointwise

theorem r10_at (c : Dev nD) (t : Fin cfg0.N) (x : Fin 256) (l : Fin 128) : r10 m c t (ix3 0 x l) = iblk m c 10 t (ix3 0 x l) := by
  simp only [View.readAt_eq_ld, (hs0_10 t).read_unread]
  pointwise

theorem r11_at (c : Dev nD) (t : Fin cfg0.N) (x : Fin 256) (l : Fin 128) : r11 m c t (ix3 0 x l) = iblk m c 11 t (ix3 0 x l) := by
  simp only [View.readAt_eq_ld, (hs0_11 t).read_unread]
  pointwise

theorem rq_at (c : Dev nD) (t : Fin cfg0.N) (o o' : ℕ) (h : ∀ a, ![o, o'] a + S128x128.size a ≤ S256x384.size a) (x l : Fin 128)
    (r : Fin 256) (k : Fin 384) (hr : r.val = o + x.val) (hk : k.val = o' + l.val) : rq m c t ![o, o'] h (ix2 x l) = iblk m c 1 t (ix2 r k) := by
  simp only [View.readAt_eq_ld, (hs0_1 t).read_unread]
  have e : r = ⟨o + x.val, hr ▸ r.isLt⟩ := Fin.ext hr
  have e' : k = ⟨o' + l.val, hk ▸ k.isLt⟩ := Fin.ext hk
  rw [e, e']
  pointwise

theorem rs_at (c : Dev nD) (t : Fin cfg0.N) (k : Fin 6) (h : ∀ a, ![k.val] a + S1.size a ≤ S6.size a) :
    rs m c t ![k.val] h = iblk m c 0 t (ix1 k) := by
  simp only [rs, View.readAt_eq_ld, (hs0_0 t).read_unread]
  pointwise

section
variable (c : Dev nD) (t : Fin cfg0.N)
theorem w_v4 : kernelRun0_A.sl.v4 (F := Ideal) c (ms0_2 t) (hs0_2 t) (iblk m c 2 t) = k0_pay3 (r2 m c t) := rfl
theorem w_v28 : kernelRun0_A.sl.v28 (F := Ideal) c (ms0_6 t) (hs0_6 t) (iblk m c 6 t) = k0_pay15 (r6 m c t) := rfl
theorem w_v5 : kernelRun0_A.sl.v5 (F := Ideal) c (ms0_2 t) (hs0_2 t) (iblk m c 2 t) = k0_pay4 (r2 m c t) := rfl
theorem w_v29 : kernelRun0_A.sl.v29 (F := Ideal) c (ms0_6 t) (hs0_6 t) (iblk m c 6 t) = k0_pay16 (r6 m c t) := rfl
theorem w_v10 : kernelRun0_A.sl.v10 (F := Ideal) c (ms0_3 t) (hs0_3 t) (iblk m c 3 t) = k0_pay6 (r3 m c t) := rfl
theorem w_v34 : kernelRun0_A.sl.v34 (F := Ideal) c (ms0_7 t) (hs0_7 t) (iblk m c 7 t) = k0_pay18 (r7 m c t) := rfl
theorem w_v11 : kernelRun0_A.sl.v11 (F := Ideal) c (ms0_3 t) (hs0_3 t) (iblk m c 3 t) = k0_pay7 (r3 m c t) := rfl
theorem w_v35 : kernelRun0_A.sl.v35 (F := Ideal) c (ms0_7 t) (hs0_7 t) (iblk m c 7 t) = k0_pay19 (r7 m c t) := rfl
theorem w_v16 : kernelRun0_A.sl.v16 (F := Ideal) c (ms0_4 t) (hs0_4 t) (iblk m c 4 t) = k0_pay9 (r4 m c t) := rfl
theorem w_v40 : kernelRun0_A.sl.v40 (F := Ideal) c (ms0_8 t) (hs0_8 t) (iblk m c 8 t) = k0_pay21 (r8 m c t) := rfl
theorem w_v17 : kernelRun0_A.sl.v17 (F := Ideal) c (ms0_4 t) (hs0_4 t) (iblk m c 4 t) = k0_pay10 (r4 m c t) := rfl
theorem w_v41 : kernelRun0_A.sl.v41 (F := Ideal) c (ms0_8 t) (hs0_8 t) (iblk m c 8 t) = k0_pay22 (r8 m c t) := rfl
theorem w_v22 : kernelRun0_A.sl.v22 (F := Ideal) c (ms0_5 t) (hs0_5 t) (iblk m c 5 t) = k0_pay12 (r5 m c t) := rfl
theorem w_v46 : kernelRun0_A.sl.v46 (F := Ideal) c (ms0_9 t) (hs0_9 t) (iblk m c 9 t) = k0_pay24 (r9 m c t) := rfl
theorem w_v23 : kernelRun0_A.sl.v23 (F := Ideal) c (ms0_5 t) (hs0_5 t) (iblk m c 5 t) = k0_pay13 (r5 m c t) := rfl
theorem w_v47 : kernelRun0_A.sl.v47 (F := Ideal) c (ms0_9 t) (hs0_9 t) (iblk m c 9 t) = k0_pay25 (r9 m c t) := rfl
theorem w_v52 : kernelRun0_A.sl.v52 (F := Ideal) c (ms0_10 t) (hs0_10 t) (iblk m c 10 t) = k0_pay27 (r10 m c t) := rfl
theorem w_v58 : kernelRun0_A.sl.v58 (F := Ideal) c (ms0_11 t) (hs0_11 t) (iblk m c 11 t) = k0_pay30 (r11 m c t) := rfl
theorem w_v53 : kernelRun0_A.sl.v53 (F := Ideal) c (ms0_10 t) (hs0_10 t) (iblk m c 10 t) = k0_pay28 (r10 m c t) := rfl
theorem w_v59 : kernelRun0_A.sl.v59 (F := Ideal) c (ms0_11 t) (hs0_11 t) (iblk m c 11 t) = k0_pay31 (r11 m c t) := rfl
theorem w_v111 : cmpi CmpIPredicate.slt kernelRun0_A.sl.v109 kernelRun0_A.sl.v110 = k0_pay35 := rfl
theorem w_v77 : kernelRun0_A.sl.v77 = lanes := rfl
theorem w_v80 : kernelRun0_A.sl.v80 = k0_pay32 := rfl
theorem w_v83 : kernelRun0_A.sl.v83 = k0_pay33 k0_pay32 := rfl
theorem w_v108 : kernelRun0_A.sl.v108 = k0_pay34 := rfl
theorem w_v125 : kernelRun0_A.sl.v125 (grid0.coords t) = k0_pay36 (BitVec.ofNat 32 (grid0.coords t 1).val) lanes k0_pay32 := rfl
theorem w_r15 : kernelRun0_A.sl.r_15 (grid0.coords t) = k0_pay48 lanes (w1 (grid0.coords t 1)) (k0_pay46 (BitVec.ofNat 32 (grid0.coords t 1).val) lanes (k0_pay33 k0_pay32)) k0_pay47 := rfl
theorem w_r_4 : kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t) = sl00 (grid0.coords t 1) (rq m c t ![0, 0] inb_S256x384_S128x128_0_0) (rq m c t ![0, 0] inb_S256x384_S128x128_0_0) (rq m c t ![0, 128] inb_S256x384_S128x128_0_128) (r2 m c t) (r3 m c t) (r4 m c t) := rfl
theorem w_r_5 : kernelRun0_A.sl.r_5 (F := Ideal) c (ms0_1 t) (hs0_1 t) (ms0_10 t) (hs0_10 t) (iblk m c 1 t) (iblk m c 10 t) = sc00 (rq m c t ![0, 0] inb_S256x384_S128x128_0_0) (rq m c t ![0, 0] inb_S256x384_S128x128_0_0) (rq m c t ![0, 128] inb_S256x384_S128x128_0_128) (r10 m c t) := rfl
theorem w_r_6 : kernelRun0_A.sl.r_6 (F := Ideal) c (ms0_0 t) (hs0_0 t) (iblk m c 0 t) = sk00 (rs m c t ![0] inb_S6_S1_0) (rs m c t ![1] inb_S6_S1_1) (rs m c t ![2] inb_S6_S1_2) := rfl
theorem w_r_11 : kernelRun0_A.sl.r_11 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t) = sl01 (grid0.coords t 1) (rq m c t ![0, 128] inb_S256x384_S128x128_0_128) (rq m c t ![0, 256] inb_S256x384_S128x128_0_256) (rq m c t ![0, 256] inb_S256x384_S128x128_0_256) (r2 m c t) (r3 m c t) (r4 m c t) := rfl
theorem w_r_12 : kernelRun0_A.sl.r_12 (F := Ideal) c (ms0_1 t) (hs0_1 t) (ms0_10 t) (hs0_10 t) (iblk m c 1 t) (iblk m c 10 t) = sc01 (rq m c t ![0, 128] inb_S256x384_S128x128_0_128) (rq m c t ![0, 256] inb_S256x384_S128x128_0_256) (rq m c t ![0, 256] inb_S256x384_S128x128_0_256) (r10 m c t) := rfl
theorem w_r_13 : kernelRun0_A.sl.r_13 (F := Ideal) c (ms0_0 t) (hs0_0 t) (iblk m c 0 t) = sk01 (rs m c t ![3] inb_S6_S1_3) (rs m c t ![4] inb_S6_S1_4) (rs m c t ![5] inb_S6_S1_5) := rfl
theorem w_r_16 : kernelRun0_A.sl.r_16 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t) = sl10 (grid0.coords t 1) (rq m c t ![128, 0] inb_S256x384_S128x128_128_0) (rq m c t ![128, 0] inb_S256x384_S128x128_128_0) (rq m c t ![128, 128] inb_S256x384_S128x128_128_128) (r3 m c t) (r4 m c t) (r5 m c t) := rfl
theorem w_r_17 : kernelRun0_A.sl.r_17 (F := Ideal) c (ms0_1 t) (hs0_1 t) (ms0_10 t) (hs0_10 t) (iblk m c 1 t) (iblk m c 10 t) = sc10 (rq m c t ![128, 0] inb_S256x384_S128x128_128_0) (rq m c t ![128, 0] inb_S256x384_S128x128_128_0) (rq m c t ![128, 128] inb_S256x384_S128x128_128_128) (r10 m c t) := rfl
theorem w_r_18 : kernelRun0_A.sl.r_18 (F := Ideal) c (ms0_0 t) (hs0_0 t) (iblk m c 0 t) = sk10 (rs m c t ![0] inb_S6_S1_0) (rs m c t ![1] inb_S6_S1_1) (rs m c t ![2] inb_S6_S1_2) := rfl
theorem w_r_19 : kernelRun0_A.sl.r_19 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t) = sl11 (grid0.coords t 1) (rq m c t ![128, 128] inb_S256x384_S128x128_128_128) (rq m c t ![128, 256] inb_S256x384_S128x128_128_256) (rq m c t ![128, 256] inb_S256x384_S128x128_128_256) (r3 m c t) (r4 m c t) (r5 m c t) := rfl
theorem w_r_20 : kernelRun0_A.sl.r_20 (F := Ideal) c (ms0_1 t) (hs0_1 t) (ms0_10 t) (hs0_10 t) (iblk m c 1 t) (iblk m c 10 t) = sc11 (rq m c t ![128, 128] inb_S256x384_S128x128_128_128) (rq m c t ![128, 256] inb_S256x384_S128x128_128_256) (rq m c t ![128, 256] inb_S256x384_S128x128_128_256) (r10 m c t) := rfl
theorem w_r_21 : kernelRun0_A.sl.r_21 (F := Ideal) c (ms0_0 t) (hs0_0 t) (iblk m c 0 t) = sk11 (rs m c t ![3] inb_S6_S1_3) (rs m c t ![4] inb_S6_S1_4) (rs m c t ![5] inb_S6_S1_5) := rfl
theorem w_v295 : kernelRun0_A.sl.v295 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay60 (kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_5 (F := Ideal) c (ms0_1 t) (hs0_1 t) (ms0_10 t) (hs0_10 t) (iblk m c 1 t) (iblk m c 10 t)) (kernelRun0_A.sl.r_6 (F := Ideal) c (ms0_0 t) (hs0_0 t) (iblk m c 0 t)) (k0_pay57 (kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_5 (F := Ideal) c (ms0_1 t) (hs0_1 t) (ms0_10 t) (hs0_10 t) (iblk m c 1 t) (iblk m c 10 t)) (kernelRun0_A.sl.r_6 (F := Ideal) c (ms0_0 t) (hs0_0 t) (iblk m c 0 t))) := rfl
theorem w_v296 : kernelRun0_A.sl.v296 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay61 (kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (k0_pay57 (kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_5 (F := Ideal) c (ms0_1 t) (hs0_1 t) (ms0_10 t) (hs0_10 t) (iblk m c 1 t) (iblk m c 10 t)) (kernelRun0_A.sl.r_6 (F := Ideal) c (ms0_0 t) (hs0_0 t) (iblk m c 0 t))) := rfl
theorem w_v297 : kernelRun0_A.sl.v297 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay62 (kernelRun0_A.sl.r_5 (F := Ideal) c (ms0_1 t) (hs0_1 t) (ms0_10 t) (hs0_10 t) (iblk m c 1 t) (iblk m c 10 t)) (k0_pay57 (kernelRun0_A.sl.r_4 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_5 (F := Ideal) c (ms0_1 t) (hs0_1 t) (ms0_10 t) (hs0_10 t) (iblk m c 1 t) (iblk m c 10 t)) (kernelRun0_A.sl.r_6 (F := Ideal) c (ms0_0 t) (hs0_0 t) (iblk m c 0 t))) := rfl
theorem w_v317 : kernelRun0_A.sl.v317 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay66 (kernelRun0_A.sl.r_11 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_12 (F := Ideal) c (ms0_1 t) (hs0_1 t) (ms0_10 t) (hs0_10 t) (iblk m c 1 t) (iblk m c 10 t)) (kernelRun0_A.sl.r_13 (F := Ideal) c (ms0_0 t) (hs0_0 t) (iblk m c 0 t)) := rfl
theorem w_v318 : kernelRun0_A.sl.v318 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay67 (kernelRun0_A.sl.r_11 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_12 (F := Ideal) c (ms0_1 t) (hs0_1 t) (ms0_10 t) (hs0_10 t) (iblk m c 1 t) (iblk m c 10 t)) (kernelRun0_A.sl.r_13 (F := Ideal) c (ms0_0 t) (hs0_0 t) (iblk m c 0 t)) := rfl
theorem w_v319 : kernelRun0_A.sl.v319 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t) = k0_pay68 (kernelRun0_A.sl.r_11 (F := Ideal) c (grid0.coords t) (ms0_1 t) (hs0_1 t) (ms0_2 t) (hs0_2 t) (ms0_3 t) (hs0_3 t) (ms0_4 t) (hs0_4 t) (iblk m c 1 t) (iblk m c 2 t) (iblk m c 3 t) (iblk m c 4 t)) (kernelRun0_A.sl.r_12 (F := Ideal) c (ms0_1 t) (hs0_1 t) (ms0_10 t) (hs0_10 t) (iblk m c 1 t) (iblk m c 10 t)) (kernelRun0_A.sl.r_13 (F := Ideal) c (ms0_0 t) (hs0_0 t) (iblk m c 0 t)) := rfl
theorem w_v325 : kernelRun0_A.sl.v325 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay69 (kernelRun0_A.sl.r_16 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_17 (F := Ideal) c (ms0_1 t) (hs0_1 t) (ms0_10 t) (hs0_10 t) (iblk m c 1 t) (iblk m c 10 t)) (kernelRun0_A.sl.r_18 (F := Ideal) c (ms0_0 t) (hs0_0 t) (iblk m c 0 t)) := rfl
theorem w_v328 : kernelRun0_A.sl.v328 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay70 (kernelRun0_A.sl.r_16 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_17 (F := Ideal) c (ms0_1 t) (hs0_1 t) (ms0_10 t) (hs0_10 t) (iblk m c 1 t) (iblk m c 10 t)) (kernelRun0_A.sl.r_18 (F := Ideal) c (ms0_0 t) (hs0_0 t) (iblk m c 0 t)) := rfl
theorem w_v331 : kernelRun0_A.sl.v331 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay71 (kernelRun0_A.sl.r_16 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_17 (F := Ideal) c (ms0_1 t) (hs0_1 t) (ms0_10 t) (hs0_10 t) (iblk m c 1 t) (iblk m c 10 t)) (kernelRun0_A.sl.r_18 (F := Ideal) c (ms0_0 t) (hs0_0 t) (iblk m c 0 t)) := rfl
theorem w_v332 : kernelRun0_A.sl.v332 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay72 (kernelRun0_A.sl.r_16 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_17 (F := Ideal) c (ms0_1 t) (hs0_1 t) (ms0_10 t) (hs0_10 t) (iblk m c 1 t) (iblk m c 10 t)) (kernelRun0_A.sl.r_18 (F := Ideal) c (ms0_0 t) (hs0_0 t) (iblk m c 0 t)) := rfl
theorem w_v339 : kernelRun0_A.sl.v339 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay73 (kernelRun0_A.sl.r_18 (F := Ideal) c (ms0_0 t) (hs0_0 t) (iblk m c 0 t)) (kernelRun0_A.sl.v325 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) (kernelRun0_A.sl.v331 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) (kernelRun0_A.sl.v332 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) := rfl
theorem w_v340 : kernelRun0_A.sl.v340 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay74 (kernelRun0_A.sl.v328 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) := rfl
theorem w_v341 : kernelRun0_A.sl.v341 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay75 (kernelRun0_A.sl.v331 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) := rfl
theorem w_v361 : kernelRun0_A.sl.v361 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay79 (kernelRun0_A.sl.r_19 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_20 (F := Ideal) c (ms0_1 t) (hs0_1 t) (ms0_10 t) (hs0_10 t) (iblk m c 1 t) (iblk m c 10 t)) (kernelRun0_A.sl.r_21 (F := Ideal) c (ms0_0 t) (hs0_0 t) (iblk m c 0 t)) := rfl
theorem w_v362 : kernelRun0_A.sl.v362 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay80 (kernelRun0_A.sl.r_19 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_20 (F := Ideal) c (ms0_1 t) (hs0_1 t) (ms0_10 t) (hs0_10 t) (iblk m c 1 t) (iblk m c 10 t)) (kernelRun0_A.sl.r_21 (F := Ideal) c (ms0_0 t) (hs0_0 t) (iblk m c 0 t)) := rfl
theorem w_v363 : kernelRun0_A.sl.v363 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t) = k0_pay81 (kernelRun0_A.sl.r_19 (F := Ideal) c (grid0.coords t) (ms0_1 t) (hs0_1 t) (ms0_3 t) (hs0_3 t) (ms0_4 t) (hs0_4 t) (ms0_5 t) (hs0_5 t) (iblk m c 1 t) (iblk m c 3 t) (iblk m c 4 t) (iblk m c 5 t)) (kernelRun0_A.sl.r_20 (F := Ideal) c (ms0_1 t) (hs0_1 t) (ms0_10 t) (hs0_10 t) (iblk m c 1 t) (iblk m c 10 t)) (kernelRun0_A.sl.r_21 (F := Ideal) c (ms0_0 t) (hs0_0 t) (iblk m c 0 t)) := rfl
theorem w_v383 : kernelRun0_A.sl.v383 (F := Ideal) c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_10 t) (hs0_10 t) (ms0_11 t) (hs0_11 t) (iblk m c 0 t) (iblk m c 1 t) (iblk m c 2 t) (iblk m c 3 t) (iblk m c 4 t) (iblk m c 6 t) (iblk m c 7 t) (iblk m c 8 t) (iblk m c 10 t) (iblk m c 11 t) = k0_pay88 (kernelRun0_A.sl.v28 (F := Ideal) c (ms0_6 t) (hs0_6 t) (iblk m c 6 t)) (kernelRun0_A.sl.v34 (F := Ideal) c (ms0_7 t) (hs0_7 t) (iblk m c 7 t)) (kernelRun0_A.sl.v40 (F := Ideal) c (ms0_8 t) (hs0_8 t) (iblk m c 8 t)) (kernelRun0_A.sl.v58 (F := Ideal) c (ms0_11 t) (hs0_11 t) (iblk m c 11 t)) (cmpi CmpIPredicate.slt kernelRun0_A.sl.v109 kernelRun0_A.sl.v110) (kernelRun0_A.sl.v295 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v296 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v297 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) := rfl
theorem w_v372 : kernelRun0_A.sl.v372 (F := Ideal) c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_10 t) (hs0_10 t) (ms0_11 t) (hs0_11 t) (iblk m c 0 t) (iblk m c 1 t) (iblk m c 2 t) (iblk m c 3 t) (iblk m c 4 t) (iblk m c 6 t) (iblk m c 7 t) (iblk m c 8 t) (iblk m c 10 t) (iblk m c 11 t) = k0_pay83 (kernelRun0_A.sl.v28 (F := Ideal) c (ms0_6 t) (hs0_6 t) (iblk m c 6 t)) (kernelRun0_A.sl.v34 (F := Ideal) c (ms0_7 t) (hs0_7 t) (iblk m c 7 t)) (kernelRun0_A.sl.v40 (F := Ideal) c (ms0_8 t) (hs0_8 t) (iblk m c 8 t)) (kernelRun0_A.sl.v58 (F := Ideal) c (ms0_11 t) (hs0_11 t) (iblk m c 11 t)) (kernelRun0_A.sl.v295 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v296 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v297 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) := rfl
theorem w_v379 : kernelRun0_A.sl.v379 (F := Ideal) c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_10 t) (hs0_10 t) (ms0_11 t) (hs0_11 t) (iblk m c 0 t) (iblk m c 1 t) (iblk m c 2 t) (iblk m c 3 t) (iblk m c 4 t) (iblk m c 6 t) (iblk m c 7 t) (iblk m c 8 t) (iblk m c 10 t) (iblk m c 11 t) = k0_pay85 (kernelRun0_A.sl.v29 (F := Ideal) c (ms0_6 t) (hs0_6 t) (iblk m c 6 t)) (kernelRun0_A.sl.v35 (F := Ideal) c (ms0_7 t) (hs0_7 t) (iblk m c 7 t)) (kernelRun0_A.sl.v41 (F := Ideal) c (ms0_8 t) (hs0_8 t) (iblk m c 8 t)) (kernelRun0_A.sl.v59 (F := Ideal) c (ms0_11 t) (hs0_11 t) (iblk m c 11 t)) (kernelRun0_A.sl.v317 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v318 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v319 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) := rfl
theorem w_v380 : kernelRun0_A.sl.v380 (F := Ideal) c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_10 t) (hs0_10 t) (ms0_11 t) (hs0_11 t) (iblk m c 0 t) (iblk m c 1 t) (iblk m c 2 t) (iblk m c 3 t) (iblk m c 4 t) (iblk m c 6 t) (iblk m c 7 t) (iblk m c 8 t) (iblk m c 10 t) (iblk m c 11 t) = k0_pay86 (kernelRun0_A.sl.v29 (F := Ideal) c (ms0_6 t) (hs0_6 t) (iblk m c 6 t)) (kernelRun0_A.sl.v35 (F := Ideal) c (ms0_7 t) (hs0_7 t) (iblk m c 7 t)) (kernelRun0_A.sl.v41 (F := Ideal) c (ms0_8 t) (hs0_8 t) (iblk m c 8 t)) (kernelRun0_A.sl.v59 (F := Ideal) c (ms0_11 t) (hs0_11 t) (iblk m c 11 t)) (kernelRun0_A.sl.v317 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v318 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v319 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) := rfl
theorem w_v381 : kernelRun0_A.sl.v381 (F := Ideal) c (grid0.coords t) (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_10 t) (hs0_10 t) (ms0_11 t) (hs0_11 t) (iblk m c 0 t) (iblk m c 1 t) (iblk m c 2 t) (iblk m c 3 t) (iblk m c 4 t) (iblk m c 6 t) (iblk m c 7 t) (iblk m c 8 t) (iblk m c 10 t) (iblk m c 11 t) = k0_pay87 (kernelRun0_A.sl.v29 (F := Ideal) c (ms0_6 t) (hs0_6 t) (iblk m c 6 t)) (kernelRun0_A.sl.v35 (F := Ideal) c (ms0_7 t) (hs0_7 t) (iblk m c 7 t)) (kernelRun0_A.sl.v41 (F := Ideal) c (ms0_8 t) (hs0_8 t) (iblk m c 8 t)) (kernelRun0_A.sl.v59 (F := Ideal) c (ms0_11 t) (hs0_11 t) (iblk m c 11 t)) (kernelRun0_A.sl.v317 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v318 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) (kernelRun0_A.sl.v319 (F := Ideal) c (grid0.coords t) (ms0_0 t) (hs0_0 t) (ms0_1 t) (hs0_1 t) (ms0_2 t) (hs0_2 t) (ms0_3 t) (hs0_3 t) (ms0_4 t) (hs0_4 t) (ms0_10 t) (hs0_10 t) (iblk m c 0 t) (iblk m c 1 t) (iblk m c 2 t) (iblk m c 3 t) (iblk m c 4 t) (iblk m c 10 t)) := rfl
theorem w_r_23 : kernelRun0_A.sl.r_23 (F := Ideal) c (grid0.coords t) (ms0_0 t) (hs0_0 t) (ms0_1 t) (hs0_1 t) (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (iblk m c 0 t) (iblk m c 1 t) (iblk m c 3 t) (iblk m c 4 t) (iblk m c 5 t) (iblk m c 7 t) (iblk m c 8 t) (iblk m c 9 t) (iblk m c 10 t) (iblk m c 11 t) = k0_pay95 (kernelRun0_A.sl.v35 (F := Ideal) c (ms0_7 t) (hs0_7 t) (iblk m c 7 t)) (kernelRun0_A.sl.v41 (F := Ideal) c (ms0_8 t) (hs0_8 t) (iblk m c 8 t)) (kernelRun0_A.sl.v47 (F := Ideal) c (ms0_9 t) (hs0_9 t) (iblk m c 9 t)) (kernelRun0_A.sl.v59 (F := Ideal) c (ms0_11 t) (hs0_11 t) (iblk m c 11 t)) (cmpi CmpIPredicate.slt kernelRun0_A.sl.v109 kernelRun0_A.sl.v110) (kernelRun0_A.sl.v361 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) (kernelRun0_A.sl.v362 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) (kernelRun0_A.sl.v363 (F := Ideal) c (grid0.coords t) (ms0_0 t) (hs0_0 t) (ms0_1 t) (hs0_1 t) (ms0_3 t) (hs0_3 t) (ms0_4 t) (hs0_4 t) (ms0_5 t) (hs0_5 t) (ms0_10 t) (hs0_10 t) (iblk m c 0 t) (iblk m c 1 t) (iblk m c 3 t) (iblk m c 4 t) (iblk m c 5 t) (iblk m c 10 t)) := rfl
end

end Cert.AttnTile

end
-- ==== Proof.Attn.Glob.lean ====
/- What the attention kernel's blocks hold of the arguments. -/
module

public import proofs.«01_k».proof.Proof.Attn.Words
public import proofs.«01_k».proof.Proof.Gen.AttnIdeal.Value
public import Idealize.ShloMosaic.Lib.Pipeline.ValueKit

@[expose] public section

set_option maxRecDepth 16384

noncomputable section

namespace Cert.AttnTile

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev aq (c : Dev nD) : S8x8192x6x64.Idx → EReal := m ((c : Thread nD τ).loc main_arg0)
abbrev ak (c : Dev nD) : S8x8192x2x64.Idx → EReal := m ((c : Thread nD τ).loc main_arg1)
abbrev av (c : Dev nD) : S8x8192x2x64.Idx → EReal := m ((c : Thread nD τ).loc main_arg2)
abbrev akc (c : Dev nD) : S8x256x2x64.Idx → EReal := m ((c : Thread nD τ).loc main_arg3)
abbrev avc (c : Dev nD) : S8x256x2x64.Idx → EReal := m ((c : Thread nD τ).loc main_arg4)
abbrev ask (c : Dev nD) : S6.Idx → EReal := m ((c : Thread nD τ).loc main_arg5)

theorem idx : ∀ t : Fin cfg0.N, win0_0.index t = ![0] ∧ win0_1.index t = ![t.val, 0]
    ∧ win0_2.index t = ![t.val / 32, min 63 (2 * (t.val % 32) + 0 - 1), 0]
    ∧ win0_3.index t = ![t.val / 32, min 63 (2 * (t.val % 32) + 1 - 1), 0]
    ∧ win0_4.index t = ![t.val / 32, min 63 (2 * (t.val % 32) + 2 - 1), 0]
    ∧ win0_5.index t = ![t.val / 32, min 63 (2 * (t.val % 32) + 3 - 1), 0]
    ∧ win0_6.index t = ![t.val / 32, min 63 (2 * (t.val % 32) + 0 - 1), 0]
    ∧ win0_7.index t = ![t.val / 32, min 63 (2 * (t.val % 32) + 1 - 1), 0]
    ∧ win0_8.index t = ![t.val / 32, min 63 (2 * (t.val % 32) + 2 - 1), 0]
    ∧ win0_9.index t = ![t.val / 32, min 63 (2 * (t.val % 32) + 3 - 1), 0]
    ∧ win0_10.index t = ![t.val / 32, 0, 0] ∧ win0_11.index t = ![t.val / 32, 0, 0] ∧ win0_12.index t = ![t.val, 0]
    ∧ (grid0.coords t 1).val = t.val % 32 :=
  (by decide +kernel : ∀ t : Fin grid0.N, win0_0.index t = ![0] ∧ win0_1.index t = ![t.val, 0]
    ∧ win0_2.index t = ![t.val / 32, min 63 (2 * (t.val % 32) + 0 - 1), 0]
    ∧ win0_3.index t = ![t.val / 32, min 63 (2 * (t.val % 32) + 1 - 1), 0]
    ∧ win0_4.index t = ![t.val / 32, min 63 (2 * (t.val % 32) + 2 - 1), 0]
    ∧ win0_5.index t = ![t.val / 32, min 63 (2 * (t.val % 32) + 3 - 1), 0]
    ∧ win0_6.index t = ![t.val / 32, min 63 (2 * (t.val % 32) + 0 - 1), 0]
    ∧ win0_7.index t = ![t.val / 32, min 63 (2 * (t.val % 32) + 1 - 1), 0]
    ∧ win0_8.index t = ![t.val / 32, min 63 (2 * (t.val % 32) + 2 - 1), 0]
    ∧ win0_9.index t = ![t.val / 32, min 63 (2 * (t.val % 32) + 3 - 1), 0]
    ∧ win0_10.index t = ![t.val / 32, 0, 0] ∧ win0_11.index t = ![t.val / 32, 0, 0] ∧ win0_12.index t = ![t.val, 0]
    ∧ (grid0.coords t 1).val = t.val % 32)

theorem val_q (c : Dev nD) (r : Fin 65536) (k : Fin 384) : V m c main_v3 (ix2 r k)
    = aq m c (ix4 ⟨r.val / 8192, by omega⟩ ⟨r.val % 8192, by omega⟩ ⟨k.val / 64, by omega⟩ ⟨k.val % 64, by omega⟩)
      * Ideal.ofBits .f32 0x3E000000#32 := by
  entry_read
  pointwise

theorem val_k (c : Dev nD) (b : Fin 8) (s : Fin 8192) (l : Fin 128) : V m c main_v5 (ix3 b s l)
    = ak m c (ix4 b s ⟨l.val / 64, by omega⟩ ⟨l.val % 64, by omega⟩) := by
  entry_read
  pointwise

theorem val_v (c : Dev nD) (b : Fin 8) (s : Fin 8192) (l : Fin 128) : V m c main_v7 (ix3 b s l)
    = av m c (ix4 b s ⟨l.val / 64, by omega⟩ ⟨l.val % 64, by omega⟩) := by
  entry_read
  pointwise

theorem val_kc (c : Dev nD) (b : Fin 8) (s : Fin 256) (l : Fin 128) : V m c main_v9 (ix3 b s l)
    = akc m c (ix4 b s ⟨l.val / 64, by omega⟩ ⟨l.val % 64, by omega⟩) := by
  entry_read
  pointwise

theorem val_vc (c : Dev nD) (b : Fin 8) (s : Fin 256) (l : Fin 128) : V m c main_v11 (ix3 b s l)
    = avc m c (ix4 b s ⟨l.val / 64, by omega⟩ ⟨l.val % 64, by omega⟩) := by
  entry_read
  pointwise

theorem t_lt (t : Fin cfg0.N) : t.val < 256 := lt_of_lt_of_eq t.isLt N_0

theorem win1 (c : Dev nD) (t : Fin cfg0.N) (x : Fin 256) (k : Fin 384) : iblk m c 1 t (ix2 x k)
    = V m c main_v3 (ix2 ⟨t.val * 256 + x.val, by have := t_lt t; omega⟩ k) := by
  blk_ext [iblk, idx t]

theorem win0 (c : Dev nD) (t : Fin cfg0.N) (k : Fin 6) : iblk m c 0 t (ix1 k) = ask m c (ix1 k) := by
  blk_simp [iblk, V, idx t]
  blk_ext [idx t]

theorem win2 (c : Dev nD) (t : Fin cfg0.N) (x l : Fin 128) : r2 m c t (ix3 0 x l)
    = V m c main_v5 (ix3 ⟨t.val / 32, by have := t_lt t; omega⟩ ⟨min 63 (2 * (t.val % 32) + 0 - 1) * 128 + x.val, by omega⟩ l) := by
  rw [r2_at]
  blk_ext [iblk, idx t]

theorem win3 (c : Dev nD) (t : Fin cfg0.N) (x l : Fin 128) : r3 m c t (ix3 0 x l)
    = V m c main_v5 (ix3 ⟨t.val / 32, by have := t_lt t; omega⟩ ⟨min 63 (2 * (t.val % 32) + 1 - 1) * 128 + x.val, by omega⟩ l) := by
  rw [r3_at]
  blk_ext [iblk, idx t]

theorem win4 (c : Dev nD) (t : Fin cfg0.N) (x l : Fin 128) : r4 m c t (ix3 0 x l)
    = V m c main_v5 (ix3 ⟨t.val / 32, by have := t_lt t; omega⟩ ⟨min 63 (2 * (t.val % 32) + 2 - 1) * 128 + x.val, by omega⟩ l) := by
  rw [r4_at]
  blk_ext [iblk, idx t]

theorem win5 (c : Dev nD) (t : Fin cfg0.N) (x l : Fin 128) : r5 m c t (ix3 0 x l)
    = V m c main_v5 (ix3 ⟨t.val / 32, by have := t_lt t; omega⟩ ⟨min 63 (2 * (t.val % 32) + 3 - 1) * 128 + x.val, by omega⟩ l) := by
  rw [r5_at]
  blk_ext [iblk, idx t]

theorem win6 (c : Dev nD) (t : Fin cfg0.N) (x l : Fin 128) : r6 m c t (ix3 0 x l)
    = V m c main_v7 (ix3 ⟨t.val / 32, by have := t_lt t; omega⟩ ⟨min 63 (2 * (t.val % 32) + 0 - 1) * 128 + x.val, by omega⟩ l) := by
  rw [r6_at]
  blk_ext [iblk, idx t]

theorem win7 (c : Dev nD) (t : Fin cfg0.N) (x l : Fin 128) : r7 m c t (ix3 0 x l)
    = V m c main_v7 (ix3 ⟨t.val / 32, by have := t_lt t; omega⟩ ⟨min 63 (2 * (t.val % 32) + 1 - 1) * 128 + x.val, by omega⟩ l) := by
  rw [r7_at]
  blk_ext [iblk, idx t]

theorem win8 (c : Dev nD) (t : Fin cfg0.N) (x l : Fin 128) : r8 m c t (ix3 0 x l)
    = V m c main_v7 (ix3 ⟨t.val / 32, by have := t_lt t; omega⟩ ⟨min 63 (2 * (t.val % 32) + 2 - 1) * 128 + x.val, by omega⟩ l) := by
  rw [r8_at]
  blk_ext [iblk, idx t]

theorem win9 (c : Dev nD) (t : Fin cfg0.N) (x l : Fin 128) : r9 m c t (ix3 0 x l)
    = V m c main_v7 (ix3 ⟨t.val / 32, by have := t_lt t; omega⟩ ⟨min 63 (2 * (t.val % 32) + 3 - 1) * 128 + x.val, by omega⟩ l) := by
  rw [r9_at]
  blk_ext [iblk, idx t]

theorem win10 (c : Dev nD) (t : Fin cfg0.N) (x : Fin 256) (l : Fin 128) : r10 m c t (ix3 0 x l)
    = V m c main_v9 (ix3 ⟨t.val / 32, by have := t_lt t; omega⟩ x l) := by
  rw [r10_at]
  blk_ext [iblk, idx t]

theorem win11 (c : Dev nD) (t : Fin cfg0.N) (x : Fin 256) (l : Fin 128) : r11 m c t (ix3 0 x l)
    = V m c main_v11 (ix3 ⟨t.val / 32, by have := t_lt t; omega⟩ x l) := by
  rw [r11_at]
  blk_ext [iblk, idx t]

end Cert.AttnTile

end
-- ==== Proof.Attn.Kern.lean ====
/- The result array of the attention kernel: each entry is one head's attention for one query. -/
module

public import proofs.«01_k».proof.Proof.Attn.Glob
public import proofs.«01_k».proof.Proof.Gen.AttnIdeal.Value
public import Idealize.ShloMosaic.Lib.Pipeline.ValueKit

@[expose] public section

set_option maxRecDepth 16384

noncomputable section

namespace Cert.AttnTile

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The position in the sequence of key `n` of the window around tile `bi`, kept inside the sequence. -/
abbrev pos (bi : ℕ) (n : Fin 384) : Fin 8192 := ⟨min 63 (bi + n.val / 128 - 1) * 128 + n.val % 128, by omega⟩

/-- The kernel's function of its arguments at one entry of its result. -/
def outK (q : S8x8192x6x64.Idx → EReal) (k v : S8x8192x2x64.Idx → EReal) (kc vc : S8x256x2x64.Idx → EReal) (sk : S6.Idx → EReal)
    (b : Fin 8) (s : Fin 8192) (h : Fin 6) (e : Fin 64) : EReal :=
  head (s.val / 128) (row 0 ⟨s.val % 128, by omega⟩) (fun d => q (ix4 b s h d) * Ideal.ofBits .f32 0x3E000000#32)
    (fun n d => k (ix4 b (pos (s.val / 128) n) ⟨h.val / 3, by omega⟩ d)) (fun n d => kc (ix4 b n ⟨h.val / 3, by omega⟩ d)) (sk (ix1 h))
    (fun n => v (ix4 b (pos (s.val / 128) n) ⟨h.val / 3, by omega⟩ e)) (fun n => vc (ix4 b n ⟨h.val / 3, by omega⟩ e))

theorem head_congr {bi bi' : ℕ} {i i' : Fin 384} {q q' : Fin 64 → EReal} {k k' : Fin 384 → Fin 64 → EReal} {kc kc' : Fin 256 → Fin 64 → EReal}
    {s s' : EReal} {v v' : Fin 384 → EReal} {vc vc' : Fin 256 → EReal} (hb : bi = bi') (hi : i = i') (hq : ∀ d, q d = q' d)
    (hk : ∀ n d, k n d = k' n d) (hkc : ∀ n d, kc n d = kc' n d) (hs : s = s') (hv : ∀ n, v n = v' n) (hvc : ∀ n, vc n = vc' n) :
    head bi i q k kc s v vc = head bi' i' q' k' kc' s' v' vc' := by
  obtain rfl : q = q' := funext hq
  obtain rfl : k = k' := funext fun n => funext (hk n)
  obtain rfl : kc = kc' := funext fun n => funext (hkc n)
  obtain rfl : v = v' := funext hv
  obtain rfl : vc = vc' := funext hvc
  subst hb hi hs
  rfl

theorem cat3_of {α : Type} (a b c : Fin 128 → α) (f : Fin 384 → α) (ha : ∀ x, a x = f (row 0 x)) (hb : ∀ x, b x = f (row 1 x))
    (hc : ∀ x, c x = f (row 2 x)) (n : Fin 384) : cat3 a b c n = f n := by
  unfold cat3
  split
  · next h => rw [ha]; exact congrArg f (Fin.ext (by show 128 * 0 + n.val = n.val; omega))
  · split
    · next h h' => rw [hb]; exact congrArg f (Fin.ext (by show 128 * 1 + (n.val - 128) = n.val; omega))
    · next h h' => rw [hc]; exact congrArg f (Fin.ext (by show 128 * 2 + (n.val - 128 - 128) = n.val; omega))

theorem ix4_congr {n0 n1 n2 n3 : ℕ} {α : Type} (X : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : X (ix4 a b c d) = X (ix4 a' b' c' d') := by
  rw [Fin.ext ha, Fin.ext hb, Fin.ext hc, Fin.ext hd]

theorem gi (t : Fin cfg0.N) : (grid0.coords t 1).val = t.val % 32 := by
  obtain ⟨_, _, _, _, _, _, _, _, _, _, _, _, _, e⟩ := idx t
  exact e

/-- A query's entries, read from its block. -/
theorem q_at (c : Dev nD) (t : Fin cfg0.N) (b : Fin 8) (s : Fin 8192) (p : Fin 6) (x : Fin 128) (d : Fin 64) (l : Fin 128) (o o' : ℕ)
    (h : ∀ a, ![o, o'] a + S128x128.size a ≤ S256x384.size a)
    (gb : b.val = t.val / 32) (gs : s.val = t.val % 32 * 256 + (o + x.val)) (ho : o + x.val < 256) (hl : 64 * p.val + d.val = o' + l.val) :
    rq m c t ![o, o'] h (ix2 x l) = aq m c (ix4 b s p d) * Ideal.ofBits .f32 0x3E000000#32 := by
  have gt := t_lt t
  rw [rq_at m c t o o' h x l ⟨o + x.val, ho⟩ ⟨64 * p.val + d.val, by omega⟩ rfl hl, win1, val_q]
  refine congrArg (· * _) (ix4_congr _ ?_ ?_ ?_ ?_)
  · show (t.val * 256 + (o + x.val)) / 8192 = b.val; omega
  · show (t.val * 256 + (o + x.val)) % 8192 = s.val; omega
  · show (64 * p.val + d.val) / 64 = p.val; omega
  · show (64 * p.val + d.val) % 64 = d.val; omega

theorem k0_at (c : Dev nD) (t : Fin cfg0.N) (b : Fin 8) (s : Fin 8192) (u : Fin 128) (kv : Fin 2) (d : Fin 64) (n : Fin 384)
    (gb : b.val = t.val / 32) (gs : s.val / 128 = 2 * (t.val % 32) + 0) (hu : u.val = 64 * kv.val + d.val) :
    cat3 (fun x => r2 m c t (ix3 0 x u)) (fun x => r3 m c t (ix3 0 x u)) (fun x => r4 m c t (ix3 0 x u)) n
      = ak m c (ix4 b (pos (s.val / 128) n) kv d) := by
  refine cat3_of _ _ _ (fun n => ak m c (ix4 b (pos (s.val / 128) n) kv d)) (fun x => ?_) (fun x => ?_) (fun x => ?_) n
  · rw [win2, val_k]
    refine ix4_congr _ gb.symm ?_ ?_ ?_
    · show min 63 (2 * (t.val % 32) + 0 - 1) * 128 + x.val = min 63 (s.val / 128 + (128 * 0 + x.val) / 128 - 1) * 128 + (128 * 0 + x.val) % 128
      omega
    · show u.val / 64 = kv.val; omega
    · show u.val % 64 = d.val; omega
  · rw [win3, val_k]
    refine ix4_congr _ gb.symm ?_ ?_ ?_
    · show min 63 (2 * (t.val % 32) + 1 - 1) * 128 + x.val = min 63 (s.val / 128 + (128 * 1 + x.val) / 128 - 1) * 128 + (128 * 1 + x.val) % 128
      omega
    · show u.val / 64 = kv.val; omega
    · show u.val % 64 = d.val; omega
  · rw [win4, val_k]
    refine ix4_congr _ gb.symm ?_ ?_ ?_
    · show min 63 (2 * (t.val % 32) + 2 - 1) * 128 + x.val = min 63 (s.val / 128 + (128 * 2 + x.val) / 128 - 1) * 128 + (128 * 2 + x.val) % 128
      omega
    · show u.val / 64 = kv.val; omega
    · show u.val % 64 = d.val; omega

theorem v0_at (c : Dev nD) (t : Fin cfg0.N) (b : Fin 8) (s : Fin 8192) (u : Fin 128) (kv : Fin 2) (d : Fin 64) (n : Fin 384)
    (gb : b.val = t.val / 32) (gs : s.val / 128 = 2 * (t.val % 32) + 0) (hu : u.val = 64 * kv.val + d.val) :
    cat3 (fun x => r6 m c t (ix3 0 x u)) (fun x => r7 m c t (ix3 0 x u)) (fun x => r8 m c t (ix3 0 x u)) n
      = av m c (ix4 b (pos (s.val / 128) n) kv d) := by
  refine cat3_of _ _ _ (fun n => av m c (ix4 b (pos (s.val / 128) n) kv d)) (fun x => ?_) (fun x => ?_) (fun x => ?_) n
  · rw [win6, val_v]
    refine ix4_congr _ gb.symm ?_ ?_ ?_
    · show min 63 (2 * (t.val % 32) + 0 - 1) * 128 + x.val = min 63 (s.val / 128 + (128 * 0 + x.val) / 128 - 1) * 128 + (128 * 0 + x.val) % 128
      omega
    · show u.val / 64 = kv.val; omega
    · show u.val % 64 = d.val; omega
  · rw [win7, val_v]
    refine ix4_congr _ gb.symm ?_ ?_ ?_
    · show min 63 (2 * (t.val % 32) + 1 - 1) * 128 + x.val = min 63 (s.val / 128 + (128 * 1 + x.val) / 128 - 1) * 128 + (128 * 1 + x.val) % 128
      omega
    · show u.val / 64 = kv.val; omega
    · show u.val % 64 = d.val; omega
  · rw [win8, val_v]
    refine ix4_congr _ gb.symm ?_ ?_ ?_
    · show min 63 (2 * (t.val % 32) + 2 - 1) * 128 + x.val = min 63 (s.val / 128 + (128 * 2 + x.val) / 128 - 1) * 128 + (128 * 2 + x.val) % 128
      omega
    · show u.val / 64 = kv.val; omega
    · show u.val % 64 = d.val; omega

theorem k1_at (c : Dev nD) (t : Fin cfg0.N) (b : Fin 8) (s : Fin 8192) (u : Fin 128) (kv : Fin 2) (d : Fin 64) (n : Fin 384)
    (gb : b.val = t.val / 32) (gs : s.val / 128 = 2 * (t.val % 32) + 1) (hu : u.val = 64 * kv.val + d.val) :
    cat3 (fun x => r3 m c t (ix3 0 x u)) (fun x => r4 m c t (ix3 0 x u)) (fun x => r5 m c t (ix3 0 x u)) n
      = ak m c (ix4 b (pos (s.val / 128) n) kv d) := by
  refine cat3_of _ _ _ (fun n => ak m c (ix4 b (pos (s.val / 128) n) kv d)) (fun x => ?_) (fun x => ?_) (fun x => ?_) n
  · rw [win3, val_k]
    refine ix4_congr _ gb.symm ?_ ?_ ?_
    · show min 63 (2 * (t.val % 32) + 1 - 1) * 128 + x.val = min 63 (s.val / 128 + (128 * 0 + x.val) / 128 - 1) * 128 + (128 * 0 + x.val) % 128
      omega
    · show u.val / 64 = kv.val; omega
    · show u.val % 64 = d.val; omega
  · rw [win4, val_k]
    refine ix4_congr _ gb.symm ?_ ?_ ?_
    · show min 63 (2 * (t.val % 32) + 2 - 1) * 128 + x.val = min 63 (s.val / 128 + (128 * 1 + x.val) / 128 - 1) * 128 + (128 * 1 + x.val) % 128
      omega
    · show u.val / 64 = kv.val; omega
    · show u.val % 64 = d.val; omega
  · rw [win5, val_k]
    refine ix4_congr _ gb.symm ?_ ?_ ?_
    · show min 63 (2 * (t.val % 32) + 3 - 1) * 128 + x.val = min 63 (s.val / 128 + (128 * 2 + x.val) / 128 - 1) * 128 + (128 * 2 + x.val) % 128
      omega
    · show u.val / 64 = kv.val; omega
    · show u.val % 64 = d.val; omega

theorem v1_at (c : Dev nD) (t : Fin cfg0.N) (b : Fin 8) (s : Fin 8192) (u : Fin 128) (kv : Fin 2) (d : Fin 64) (n : Fin 384)
    (gb : b.val = t.val / 32) (gs : s.val / 128 = 2 * (t.val % 32) + 1) (hu : u.val = 64 * kv.val + d.val) :
    cat3 (fun x => r7 m c t (ix3 0 x u)) (fun x => r8 m c t (ix3 0 x u)) (fun x => r9 m c t (ix3 0 x u)) n
      = av m c (ix4 b (pos (s.val / 128) n) kv d) := by
  refine cat3_of _ _ _ (fun n => av m c (ix4 b (pos (s.val / 128) n) kv d)) (fun x => ?_) (fun x => ?_) (fun x => ?_) n
  · rw [win7, val_v]
    refine ix4_congr _ gb.symm ?_ ?_ ?_
    · show min 63 (2 * (t.val % 32) + 1 - 1) * 128 + x.val = min 63 (s.val / 128 + (128 * 0 + x.val) / 128 - 1) * 128 + (128 * 0 + x.val) % 128
      omega
    · show u.val / 64 = kv.val; omega
    · show u.val % 64 = d.val; omega
  · rw [win8, val_v]
    refine ix4_congr _ gb.symm ?_ ?_ ?_
    · show min 63 (2 * (t.val % 32) + 2 - 1) * 128 + x.val = min 63 (s.val / 128 + (128 * 1 + x.val) / 128 - 1) * 128 + (128 * 1 + x.val) % 128
      omega
    · show u.val / 64 = kv.val; omega
    · show u.val % 64 = d.val; omega
  · rw [win9, val_v]
    refine ix4_congr _ gb.symm ?_ ?_ ?_
    · show min 63 (2 * (t.val % 32) + 3 - 1) * 128 + x.val = min 63 (s.val / 128 + (128 * 2 + x.val) / 128 - 1) * 128 + (128 * 2 + x.val) % 128
      omega
    · show u.val / 64 = kv.val; omega
    · show u.val % 64 = d.val; omega

theorem kc_at (c : Dev nD) (t : Fin cfg0.N) (b : Fin 8) (u : Fin 128) (kv : Fin 2) (d : Fin 64) (n : Fin 256)
    (gb : b.val = t.val / 32) (hu : u.val = 64 * kv.val + d.val) :
    r10 m c t (ix3 0 n u) = akc m c (ix4 b n kv d) := by
  rw [win10, val_kc]
  refine ix4_congr _ gb.symm rfl ?_ ?_
  · show u.val / 64 = kv.val; omega
  · show u.val % 64 = d.val; omega

theorem vc_at (c : Dev nD) (t : Fin cfg0.N) (b : Fin 8) (u : Fin 128) (kv : Fin 2) (d : Fin 64) (n : Fin 256)
    (gb : b.val = t.val / 32) (hu : u.val = 64 * kv.val + d.val) :
    r11 m c t (ix3 0 n u) = avc m c (ix4 b n kv d) := by
  rw [win11, val_vc]
  refine ix4_congr _ gb.symm rfl ?_ ?_
  · show u.val / 64 = kv.val; omega
  · show u.val % 64 = d.val; omega

theorem head00 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 0) (ge : e.val = l.val % 64) :
    headT (2 * (grid0.coords t 1).val + 0) (row 0 x) (fun d => rq m c t ![0, 0] inb_S256x384_S128x128_0_0 (ix2 x (lo d))) lo
        (r2 m c t) (r3 m c t) (r4 m c t) (r10 m c t) (rs m c t ![0] inb_S6_S1_0) (left l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 0 := by omega
  refine head_congr (by omega) (Fin.ext (by show 128 * 0 + x.val = 128 * 0 + s.val % 128; omega))
    (fun d => q_at m c t b s p x d _ 0 0 _ gb gs (by omega) (by show 64 * p.val + d.val = 0 + d.val; omega))
    (fun n d => k0_at m c t b s _ _ d n gb gj (by show d.val = 64 * (p.val / 3) + d.val; omega))
    (fun n d => kc_at m c t b _ _ d n gb (by show d.val = 64 * (p.val / 3) + d.val; omega))
    ((rs_at m c t 0 inb_S6_S1_0).trans ((win0 m c t 0).trans (congrArg (ask m c) (congrArg ix1 (Fin.ext gp.symm)))))
    (fun n => v0_at m c t b s _ _ e n gb gj (by show l.val % 64 = 64 * (p.val / 3) + e.val; omega))
    (fun n => vc_at m c t b _ _ e n gb (by show l.val % 64 = 64 * (p.val / 3) + e.val; omega))

theorem head01 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 1) (ge : e.val = l.val % 64) :
    headT (2 * (grid0.coords t 1).val + 0) (row 0 x) (fun d => rq m c t ![0, 0] inb_S256x384_S128x128_0_0 (ix2 x (hi d))) lo
        (r2 m c t) (r3 m c t) (r4 m c t) (r10 m c t) (rs m c t ![1] inb_S6_S1_1) (left l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 0 := by omega
  refine head_congr (by omega) (Fin.ext (by show 128 * 0 + x.val = 128 * 0 + s.val % 128; omega))
    (fun d => q_at m c t b s p x d _ 0 0 _ gb gs (by omega) (by show 64 * p.val + d.val = 0 + (64 + d.val); omega))
    (fun n d => k0_at m c t b s _ _ d n gb gj (by show d.val = 64 * (p.val / 3) + d.val; omega))
    (fun n d => kc_at m c t b _ _ d n gb (by show d.val = 64 * (p.val / 3) + d.val; omega))
    ((rs_at m c t 1 inb_S6_S1_1).trans ((win0 m c t 1).trans (congrArg (ask m c) (congrArg ix1 (Fin.ext gp.symm)))))
    (fun n => v0_at m c t b s _ _ e n gb gj (by show l.val % 64 = 64 * (p.val / 3) + e.val; omega))
    (fun n => vc_at m c t b _ _ e n gb (by show l.val % 64 = 64 * (p.val / 3) + e.val; omega))

theorem head02 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 2) (ge : e.val = l.val % 64) :
    headT (2 * (grid0.coords t 1).val + 0) (row 0 x) (fun d => rq m c t ![0, 128] inb_S256x384_S128x128_0_128 (ix2 x (lo d))) lo
        (r2 m c t) (r3 m c t) (r4 m c t) (r10 m c t) (rs m c t ![2] inb_S6_S1_2) (left l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 0 := by omega
  refine head_congr (by omega) (Fin.ext (by show 128 * 0 + x.val = 128 * 0 + s.val % 128; omega))
    (fun d => q_at m c t b s p x d _ 0 128 _ gb gs (by omega) (by show 64 * p.val + d.val = 128 + d.val; omega))
    (fun n d => k0_at m c t b s _ _ d n gb gj (by show d.val = 64 * (p.val / 3) + d.val; omega))
    (fun n d => kc_at m c t b _ _ d n gb (by show d.val = 64 * (p.val / 3) + d.val; omega))
    ((rs_at m c t 2 inb_S6_S1_2).trans ((win0 m c t 2).trans (congrArg (ask m c) (congrArg ix1 (Fin.ext gp.symm)))))
    (fun n => v0_at m c t b s _ _ e n gb gj (by show l.val % 64 = 64 * (p.val / 3) + e.val; omega))
    (fun n => vc_at m c t b _ _ e n gb (by show l.val % 64 = 64 * (p.val / 3) + e.val; omega))

theorem head03 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 3) (ge : e.val = l.val % 64) :
    headT (2 * (grid0.coords t 1).val + 0) (row 0 x) (fun d => rq m c t ![0, 128] inb_S256x384_S128x128_0_128 (ix2 x (hi d))) hi
        (r2 m c t) (r3 m c t) (r4 m c t) (r10 m c t) (rs m c t ![3] inb_S6_S1_3) (right l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 1 := by omega
  refine head_congr (by omega) (Fin.ext (by show 128 * 0 + x.val = 128 * 0 + s.val % 128; omega))
    (fun d => q_at m c t b s p x d _ 0 128 _ gb gs (by omega) (by show 64 * p.val + d.val = 128 + (64 + d.val); omega))
    (fun n d => k0_at m c t b s _ _ d n gb gj (by show 64 + d.val = 64 * (p.val / 3) + d.val; omega))
    (fun n d => kc_at m c t b _ _ d n gb (by show 64 + d.val = 64 * (p.val / 3) + d.val; omega))
    ((rs_at m c t 3 inb_S6_S1_3).trans ((win0 m c t 3).trans (congrArg (ask m c) (congrArg ix1 (Fin.ext gp.symm)))))
    (fun n => v0_at m c t b s _ _ e n gb gj (by show 64 + l.val % 64 = 64 * (p.val / 3) + e.val; omega))
    (fun n => vc_at m c t b _ _ e n gb (by show 64 + l.val % 64 = 64 * (p.val / 3) + e.val; omega))

theorem head04 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 4) (ge : e.val = l.val % 64) :
    headT (2 * (grid0.coords t 1).val + 0) (row 0 x) (fun d => rq m c t ![0, 256] inb_S256x384_S128x128_0_256 (ix2 x (lo d))) hi
        (r2 m c t) (r3 m c t) (r4 m c t) (r10 m c t) (rs m c t ![4] inb_S6_S1_4) (right l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 1 := by omega
  refine head_congr (by omega) (Fin.ext (by show 128 * 0 + x.val = 128 * 0 + s.val % 128; omega))
    (fun d => q_at m c t b s p x d _ 0 256 _ gb gs (by omega) (by show 64 * p.val + d.val = 256 + d.val; omega))
    (fun n d => k0_at m c t b s _ _ d n gb gj (by show 64 + d.val = 64 * (p.val / 3) + d.val; omega))
    (fun n d => kc_at m c t b _ _ d n gb (by show 64 + d.val = 64 * (p.val / 3) + d.val; omega))
    ((rs_at m c t 4 inb_S6_S1_4).trans ((win0 m c t 4).trans (congrArg (ask m c) (congrArg ix1 (Fin.ext gp.symm)))))
    (fun n => v0_at m c t b s _ _ e n gb gj (by show 64 + l.val % 64 = 64 * (p.val / 3) + e.val; omega))
    (fun n => vc_at m c t b _ _ e n gb (by show 64 + l.val % 64 = 64 * (p.val / 3) + e.val; omega))

theorem head05 (c : Dev nD) (t : Fin cfg0.N) (x l : Fin 128) (b : Fin 8) (s : Fin 8192) (p : Fin 6) (e : Fin 64)
    (gb : b.val = t.val / 32) (gs : s.val = t.val % 32 * 256 + (0 + x.val)) (gp : p.val = 5) (ge : e.val = l.val % 64) :
    headT (2 * (grid0.coords t 1).val + 0) (row 0 x) (fun d => rq m c t ![0, 256] inb_S256x384_S128x128_0_256 (ix2 x (hi d))) hi
        (r2 m c t) (r3 m c t) (r4 m c t) (r10 m c t) (rs m c t ![5] inb_S6_S1_5) (right l) (r6 m c t) (r7 m c t) (r8 m c t) (r11 m c t)
      = outK (aq m c) (ak m c) (av m c) (akc m c) (avc m c) (ask m c) b s p e := by
  have gi := gi t
  have gj : s.val / 128 = 2 * (t.val % 32) + 0 := by omega
  have h3 : p.val / 3 = 1 := by omega
  refine head_congr (by omega) (Fin.ext (by show 128 * 0 + x.val = 128 * 0 + s.val % 128; omega))
    (fun d => q_at m c t b s p x d _ 0 256 _ gb gs (by omega) (by show 64 * p.val + d.val = 256 + (64 + d.val); omega))
    (fun n d => k0_at m c t b s _ _ d n gb gj (by show 64 + d.val = 64 * (p.val / 3) + d.val; omega))
    (fun n d => kc_at m c t b _ _ d n gb (by show 64 + d.val = 64 * (p.val / 3) + d.val; omega))
    ((rs_at m c t 5 inb_S6_S1_5).trans ((win0 m c t 5).trans (congrArg (ask m c) (congrArg ix1 (Fin.ext gp.symm)))))
    (fun n => v0_at m c t b s _ _ e n gb gj (by show 64 + l.val % 64 = 64 * (p.val / 3) + e.val; omega))
    (fun n => vc_at m c t b _ _ e n gb (by show 64 + l.val % 64 = 64 * (p.val / 3) + e.val; omega))

theorem head10 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 0) (ge : e.val = l.val % 64) :
    headT (2 * (grid0.coords t 1).val + 1) (row 0 x) (fun d => rq m c t ![128, 0] inb_S256x384_S128x128_128_0 (ix2 x (lo d))) lo
        (r3 m c t) (r4 m c t) (r5 m c t) (r10 m c t) (rs m c t ![0] inb_S6_S1_0) (left l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 0 := by omega
  refine head_congr (by omega) (Fin.ext (by show 128 * 0 + x.val = 128 * 0 + s.val % 128; omega))
    (fun d => q_at m c t b s p x d _ 128 0 _ gb gs (by omega) (by show 64 * p.val + d.val = 0 + d.val; omega))
    (fun n d => k1_at m c t b s _ _ d n gb gj (by show d.val = 64 * (p.val / 3) + d.val; omega))
    (fun n d => kc_at m c t b _ _ d n gb (by show d.val = 64 * (p.val / 3) + d.val; omega))
    ((rs_at m c t 0 inb_S6_S1_0).trans ((win0 m c t 0).trans (congrArg (ask m c) (congrArg ix1 (Fin.ext gp.symm)))))
    (fun n => v1_at m c t b s _ _ e n gb gj (by show l.val % 64 = 64 * (p.val / 3) + e.val; omega))
    (fun n => vc_at m c t b _ _ e n gb (by show l.val % 64 = 64 * (p.val / 3) + e.val; omega))

theorem head11 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 1) (ge : e.val = l.val % 64) :
    headT (2 * (grid0.coords t 1).val + 1) (row 0 x) (fun d => rq m c t ![128, 0] inb_S256x384_S128x128_128_0 (ix2 x (hi d))) lo
        (r3 m c t) (r4 m c t) (r5 m c t) (r10 m c t) (rs m c t ![1] inb_S6_S1_1) (left l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 0 := by omega
  refine head_congr (by omega) (Fin.ext (by show 128 * 0 + x.val = 128 * 0 + s.val % 128; omega))
    (fun d => q_at m c t b s p x d _ 128 0 _ gb gs (by omega) (by show 64 * p.val + d.val = 0 + (64 + d.val); omega))
    (fun n d => k1_at m c t b s _ _ d n gb gj (by show d.val = 64 * (p.val / 3) + d.val; omega))
    (fun n d => kc_at m c t b _ _ d n gb (by show d.val = 64 * (p.val / 3) + d.val; omega))
    ((rs_at m c t 1 inb_S6_S1_1).trans ((win0 m c t 1).trans (congrArg (ask m c) (congrArg ix1 (Fin.ext gp.symm)))))
    (fun n => v1_at m c t b s _ _ e n gb gj (by show l.val % 64 = 64 * (p.val / 3) + e.val; omega))
    (fun n => vc_at m c t b _ _ e n gb (by show l.val % 64 = 64 * (p.val / 3) + e.val; omega))

theorem head12 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 2) (ge : e.val = l.val % 64) :
    headT (2 * (grid0.coords t 1).val + 1) (row 0 x) (fun d => rq m c t ![128, 128] inb_S256x384_S128x128_128_128 (ix2 x (lo d))) lo
        (r3 m c t) (r4 m c t) (r5 m c t) (r10 m c t) (rs m c t ![2] inb_S6_S1_2) (left l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 0 := by omega
  refine head_congr (by omega) (Fin.ext (by show 128 * 0 + x.val = 128 * 0 + s.val % 128; omega))
    (fun d => q_at m c t b s p x d _ 128 128 _ gb gs (by omega) (by show 64 * p.val + d.val = 128 + d.val; omega))
    (fun n d => k1_at m c t b s _ _ d n gb gj (by show d.val = 64 * (p.val / 3) + d.val; omega))
    (fun n d => kc_at m c t b _ _ d n gb (by show d.val = 64 * (p.val / 3) + d.val; omega))
    ((rs_at m c t 2 inb_S6_S1_2).trans ((win0 m c t 2).trans (congrArg (ask m c) (congrArg ix1 (Fin.ext gp.symm)))))
    (fun n => v1_at m c t b s _ _ e n gb gj (by show l.val % 64 = 64 * (p.val / 3) + e.val; omega))
    (fun n => vc_at m c t b _ _ e n gb (by show l.val % 64 = 64 * (p.val / 3) + e.val; omega))

theorem head13 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 3) (ge : e.val = l.val % 64) :
    headT (2 * (grid0.coords t 1).val + 1) (row 0 x) (fun d => rq m c t ![128, 128] inb_S256x384_S128x128_128_128 (ix2 x (hi d))) hi
        (r3 m c t) (r4 m c t) (r5 m c t) (r10 m c t) (rs m c t ![3] inb_S6_S1_3) (right l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 1 := by omega
  refine head_congr (by omega) (Fin.ext (by show 128 * 0 + x.val = 128 * 0 + s.val % 128; omega))
    (fun d => q_at m c t b s p x d _ 128 128 _ gb gs (by omega) (by show 64 * p.val + d.val = 128 + (64 + d.val); omega))
    (fun n d => k1_at m c t b s _ _ d n gb gj (by show 64 + d.val = 64 * (p.val / 3) + d.val; omega))
    (fun n d => kc_at m c t b _ _ d n gb (by show 64 + d.val = 64 * (p.val / 3) + d.val; omega))
    ((rs_at m c t 3 inb_S6_S1_3).trans ((win0 m c t 3).trans (congrArg (ask m c) (congrArg ix1 (Fin.ext gp.symm)))))
    (fun n => v1_at m c t b s _ _ e n gb gj (by show 64 + l.val % 64 = 64 * (p.val / 3) + e.val; omega))
    (fun n => vc_at m c t b _ _ e n gb (by show 64 + l.val % 64 = 64 * (p.val / 3) + e.val; omega))

theorem head14 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 4) (ge : e.val = l.val % 64) :
    headT (2 * (grid0.coords t 1).val + 1) (row 0 x) (fun d => rq m c t ![128, 256] inb_S256x384_S128x128_128_256 (ix2 x (lo d))) hi
        (r3 m c t) (r4 m c t) (r5 m c t) (r10 m c t) (rs m c t ![4] inb_S6_S1_4) (right l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 1 := by omega
  refine head_congr (by omega) (Fin.ext (by show 128 * 0 + x.val = 128 * 0 + s.val % 128; omega))
    (fun d => q_at m c t b s p x d _ 128 256 _ gb gs (by omega) (by show 64 * p.val + d.val = 256 + d.val; omega))
    (fun n d => k1_at m c t b s _ _ d n gb gj (by show 64 + d.val = 64 * (p.val / 3) + d.val; omega))
    (fun n d => kc_at m c t b _ _ d n gb (by show 64 + d.val = 64 * (p.val / 3) + d.val; omega))
    ((rs_at m c t 4 inb_S6_S1_4).trans ((win0 m c t 4).trans (congrArg (ask m c) (congrArg ix1 (Fin.ext gp.symm)))))
    (fun n => v1_at m c t b s _ _ e n gb gj (by show 64 + l.val % 64 = 64 * (p.val / 3) + e.val; omega))
    (fun n => vc_at m c t b _ _ e n gb (by show 64 + l.val % 64 = 64 * (p.val / 3) + e.val; omega))

theorem head15 (c : Dev nD) (t : Fin cfg0.N) (x l : Fin 128) (b : Fin 8) (s : Fin 8192) (p : Fin 6) (e : Fin 64)
    (gb : b.val = t.val / 32) (gs : s.val = t.val % 32 * 256 + (128 + x.val)) (gp : p.val = 5) (ge : e.val = l.val % 64) :
    headT (2 * (grid0.coords t 1).val + 1) (row 0 x) (fun d => rq m c t ![128, 256] inb_S256x384_S128x128_128_256 (ix2 x (hi d))) hi
        (r3 m c t) (r4 m c t) (r5 m c t) (r10 m c t) (rs m c t ![5] inb_S6_S1_5) (right l) (r7 m c t) (r8 m c t) (r9 m c t) (r11 m c t)
      = outK (aq m c) (ak m c) (av m c) (akc m c) (avc m c) (ask m c) b s p e := by
  have gi := gi t
  have gj : s.val / 128 = 2 * (t.val % 32) + 1 := by omega
  have h3 : p.val / 3 = 1 := by omega
  refine head_congr (by omega) (Fin.ext (by show 128 * 0 + x.val = 128 * 0 + s.val % 128; omega))
    (fun d => q_at m c t b s p x d _ 128 256 _ gb gs (by omega) (by show 64 * p.val + d.val = 256 + (64 + d.val); omega))
    (fun n d => k1_at m c t b s _ _ d n gb gj (by show 64 + d.val = 64 * (p.val / 3) + d.val; omega))
    (fun n d => kc_at m c t b _ _ d n gb (by show 64 + d.val = 64 * (p.val / 3) + d.val; omega))
    ((rs_at m c t 5 inb_S6_S1_5).trans ((win0 m c t 5).trans (congrArg (ask m c) (congrArg ix1 (Fin.ext gp.symm)))))
    (fun n => v1_at m c t b s _ _ e n gb gj (by show 64 + l.val % 64 = 64 * (p.val / 3) + e.val; omega))
    (fun n => vc_at m c t b _ _ e n gb (by show 64 + l.val % 64 = 64 * (p.val / 3) + e.val; omega))

theorem point (c : Dev nD) (t : Fin cfg0.N) (y : S256x384.Idx) (b : Fin 8) (s : Fin 8192) (p : Fin 6) (e : Fin 64)
    (gb : b.val = t.val / 32) (gs : s.val = t.val % 32 * 256 + (y 0).val) (gp : p.val = (y 1).val / 64) (ge : e.val = (y 1).val % 64) :
   outsAt0 m c t y = outK (aq m c) (ak m c) (av m c) (akc m c) (avc m c) (ask m c) b s p e := by
  unfold outsAt0 out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))]
  unfold kernelRun0_A
  dsimp only
  canon_tiles x h
  case piece5 =>
    obtain ⟨x0, x1, rfl⟩ : ∃ (a b : Fin 128), x = ix2 a b := ⟨x 0, x 1, by funext k; fin_cases k <;> rfl⟩
    rw [w_v383]
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st00 (grid0.coords t 1) (rq m c t ![0, 0] inb_S256x384_S128x128_0_0) (rq m c t ![0, 128] inb_S256x384_S128x128_0_128) (rq m c t ![0, 256] inb_S256x384_S128x128_0_256) (r2 m c t) (r3 m c t) (r4 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r6 m c t) (r7 m c t) (r8 m c t) (r11 m c t) x0 x1).trans ?_
    change (y 0).val = x0.val at h0
    change (y 1).val = x1.val at h1
    split
    · next hl => exact head00 m c t x0 x1 b s p e gb (by omega) (by omega) (by omega)
    · next hl => exact head01 m c t x0 x1 b s p e gb (by omega) (by omega) (by omega)
  case piece4 =>
    obtain ⟨x0, x1, rfl⟩ : ∃ (a b : Fin 128), x = ix2 a b := ⟨x 0, x 1, by funext k; fin_cases k <;> rfl⟩
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st01 (grid0.coords t 1) (rq m c t ![0, 0] inb_S256x384_S128x128_0_0) (rq m c t ![0, 128] inb_S256x384_S128x128_0_128) (rq m c t ![0, 256] inb_S256x384_S128x128_0_256) (r2 m c t) (r3 m c t) (r4 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r6 m c t) (r7 m c t) (r8 m c t) (r11 m c t) x0 x1).trans ?_
    change (y 0).val = x0.val at h0
    change (y 1).val = 128 + x1.val at h1
    split
    · next hl => exact head02 m c t x0 x1 b s p e gb (by omega) (by omega) (by omega)
    · next hl => exact head03 m c t x0 x1 b s p e gb (by omega) (by omega) (by omega)
  case piece3 =>
    obtain ⟨x0, x1, rfl⟩ : ∃ (a b : Fin 128), x = ix2 a b := ⟨x 0, x 1, by funext k; fin_cases k <;> rfl⟩
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st02 (grid0.coords t 1) (rq m c t ![0, 0] inb_S256x384_S128x128_0_0) (rq m c t ![0, 128] inb_S256x384_S128x128_0_128) (rq m c t ![0, 256] inb_S256x384_S128x128_0_256) (r2 m c t) (r3 m c t) (r4 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r6 m c t) (r7 m c t) (r8 m c t) (r11 m c t) x0 x1).trans ?_
    change (y 0).val = x0.val at h0
    change (y 1).val = 256 + x1.val at h1
    split
    · next hl => exact head04 m c t x0 x1 b s p e gb (by omega) (by omega) (by omega)
    · next hl => exact head05 m c t x0 x1 b s p e gb (by omega) (by omega) (by omega)
  case piece2 =>
    obtain ⟨x0, x1, rfl⟩ : ∃ (a b : Fin 128), x = ix2 a b := ⟨x 0, x 1, by funext k; fin_cases k <;> rfl⟩
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st10 (grid0.coords t 1) (rq m c t ![128, 0] inb_S256x384_S128x128_128_0) (rq m c t ![128, 128] inb_S256x384_S128x128_128_128) (rq m c t ![128, 256] inb_S256x384_S128x128_128_256) (r3 m c t) (r4 m c t) (r5 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r7 m c t) (r8 m c t) (r9 m c t) (r11 m c t) x0 x1).trans ?_
    change (y 0).val = 128 + x0.val at h0
    change (y 1).val = x1.val at h1
    split
    · next hl => exact head10 m c t x0 x1 b s p e gb (by omega) (by omega) (by omega)
    · next hl => exact head11 m c t x0 x1 b s p e gb (by omega) (by omega) (by omega)
  case piece1 =>
    obtain ⟨x0, x1, rfl⟩ : ∃ (a b : Fin 128), x = ix2 a b := ⟨x 0, x 1, by funext k; fin_cases k <;> rfl⟩
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st11 (grid0.coords t 1) (rq m c t ![128, 0] inb_S256x384_S128x128_128_0) (rq m c t ![128, 128] inb_S256x384_S128x128_128_128) (rq m c t ![128, 256] inb_S256x384_S128x128_128_256) (r3 m c t) (r4 m c t) (r5 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r7 m c t) (r8 m c t) (r9 m c t) (r11 m c t) x0 x1).trans ?_
    change (y 0).val = 128 + x0.val at h0
    change (y 1).val = 128 + x1.val at h1
    split
    · next hl => exact head12 m c t x0 x1 b s p e gb (by omega) (by omega) (by omega)
    · next hl => exact head13 m c t x0 x1 b s p e gb (by omega) (by omega) (by omega)
  case piece0 =>
    obtain ⟨x0, x1, rfl⟩ : ∃ (a b : Fin 128), x = ix2 a b := ⟨x 0, x 1, by funext k; fin_cases k <;> rfl⟩
    simp only [w_v4, w_v28, w_v5, w_v29, w_v10, w_v34, w_v11, w_v35, w_v16, w_v40, w_v17, w_v41, w_v22, w_v46, w_v23, w_v47, w_v52, w_v58, w_v53, w_v59, w_v111, w_v77, w_v80, w_v83, w_v108, w_v125, w_r15, w_r_4, w_r_5, w_r_6, w_r_11, w_r_12, w_r_13, w_r_16, w_r_17, w_r_18, w_r_19, w_r_20, w_r_21, w_v295, w_v296, w_v297, w_v317, w_v318, w_v319, w_v325, w_v328, w_v331, w_v332, w_v339, w_v340, w_v341, w_v361, w_v362, w_v363, w_v372, w_v379, w_v380, w_v381, w_r_23]
    refine (st12 (grid0.coords t 1) (rq m c t ![128, 0] inb_S256x384_S128x128_128_0) (rq m c t ![128, 128] inb_S256x384_S128x128_128_128) (rq m c t ![128, 256] inb_S256x384_S128x128_128_256) (r3 m c t) (r4 m c t) (r5 m c t) (r10 m c t) (rs m c t ![0] inb_S6_S1_0) (rs m c t ![1] inb_S6_S1_1) (rs m c t ![2] inb_S6_S1_2) (rs m c t ![3] inb_S6_S1_3) (rs m c t ![4] inb_S6_S1_4) (rs m c t ![5] inb_S6_S1_5) (r7 m c t) (r8 m c t) (r9 m c t) (r11 m c t) x0 x1).trans ?_
    change (y 0).val = 128 + x0.val at h0
    change (y 1).val = 256 + x1.val at h1
    split
    · next hl => exact head14 m c t x0 x1 b s p e gb (by omega) (by omega) (by omega)
    · next hl => exact head15 m c t x0 x1 b s p e gb (by omega) (by omega) (by omega)

/-- The kernel's result array, entry by entry. -/
def arrK (c : Dev nD) (i : S65536x384.Idx) : EReal :=
  have h0 : (i 0).val < 65536 := (i 0).isLt
  have h1 : (i 1).val < 384 := (i 1).isLt
  outK (aq m c) (ak m c) (av m c) (akc m c) (avc m c) (ask m c) ⟨(i 0).val / 8192, by omega⟩ ⟨(i 0).val % 8192, by omega⟩
    ⟨(i 1).val / 64, by omega⟩ ⟨(i 1).val % 64, by omega⟩

theorem final (c : Dev nD) : (dats m 0 c).arrAt 12 cfg0.N = arrK m c := by
  refine (dats m 0 c).arrAt_eq_of_covers 12 _ (by decide +kernel) fun t _ y => ?_
  blk_simp
  rw [after0_12]
  have gt := t_lt t
  have g0 : (y 0).val < 256 := (y 0).isLt
  have g1 : (y 1).val < 384 := (y 1).isLt
  refine point m c t y _ _ _ _ ?_ ?_ ?_ ?_ <;> blk_simp [idx t] <;>
    first
    | omega
    | (show (t.val * 256 + (y 0).val) / 8192 = _; omega)
    | (show (t.val * 256 + (y 0).val) % 8192 = _; omega)

end Cert.AttnTile

end
-- ==== Proof.Attn.Math.lean ====
/- Attention over a band of 128 keys on either side, as one softmax over all 8192 keys with minus infinity outside
   the band, is attention over the window of 384 keys around the query's tile. -/
module

public import proofs.«01_k».proof.Proof.Attn.Core

@[expose] public section

set_option maxRecDepth 16384

noncomputable section

namespace Cert.AttnMath

open Cert.AttnTile Idealize.ShloMosaic

/-- The greatest of finitely many extended reals, as the fold the programs take. -/
theorem fold_sup {ι : Type} [Fintype ι] (f : ι → EReal) : Finset.univ.fold max ⊥ f = Finset.univ.sup f := rfl

/-- A sum over a row laid out as three stretches. -/
theorem sum_three {M : Type} [AddCommMonoid M] (a b c n : ℕ) (h : n = a + b + c) (f : Fin n → M) :
    ∑ i, f i = (∑ i : Fin a, f ⟨i.val, by omega⟩) + (∑ i : Fin b, f ⟨a + i.val, by omega⟩) + ∑ i : Fin c, f ⟨a + b + i.val, by omega⟩ := by
  subst h
  rw [Fin.sum_univ_add, Fin.sum_univ_add]
  rfl

/-- The greatest of a row laid out as three stretches. -/
theorem sup_three (a b c n : ℕ) (h : n = a + b + c) (f : Fin n → EReal) :
    Finset.univ.sup f = max (max (Finset.univ.sup fun i : Fin a => f ⟨i.val, by omega⟩)
      (Finset.univ.sup fun i : Fin b => f ⟨a + i.val, by omega⟩)) (Finset.univ.sup fun i : Fin c => f ⟨a + b + i.val, by omega⟩) := by
  refine le_antisymm (Finset.sup_le fun i _ => ?_) (max_le (max_le ?_ ?_) ?_)
  · by_cases h1 : i.val < a
    · exact le_max_of_le_left (le_max_of_le_left (Finset.le_sup (f := fun i : Fin a => f ⟨i.val, by omega⟩) (Finset.mem_univ ⟨i.val, h1⟩)))
    · by_cases h2 : i.val < a + b
      · refine le_max_of_le_left (le_max_of_le_right ?_)
        have := Finset.le_sup (f := fun i : Fin b => f ⟨a + i.val, by omega⟩) (Finset.mem_univ ⟨i.val - a, by omega⟩)
        refine le_trans (le_of_eq (congrArg f (Fin.ext ?_))) this
        show i.val = a + (i.val - a)
        omega
      · refine le_max_of_le_right ?_
        have := Finset.le_sup (f := fun i : Fin c => f ⟨a + b + i.val, by omega⟩) (Finset.mem_univ ⟨i.val - (a + b), by omega⟩)
        refine le_trans (le_of_eq (congrArg f (Fin.ext ?_))) this
        show i.val = a + b + (i.val - (a + b))
        omega
  · exact Finset.sup_le fun i _ => Finset.le_sup (f := f) (Finset.mem_univ _)
  · exact Finset.sup_le fun i _ => Finset.le_sup (f := f) (Finset.mem_univ _)
  · exact Finset.sup_le fun i _ => Finset.le_sup (f := f) (Finset.mem_univ _)

theorem exp_sub (x m : ℝ) : Ideal.exp ((x : EReal) - (m : EReal)) = ((Real.exp (x - m) : ℝ) : EReal) := by
  rw [← EReal.coe_sub]; rfl

theorem exp_bot_sub (m : ℝ) : Ideal.exp (⊥ - (m : EReal)) = 0 := by
  rw [EReal.bot_sub]; rfl

theorem exp_nonneg (x : EReal) : 0 ≤ Ideal.exp x := by
  induction x with
  | bot => exact le_refl _
  | top => exact le_top
  | coe r => exact EReal.coe_nonneg.mpr (Real.exp_pos r).le

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor at least zero may be taken out of a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

theorem div_real (x : EReal) (D : ℝ) (hD : 0 < D) : Ideal.div x (D : EReal) = x * ((D⁻¹ : ℝ) : EReal) := by
  have h : (D : EReal) ≠ 0 := by exact_mod_cast hD.ne'
  rw [Ideal.div, if_neg h, EReal.coe_inv]

/-- Position of key `n` of the window around tile `bi`. -/
abbrev at' (bi : ℕ) (n : Fin 384) : Fin 8192 := ⟨min 63 (bi + n.val / 128 - 1) * 128 + n.val % 128, by omega⟩

/-- The key is at most 128 positions from the query. -/
abbrev near (s j : Fin 8192) : Prop := j.val ≤ s.val + 128 ∧ s.val ≤ j.val + 128

/-- Query `s` within its tile. -/
abbrev rw' (s : Fin 8192) : Fin 384 := ⟨s.val % 128, by omega⟩

theorem ok_at (s : Fin 8192) (n : Fin 384) (h : ok (s.val / 128) (rw' s) n) :
    near s (at' (s.val / 128) n) ∧ (at' (s.val / 128) n).val + 128 = 128 * (s.val / 128) + n.val := by
  obtain ⟨⟨h1, h2⟩, h3, h4⟩ := h
  have e : (at' (s.val / 128) n).val + 128 = 128 * (s.val / 128) + n.val := by
    show min 63 (s.val / 128 + n.val / 128 - 1) * 128 + n.val % 128 + 128 = _
    omega
  refine ⟨⟨?_, ?_⟩, e⟩ <;> simp only [rw'] at h1 h2 <;> omega

/-- The key of the window that lies at position `j`. -/
theorem near_at (s j : Fin 8192) (h : near s j) :
    ∃ n : Fin 384, ok (s.val / 128) (rw' s) n ∧ at' (s.val / 128) n = j := by
  obtain ⟨h1, h2⟩ := h
  have hn : j.val + 128 - 128 * (s.val / 128) < 384 := by omega
  refine ⟨⟨j.val + 128 - 128 * (s.val / 128), hn⟩, ⟨⟨?_, ?_⟩, ?_, ?_⟩, Fin.ext ?_⟩
  · show s.val % 128 % 128 ≤ j.val + 128 - 128 * (s.val / 128); omega
  · show j.val + 128 - 128 * (s.val / 128) ≤ s.val % 128 % 128 + 256; omega
  · show 128 ≤ j.val + 128 - 128 * (s.val / 128) ∨ 0 < s.val / 128; omega
  · show j.val + 128 - 128 * (s.val / 128) < 256 ∨ s.val / 128 < 63; omega
  · show min 63 (s.val / 128 + (j.val + 128 - 128 * (s.val / 128)) / 128 - 1) * 128 + (j.val + 128 - 128 * (s.val / 128)) % 128 = j.val; omega

/-- A sum over the window is the sum over the band. -/
theorem sum_win (s : Fin 8192) (F : Fin 8192 → EReal) :
    (∑ n, if ok (s.val / 128) (rw' s) n then F (at' (s.val / 128) n) else 0) = ∑ j, if near s j then F j else 0 := by
  rw [← Finset.sum_filter, ← Finset.sum_filter]
  refine Finset.sum_bij (fun n _ => at' (s.val / 128) n) ?_ ?_ ?_ ?_
  · intro n hn
    exact Finset.mem_filter.mpr ⟨Finset.mem_univ _, (ok_at s n (Finset.mem_filter.mp hn).2).1⟩
  · intro a ha b hb e
    have ea := (ok_at s a (Finset.mem_filter.mp ha).2).2
    have eb := (ok_at s b (Finset.mem_filter.mp hb).2).2
    have e' := congrArg Fin.val e
    refine Fin.ext ?_
    omega
  · intro j hj
    obtain ⟨n, hn, e⟩ := near_at s j (Finset.mem_filter.mp hj).2
    exact ⟨n, Finset.mem_filter.mpr ⟨Finset.mem_univ _, hn⟩, e⟩
  · intro n hn
    rfl

/-- The greatest of the window is the greatest of the band. -/
theorem sup_win (s : Fin 8192) (F : Fin 8192 → EReal) :
    (Finset.univ.sup fun n => if ok (s.val / 128) (rw' s) n then F (at' (s.val / 128) n) else ⊥) = Finset.univ.sup fun j => if near s j then F j else ⊥ := by
  refine le_antisymm (Finset.sup_le fun n _ => ?_) (Finset.sup_le fun j _ => ?_)
  · by_cases h : ok (s.val / 128) (rw' s) n
    · rw [if_pos h]
      refine le_trans (le_of_eq ?_) (Finset.le_sup (f := fun j => if near s j then F j else ⊥) (Finset.mem_univ (at' (s.val / 128) n)))
      exact (if_pos (ok_at s n h).1).symm
    · rw [if_neg h]; exact bot_le
  · by_cases h : near s j
    · rw [if_pos h]
      obtain ⟨n, hn, e⟩ := near_at s j h
      refine le_trans (le_of_eq ?_) (Finset.le_sup (f := fun n => if ok (s.val / 128) (rw' s) n then F (at' (s.val / 128) n) else ⊥) (Finset.mem_univ n))
      refine Eq.trans ?_ (if_pos hn).symm
      rw [e]
    · rw [if_neg h]; exact bot_le

/-- The greatest of some reals, minus infinities and one real is a real. -/
theorem top_real (s : Fin 8192) (L : Fin 8192 → ℝ) (C : Fin 256 → ℝ) (z : ℝ) :
    ∃ m : ℝ, max (max (Finset.univ.sup fun j => if near s j then (L j : EReal) else ⊥) (Finset.univ.sup fun n => (C n : EReal))) (z : EReal) = (m : EReal) := by
  have h1 : max (max (Finset.univ.sup fun j => if near s j then (L j : EReal) else ⊥) (Finset.univ.sup fun n => (C n : EReal))) (z : EReal) ≠ ⊤ := by
    refine ne_of_lt (max_lt (max_lt ?_ ?_) (EReal.coe_lt_top z))
    · refine (Finset.sup_lt_iff bot_lt_top).mpr fun j _ => ?_
      by_cases h : near s j
      · rw [if_pos h]; exact EReal.coe_lt_top _
      · rw [if_neg h]; exact bot_lt_top
    · exact (Finset.sup_lt_iff bot_lt_top).mpr fun j _ => EReal.coe_lt_top _
  have h2 : max (max (Finset.univ.sup fun j => if near s j then (L j : EReal) else ⊥) (Finset.univ.sup fun n => (C n : EReal))) (z : EReal) ≠ ⊥ :=
    ne_of_gt (lt_of_lt_of_le (EReal.bot_lt_coe z) (le_max_right _ _))
  exact ⟨_, (EReal.coe_toReal h1 h2).symm⟩

/-- One softmax over all positions, the context and the sink, read through the window. -/
theorem dense (s : Fin 8192) (L : Fin 8192 → ℝ) (C : Fin 256 → ℝ) (z : ℝ) (v : Fin 8192 → EReal) (vc : Fin 256 → EReal) :
    attv (fun n => if ok (s.val / 128) (rw' s) n then (L (at' (s.val / 128) n) : EReal) else ⊥) (fun n => (C n : EReal)) z
        (fun n => v (at' (s.val / 128) n)) vc
      = (fun M D => (∑ j, v j * Ideal.div (Ideal.exp ((if near s j then (L j : EReal) else ⊥) - M)) D)
            + ∑ n, vc n * Ideal.div (Ideal.exp ((C n : EReal) - M)) D)
          (max (max (Finset.univ.sup fun j => if near s j then (L j : EReal) else ⊥) (Finset.univ.sup fun n => (C n : EReal))) (z : EReal))
          ((∑ j, Ideal.exp ((if near s j then (L j : EReal) else ⊥)
                - max (max (Finset.univ.sup fun j => if near s j then (L j : EReal) else ⊥) (Finset.univ.sup fun n => (C n : EReal))) (z : EReal)))
            + (∑ n, Ideal.exp ((C n : EReal)
                - max (max (Finset.univ.sup fun j => if near s j then (L j : EReal) else ⊥) (Finset.univ.sup fun n => (C n : EReal))) (z : EReal)))
            + Ideal.exp ((z : EReal)
                - max (max (Finset.univ.sup fun j => if near s j then (L j : EReal) else ⊥) (Finset.univ.sup fun n => (C n : EReal))) (z : EReal))) := by
  have ht : top (fun n => if ok (s.val / 128) (rw' s) n then (L (at' (s.val / 128) n) : EReal) else ⊥) (fun n => (C n : EReal)) z
      = max (max (Finset.univ.sup fun j => if near s j then (L j : EReal) else ⊥) (Finset.univ.sup fun n => (C n : EReal))) (z : EReal) := by
    rw [top, fold_sup, fold_sup, sup_win s (fun j => (L j : EReal))]
  obtain ⟨m, hm⟩ := top_real s L C z
  rw [attv, ht, hm]
  -- the weights, as reals
  have e1 : ∀ n : Fin 384, Ideal.exp ((if ok (s.val / 128) (rw' s) n then (L (at' (s.val / 128) n) : EReal) else ⊥) - (m : EReal))
      = if ok (s.val / 128) (rw' s) n then ((Real.exp (L (at' (s.val / 128) n) - m) : ℝ) : EReal) else 0 := by
    intro n
    by_cases h : ok (s.val / 128) (rw' s) n
    · rw [if_pos h, if_pos h, exp_sub]
    · rw [if_neg h, if_neg h, exp_bot_sub]
  have e2 : ∀ j : Fin 8192, Ideal.exp ((if near s j then (L j : EReal) else ⊥) - (m : EReal))
      = if near s j then ((Real.exp (L j - m) : ℝ) : EReal) else 0 := by
    intro n
    by_cases h : near s n
    · rw [if_pos h, if_pos h, exp_sub]
    · rw [if_neg h, if_neg h, exp_bot_sub]
  simp only [e1, e2, exp_sub]
  have s1 : (∑ n, if ok (s.val / 128) (rw' s) n then ((Real.exp (L (at' (s.val / 128) n) - m) : ℝ) : EReal) else 0)
      = ∑ j, if near s j then ((Real.exp (L j - m) : ℝ) : EReal) else 0 := sum_win s (fun j => ((Real.exp (L j - m) : ℝ) : EReal))
  have s2 : (∑ n, (if ok (s.val / 128) (rw' s) n then ((Real.exp (L (at' (s.val / 128) n) - m) : ℝ) : EReal) else 0) * v (at' (s.val / 128) n))
      = ∑ j, (if near s j then ((Real.exp (L j - m) : ℝ) : EReal) else 0) * v j := by
    simp only [ite_mul, zero_mul]
    exact sum_win s (fun j => ((Real.exp (L j - m) : ℝ) : EReal) * v j)
  rw [s1, s2]
  -- the denominator is a positive real
  have hD : ∃ D : ℝ, 0 < D ∧ (∑ j, if near s j then ((Real.exp (L j - m) : ℝ) : EReal) else 0) + (∑ n, ((Real.exp (C n - m) : ℝ) : EReal))
      + ((Real.exp (z - m) : ℝ) : EReal) = (D : EReal) := by
    refine ⟨(∑ j, if near s j then Real.exp (L j - m) else 0) + (∑ n, Real.exp (C n - m)) + Real.exp (z - m), ?_, ?_⟩
    · refine add_pos_of_nonneg_of_pos (add_nonneg (Finset.sum_nonneg fun j _ => ?_) (Finset.sum_nonneg fun n _ => (Real.exp_pos _).le)) (Real.exp_pos _)
      by_cases h : near s j
      · rw [if_pos h]; exact (Real.exp_pos _).le
      · rw [if_neg h]
    · rw [EReal.coe_add, EReal.coe_add, coe_sum, coe_sum]
      refine congrArg (fun t => t + _ + _) (Finset.sum_congr rfl fun j _ => ?_)
      by_cases h : near s j
      · rw [if_pos h, if_pos h]
      · rw [if_neg h, if_neg h, EReal.coe_zero]
  obtain ⟨D, hD0, hD⟩ := hD
  rw [hD]
  simp only [div_real _ D hD0]
  have hr : 0 ≤ D⁻¹ := (inv_pos.mpr hD0).le
  rw [EReal.right_distrib_of_nonneg_of_ne_top (EReal.coe_nonneg.mpr hr) (EReal.coe_ne_top _), sum_mul_coe _ _ _ hr, sum_mul_coe _ _ _ hr]
  refine congrArg₂ (· + ·) (Finset.sum_congr rfl fun j _ => ?_) (Finset.sum_congr rfl fun j _ => ?_)
  · rw [mul_comm _ (v j), mul_assoc]
  · rw [mul_comm _ (vc j), mul_assoc]

/-- A scale on one factor of a product of finite entries is a scale on the product. -/
theorem scale_dot {n : ℕ} (q k : Fin n → EReal) (c : EReal) (qr kr : Fin n → ℝ) (cr : ℝ) (hq : ∀ d, q d = (qr d : EReal))
    (hk : ∀ d, k d = (kr d : EReal)) (hc : c = (cr : EReal)) :
    (∑ d, (q d * c) * k d) = (((∑ d, kr d * qr d) * cr : ℝ) : EReal) ∧ (∑ d, k d * q d) * c = (((∑ d, kr d * qr d) * cr : ℝ) : EReal) := by
  constructor
  · rw [Finset.sum_mul, coe_sum]
    refine Finset.sum_congr rfl fun d _ => ?_
    rw [hq, hk, hc, ← EReal.coe_mul, ← EReal.coe_mul]
    refine congrArg _ ?_
    ring
  · rw [EReal.coe_mul, coe_sum, hc]
    refine congrArg (· * _) (Finset.sum_congr rfl fun d _ => ?_)
    rw [hq, hk, ← EReal.coe_mul]

theorem ofBits_eighth : Ideal.ofBits .f32 0x3E000000#32 = ((((1 : ℝ) / 8 : ℝ)) : EReal) := by
  simp [Ideal.ofBits, Ideal.ieee, -EReal.coe_mul]; norm_num

end Cert.AttnMath

end
-- ==== Proof.Attn.Dense.lean ====
/- The reference's result read at an entry: one softmax over all 8192 keys, the 256 context keys and the sink. -/
module

public import proofs.«01_k».proof.Proof.Gen.AttnRefIdeal.Read
public import Idealize.ShloMosaic.Lib.Pointwise

@[expose] public section

set_option maxRecDepth 16384

noncomputable section

namespace Cert.AttnDense

open Cert.AttnRefIdeal Cert.AttnRefIdeal.Gen Cert.AttnRefIdeal.Read Idealize.ShloMosaic Idealize.ShloMosaic.TcCoe Idealize.SL.Sem

section
variable (x0 : S8x8192x6x64.Idx → EReal) (x1 x2 : S8x8192x2x64.Idx → EReal) (x3 x4 : S8x256x2x64.Idx → EReal) (x5 : S6.Idx → EReal)

theorem ofBits_negInf : Ideal.ofBits .f32 0xFF800000#32 = ⊥ := by
  simp [Ideal.ofBits, Ideal.ieee]

/-- The scores of one query: keys, context keys, sink, side by side. -/
def sc (b : Fin 8) (kv : Fin 2) (g : Fin 3) (i : Fin 8192) (j : Fin 8449) : EReal :=
  if h : j.val < 8192 then
    Scalar.select (val_main_v9 (F := Ideal) (ix2 i ⟨j.val, h⟩))
      ((∑ d, x1 (ix4 b ⟨j.val, h⟩ kv d) * x0 (ix4 b i ⟨kv.val * 3 + g.val, by omega⟩ d)) * Ideal.ofBits .f32 0x3E000000#32) ⊥
  else if h' : j.val - 8192 < 256 then
    (∑ d, x3 (ix4 b ⟨j.val - 8192, h'⟩ kv d) * x0 (ix4 b i ⟨kv.val * 3 + g.val, by omega⟩ d)) * Ideal.ofBits .f32 0x3E000000#32
  else x5 (ix1 ⟨kv.val * 3 + g.val, by omega⟩)

theorem sc_at (b : Fin 8) (kv : Fin 2) (g : Fin 3) (i : Fin 8192) (j : Fin 8449) :
    val_main_v21 (F := Ideal) x0 x1 x3 x5 (ix5 b kv g i j) = sc x0 x1 x3 x5 b kv g i j := by
  pointwise [val_main_v21, val_main_v20, val_main_v19, val_main_v18, val_main_v17, val_main_cst_1, val_main_v16, val_main_v15, val_main_v14, val_main_call0_v2, val_main_call0_v1, val_main_call0_v0, val_main_cst_0, val_main_v13, val_main_v12, val_main_cst, val_main_v11, val_main_v10, val_main_v0]
  have e : id (constant (F := Ideal) S_ FTy.f32 4286578688#32) ix0 = (⊥ : EReal) := ofBits_negInf
  rw [e]
  rfl

theorem mx_at (b : Fin 8) (kv : Fin 2) (g : Fin 3) (i : Fin 8192) :
    val_main_v22 (F := Ideal) x0 x1 x3 x5 (ix4 b kv g i) = Finset.univ.fold max ⊥ (sc x0 x1 x3 x5 b kv g i) := by
  pointwise [val_main_v22, val_main_cst_2, sc_at, ofBits_negInf]

/-- The band of the reference's mask: the distance as a 32-bit word. -/
theorem mk_at (i j : Fin 8192) :
    val_main_v9 (F := Ideal) (ix2 i j) = IntOp.cmpi CmpIPredicate.sle (IntOp.absi (IntOp.subi (BitVec.ofNat 32 i.val) (BitVec.ofNat 32 j.val))) 128#32 := by
  pointwise [val_main_v9, val_main_v8, val_main_c, val_main_v7, val_main_v6, val_main_v5, val_main_v4, val_main_v3, val_main_v2, val_main_v1]

/-- The greatest score, as the reference takes it. -/
abbrev mx (b : Fin 8) (kv : Fin 2) (g : Fin 3) (i : Fin 8192) : EReal := max ⊥ (Finset.univ.fold max ⊥ (sc x0 x1 x3 x5 b kv g i))

theorem ex_at (b : Fin 8) (kv : Fin 2) (g : Fin 3) (i : Fin 8192) (j : Fin 8449) :
    val_main_v28 (F := Ideal) x0 x1 x3 x5 (ix5 b kv g i j) = Ideal.exp (sc x0 x1 x3 x5 b kv g i j - mx x0 x1 x3 x5 b kv g i) := by
  have e : idx_main_v25 (idx_main_v26 (ix5 b kv g i j)) = ix4 b kv g i := by
    funext a; match a with | ⟨0, _⟩ => rfl | ⟨1, _⟩ => rfl | ⟨2, _⟩ => rfl | ⟨3, _⟩ => rfl
  have e3 : val_main_cst_3 (F := Ideal) (idx_main_v23 (ix4 b kv g i)) = (⊥ : EReal) := ofBits_negInf
  rw [val_main_v28_apply, val_main_v27_apply, val_main_v26_apply, val_main_v25_apply, e, val_main_v24_apply, val_main_v23_apply, e3, sc_at, mx_at]
  unfold mx
  generalize sc x0 x1 x3 x5 b kv g i = f
  rfl

theorem p_at (b : Fin 8) (kv : Fin 2) (g : Fin 3) (i : Fin 8192) (j : Fin 8449) :
    val_main_v32 (F := Ideal) x0 x1 x3 x5 (ix5 b kv g i j)
      = Ideal.div (Ideal.exp (sc x0 x1 x3 x5 b kv g i j - mx x0 x1 x3 x5 b kv g i))
          (∑ j, Ideal.exp (sc x0 x1 x3 x5 b kv g i j - mx x0 x1 x3 x5 b kv g i)) := by
  have e : idx_main_v30 (idx_main_v31 (ix5 b kv g i j)) = ix4 b kv g i := by
    funext a; match a with | ⟨0, _⟩ => rfl | ⟨1, _⟩ => rfl | ⟨2, _⟩ => rfl | ⟨3, _⟩ => rfl
  have e' : ∀ k, idx_main_v29 (ix4 b kv g i) k = ix5 b kv g i k := by
    intro k; funext a; match a with | ⟨0, _⟩ => rfl | ⟨1, _⟩ => rfl | ⟨2, _⟩ => rfl | ⟨3, _⟩ => rfl | ⟨4, _⟩ => rfl
  have e4 : val_main_cst_4 (F := Ideal) (Shape.Idx.first h_S_) = (0 : EReal) := Ideal.ofBits_zero_f32
  rw [val_main_v32_apply, val_main_v31_apply, val_main_v30_apply, e, val_main_v29_apply, e4, zero_add, ex_at]
  refine congrArg (Ideal.div _) (Finset.sum_congr rfl fun k _ => ?_)
  rw [e', ex_at]

theorem pl_at (b : Fin 8) (kv : Fin 2) (g : Fin 3) (i : Fin 8192) (j : Fin 8192) :
    val_main_v33 (F := Ideal) x0 x1 x3 x5 (ix5 b kv g i j) = val_main_v32 (F := Ideal) x0 x1 x3 x5 (ix5 b kv g i ⟨j.val, by omega⟩) := by
  pointwise [val_main_v33]

theorem pc_at (b : Fin 8) (kv : Fin 2) (g : Fin 3) (i : Fin 8192) (j : Fin 256) :
    val_main_v36 (F := Ideal) x0 x1 x3 x5 (ix5 b kv g i j) = val_main_v32 (F := Ideal) x0 x1 x3 x5 (ix5 b kv g i ⟨8192 + j.val, by omega⟩) := by
  pointwise [val_main_v36]

theorem o_at (b : Fin 8) (s : Fin 8192) (kv : Fin 2) (g : Fin 3) (d : Fin 64) :
    val_main_v39 (F := Ideal) x0 x1 x2 x3 x4 x5 (ix5 b s kv g d)
      = (∑ j : Fin 8192, x2 (ix4 b j kv d) * val_main_v33 (F := Ideal) x0 x1 x3 x5 (ix5 b kv g s j))
        + ∑ n : Fin 256, x4 (ix4 b n kv d) * val_main_v36 (F := Ideal) x0 x1 x3 x5 (ix5 b kv g s n) := by
  pointwise [val_main_v39, val_main_v38, val_main_v37, val_main_v35, val_main_v34]

theorem r_at (i : S65536x384.Idx) (b : Fin 8) (s : Fin 8192) (h : Fin 6) (d : Fin 64) (h0 : (i 0).val = 8192 * b.val + s.val)
    (h1 : (i 1).val = 64 * h.val + d.val) :
    val_main_v41 (F := Ideal) x0 x1 x2 x3 x4 x5 i
      = val_main_v39 (F := Ideal) x0 x1 x2 x3 x4 x5 (ix5 b s ⟨h.val / 3, by omega⟩ ⟨h.val % 3, by omega⟩ d) := by
  have hi0 : (i 0).val < 65536 := (i 0).isLt
  have hi1 : (i 1).val < 384 := (i 1).isLt
  have e : idx_main_v40 i = ix5 b s ⟨h.val / 3, by omega⟩ ⟨h.val % 3, by omega⟩ d := by
    funext a
    match a with
    | ⟨0, _⟩ => exact Fin.ext (show ((i 0).val * 384 + (i 1).val) / 3145728 = b.val by omega)
    | ⟨1, _⟩ => exact Fin.ext (show ((i 0).val * 384 + (i 1).val) / 384 % 8192 = s.val by omega)
    | ⟨2, _⟩ => exact Fin.ext (show ((i 0).val * 384 + (i 1).val) / 192 % 2 = h.val / 3 by omega)
    | ⟨3, _⟩ => exact Fin.ext (show ((i 0).val * 384 + (i 1).val) / 64 % 3 = h.val % 3 by omega)
    | ⟨4, _⟩ => exact Fin.ext (show ((i 0).val * 384 + (i 1).val) % 64 = d.val by omega)
  rw [val_main_v41_apply, val_main_v40_apply, e]
  generalize val_main_v39 (F := Ideal) x0 x1 x2 x3 x4 x5 = y
  rfl
end

end Cert.AttnDense

end
-- ==== Proof.Attn.Eq.lean ====
/- The kernel's attention and the reference's attention agree at every entry, for finite queries, keys and sink. -/
module

public import proofs.«01_k».proof.Proof.Attn.Kern
public import proofs.«01_k».proof.Proof.Attn.Math
public import proofs.«01_k».proof.Proof.Attn.Dense
public import proofs.«01_k».proof.Pre_scores_finite
public import proofs.«01_k».proof.Proof.Gen.Pre_scores_finite
public import Idealize.ShloMosaic.Lib.ReduceAll
public import Idealize.ShloMosaic.Lib.WordCmp
public import Idealize.ShloMosaic.Lib.Affine

@[expose] public section

set_option maxRecDepth 16384

noncomputable section

namespace Cert.AttnEq

open Cert.AttnRefIdeal Cert.AttnRefIdeal.Gen Cert.AttnTile Cert.AttnMath Idealize.ShloMosaic Idealize.ShloMosaic.TcCoe Idealize.SL.Sem

/-- Every entry is a real number. -/
abbrev fin {s : Shape} (x : s.Idx → EReal) : Prop := ∀ i, ∃ r : ℝ, x i = (r : EReal)

theorem real_of_lt (x : EReal) (h : max x (-x) < ⊤) : ∃ r : ℝ, x = (r : EReal) := by
  induction x with
  | bot => exact absurd h (by simp)
  | top => exact absurd h (by simp)
  | coe r => exact ⟨r, rfl⟩

theorem ofBits_inf : Ideal.ofBits .f32 0x7F800000#32 = ⊤ := by
  simp [Ideal.ofBits, Ideal.ieee]

theorem fin_of_cmp {s : Shape} (x y : FVec Ideal s .f32) (hy : ∀ i, y i = (⊤ : EReal)) (h : ∀ i, cmpf .olt (Host.absf x) y i = 1#1) : fin x := by
  intro i
  refine real_of_lt (x i) ?_
  have h1 := h i
  have h2 : Ideal.cmp .olt (max (x i) (-(x i))) (y i) = 1#1 := h1
  rw [hy i] at h2
  by_contra hc
  have : Ideal.cmp .olt (max (x i) (-(x i))) ⊤ = 0#1 := by
    show BitVec.ofBool (decide (max (x i) (-(x i)) < ⊤)) = 0#1
    rw [decide_eq_false hc]
    rfl
  rw [this] at h2
  exact absurd h2 (by decide)

/-- The precondition: queries, keys, context keys and sink are finite. -/
theorem pre_fin (q : FVec Ideal S8x8192x6x64 .f32) (k v : FVec Ideal S8x8192x2x64 .f32) (kc vc : FVec Ideal S8x256x2x64 .f32) (sk : FVec Ideal S6 .f32)
    (h : Cert.Pre_scores_finite.fn (F := Ideal) q k v kc vc sk = constantI S_ 1 1#1) : fin q ∧ fin k ∧ fin kc ∧ fin sk := by
  have h0 := congrFun h ix0
  dsimp only [Cert.Pre_scores_finite.fn, Cert.Pre_scores_finite.fn_part1] at h0
  obtain ⟨h1, hs⟩ := IntOp.andi_eq_one.mp h0
  obtain ⟨h2, hc⟩ := IntOp.andi_eq_one.mp h1
  obtain ⟨hq, hk⟩ := IntOp.andi_eq_one.mp h2
  exact ⟨fin_of_cmp q _ (fun _ => ofBits_inf) fun i => Host.reduce_andi_all _ _ _ _ _ hq i,
    fin_of_cmp k _ (fun _ => ofBits_inf) fun i => Host.reduce_andi_all _ _ _ _ _ hk i,
    fin_of_cmp kc _ (fun _ => ofBits_inf) fun i => Host.reduce_andi_all _ _ _ _ _ hc i,
    fin_of_cmp sk _ (fun _ => ofBits_inf) fun i => Host.reduce_andi_all _ _ _ _ _ hs i⟩

/-- The reference's band: at most 128 positions either way. -/
theorem mask (s j : Fin 8192) (x : EReal) :
    Scalar.select (IntOp.cmpi CmpIPredicate.sle (IntOp.absi (IntOp.subi (BitVec.ofNat 32 s.val) (BitVec.ofNat 32 j.val))) 128#32) x ⊥
      = if near s j then x else ⊥ := by
  have key : (IntOp.cmpi CmpIPredicate.sle (IntOp.absi (IntOp.subi (BitVec.ofNat 32 s.val) (BitVec.ofNat 32 j.val))) 128#32) = 1#1 ↔ near s j := by
    have hs := s.isLt
    have hj := j.isLt
    have e : (IntOp.subi (BitVec.ofNat 32 s.val) (BitVec.ofNat 32 j.val)).toInt = (s.val : ℤ) - j.val := by
      show (BitVec.ofNat 32 s.val - BitVec.ofNat 32 j.val).toInt = _
      rw [BitVec.toInt_sub, BitVec.toInt_ofNat', BitVec.toInt_ofNat']
      simp only [Int.bmod]
      omega
    generalize IntOp.subi (BitVec.ofNat 32 s.val) (BitVec.ofNat 32 j.val) = w at e ⊢
    have a : (IntOp.absi w).toInt = |(s.val : ℤ) - j.val| := by
      unfold IntOp.absi
      rw [BitVec.msb_eq_toInt, e]
      by_cases hn : (s.val : ℤ) - j.val < 0
      · rw [decide_eq_true hn, if_pos rfl, BitVec.toInt_neg, e, abs_of_neg hn]
        simp only [Int.bmod]
        omega
      · rw [decide_eq_false hn, if_neg (by decide), e, abs_of_nonneg (by omega)]
    rw [IntOp.cmpi_sle, a]
    show |(s.val : ℤ) - j.val| ≤ 128 ↔ _
    rw [abs_le]
    constructor
    · intro h; exact ⟨by omega, by omega⟩
    · intro h; obtain ⟨h1, h2⟩ := h; exact ⟨by omega, by omega⟩
  by_cases h : near s j
  · rw [if_pos h, key.mpr h]; rfl
  · rw [if_neg h]
    show (if _ = 1#1 then _ else _) = _
    rw [if_neg (fun hc => h (key.mp hc))]

section
variable (q : S8x8192x6x64.Idx → EReal) (k v : S8x8192x2x64.Idx → EReal) (kc vc : S8x256x2x64.Idx → EReal) (sk : S6.Idx → EReal)

theorem agree (hq : fin q) (hk : fin k) (hc : fin kc) (hs : fin sk) (b : Fin 8) (s : Fin 8192) (h : Fin 6) (e : Fin 64) :
    outK q k v kc vc sk b s h e = Cert.AttnRefIdeal.Read.val_main_v39 (F := Ideal) q k v kc vc sk (ix5 b s ⟨h.val / 3, by omega⟩ ⟨h.val % 3, by omega⟩ e) := by
  choose qr hqr using hq
  choose kr hkr using hk
  choose cr hcr using hc
  choose sr hsr using hs
  have hh : (⟨h.val / 3 * 3 + h.val % 3, by omega⟩ : Fin 6) = h := Fin.ext (by show h.val / 3 * 3 + h.val % 3 = h.val; omega)
  have eL := fun j : Fin 8192 => scale_dot (fun d => q (ix4 b s h d)) (fun d => k (ix4 b j ⟨h.val / 3, by omega⟩ d)) (Ideal.ofBits .f32 0x3E000000#32)
    (fun d => qr (ix4 b s h d)) (fun d => kr (ix4 b j ⟨h.val / 3, by omega⟩ d)) (1 / 8) (fun d => hqr _) (fun d => hkr _) ofBits_eighth
  have eC := fun n : Fin 256 => scale_dot (fun d => q (ix4 b s h d)) (fun d => kc (ix4 b n ⟨h.val / 3, by omega⟩ d)) (Ideal.ofBits .f32 0x3E000000#32)
    (fun d => qr (ix4 b s h d)) (fun d => cr (ix4 b n ⟨h.val / 3, by omega⟩ d)) (1 / 8) (fun d => hqr _) (fun d => hcr _) ofBits_eighth
  generalize hL : (fun j : Fin 8192 => (∑ d, kr (ix4 b j ⟨h.val / 3, by omega⟩ d) * qr (ix4 b s h d)) * (1 / 8)) = L at *
  generalize hC : (fun n : Fin 256 => (∑ d, cr (ix4 b n ⟨h.val / 3, by omega⟩ d) * qr (ix4 b s h d)) * (1 / 8)) = C at *
  have eL1 : ∀ j : Fin 8192, (∑ d, (q (ix4 b s h d) * Ideal.ofBits .f32 0x3E000000#32) * k (ix4 b j ⟨h.val / 3, by omega⟩ d)) = (L j : EReal) :=
    fun j => (eL j).1.trans (congrArg _ (congrFun hL j))
  have eL2 : ∀ j : Fin 8192, (∑ d, k (ix4 b j ⟨h.val / 3, by omega⟩ d) * q (ix4 b s h d)) * Ideal.ofBits .f32 0x3E000000#32 = (L j : EReal) :=
    fun j => (eL j).2.trans (congrArg _ (congrFun hL j))
  have eC1 : ∀ j : Fin 256, (∑ d, (q (ix4 b s h d) * Ideal.ofBits .f32 0x3E000000#32) * kc (ix4 b j ⟨h.val / 3, by omega⟩ d)) = (C j : EReal) :=
    fun j => (eC j).1.trans (congrArg _ (congrFun hC j))
  have eC2 : ∀ j : Fin 256, (∑ d, kc (ix4 b j ⟨h.val / 3, by omega⟩ d) * q (ix4 b s h d)) * Ideal.ofBits .f32 0x3E000000#32 = (C j : EReal) :=
    fun j => (eC j).2.trans (congrArg _ (congrFun hC j))
  -- the reference's row of scores
  have f1 : ∀ j : Fin 8192, Cert.AttnDense.sc q k kc sk b ⟨h.val / 3, by omega⟩ ⟨h.val % 3, by omega⟩ s ⟨j.val, by omega⟩ = if near s j then (L j : EReal) else ⊥ := by
    intro j
    rw [Cert.AttnDense.sc, dif_pos (show j.val < 8192 from j.isLt), Cert.AttnDense.mk_at, mask]
    rw [hh]
    exact congrArg (fun t => if near s j then t else ⊥) (eL2 j)
  have f2 : ∀ j : Fin 256, Cert.AttnDense.sc q k kc sk b ⟨h.val / 3, by omega⟩ ⟨h.val % 3, by omega⟩ s ⟨8192 + j.val, by omega⟩ = (C j : EReal) := by
    intro j
    have hj := j.isLt
    have ej : (⟨8192 + j.val - 8192, by omega⟩ : Fin 256) = j := Fin.ext (by show 8192 + j.val - 8192 = j.val; omega)
    rw [Cert.AttnDense.sc, dif_neg (show ¬ 8192 + j.val < 8192 by omega), dif_pos (show 8192 + j.val - 8192 < 256 by omega)]
    rw [hh]
    refine Eq.trans ?_ (eC2 j)
    exact congrArg (fun t : Fin 256 => (∑ d, kc (ix4 b t ⟨h.val / 3, by omega⟩ d) * q (ix4 b s h d)) * Ideal.ofBits .f32 0x3E000000#32) ej
  have f3 : ∀ j : Fin 1, Cert.AttnDense.sc q k kc sk b ⟨h.val / 3, by omega⟩ ⟨h.val % 3, by omega⟩ s ⟨8192 + 256 + j.val, by omega⟩ = (sr (ix1 h) : EReal) := by
    intro j
    have hj := j.isLt
    rw [Cert.AttnDense.sc, dif_neg (show ¬ 8192 + 256 + j.val < 8192 by omega), dif_neg (show ¬ 8192 + 256 + j.val - 8192 < 256 by omega)]
    rw [hh]
    exact hsr _
  rw [Cert.AttnDense.o_at]
  simp only [Cert.AttnDense.pl_at, Cert.AttnDense.pc_at, Cert.AttnDense.p_at]
  simp only [f1, f2]
  rw [sum_three 8192 256 1 8449 rfl]
  rw [Cert.AttnDense.mx, fold_sup, sup_three 8192 256 1 8449 rfl]
  simp only [f1, f2, f3]
  rw [Fin.sum_univ_one]
  have hu : (Finset.univ.sup fun _ : Fin 1 => (sr (ix1 h) : EReal)) = (sr (ix1 h) : EReal) := by
    simp
  rw [hu, max_eq_right bot_le]
  refine Eq.trans ?_ (dense s L C (sr (ix1 h)) (fun j => v (ix4 b j ⟨h.val / 3, by omega⟩ e)) (fun n => vc (ix4 b n ⟨h.val / 3, by omega⟩ e)))
  rw [outK, head]
  simp only [eL1, eC1, hsr]
  have er : row 0 ⟨s.val % 128, by omega⟩ = rw' s := Fin.ext (by show 128 * 0 + s.val % 128 = s.val % 128; omega)
  rw [er]
end

end Cert.AttnEq

end
-- ==== Proof.Attn.Claims.lean ====
/- The claims about the attention: both programs run, and their results are equal extended reals. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Attn.Eq
public import Idealize.ShloMosaic.Adequacy
public import Idealize.ShloMosaic.Init

@[expose] public section

set_option maxRecDepth 16384

noncomputable section

namespace Cert.AttnClaims

open Idealize.ShloMosaic Idealize.SL.Sem

theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_ref_pre : Cert.quiescent_AttnRefIdeal_pre_scores_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- Under the precondition the two result arrays are the same function of the arguments. -/
theorem value (m : (ℓ : Loc Cert.AttnIdeal.nD Cert.AttnIdeal.τ Cert.AttnIdeal.sig) → Buf (Elt Ideal) ℓ) (c : Dev Cert.AttnIdeal.nD)
    (h : Cert.Pre_AttnIdeal_scores_finite m) :
    Cert.AttnTile.arrK m c = Cert.AttnRefIdeal.Read.val_main_v41 (F := Ideal) (Cert.AttnTile.aq m c) (Cert.AttnTile.ak m c) (Cert.AttnTile.av m c)
      (Cert.AttnTile.akc m c) (Cert.AttnTile.avc m c) (Cert.AttnTile.ask m c) := by
  obtain ⟨hq, hk, hc, hs⟩ := Cert.AttnEq.pre_fin _ _ _ _ _ _ (h c)
  funext i
  have h0 : (i 0).val < 65536 := (i 0).isLt
  have h1 : (i 1).val < 384 := (i 1).isLt
  rw [Cert.AttnDense.r_at _ _ _ _ _ _ i ⟨(i 0).val / 8192, by omega⟩ ⟨(i 0).val % 8192, by omega⟩ ⟨(i 1).val / 64, by omega⟩ ⟨(i 1).val % 64, by omega⟩
    (by show (i 0).val = 8192 * ((i 0).val / 8192) + (i 0).val % 8192; omega) (by show (i 1).val = 64 * ((i 1).val / 64) + (i 1).val % 64; omega)]
  exact Cert.AttnEq.agree _ _ _ _ _ _ hq hk hc hs _ _ _ _

theorem algebraic : Cert.algebraic_AttnIdeal_AttnRefIdeal_pre_scores_finite := by
  intro m ρ m' ρ' hpre hag
  refine ⟨fun c => Cert.AttnTile.arrK m c, (θ_run Cert.AttnIdeal.defs _ _).mono (fun _ h c => ⟨(h c).1.trans (Cert.AttnTile.final m c), (h c).2⟩)
    (Cert.AttnIdeal.Value.run_blocks (F := Ideal) m ρ), (θ_run Cert.AttnRefIdeal.defs _ _).mono (fun _ h c => ⟨(h c).1.trans ?_, (h c).2⟩)
    (Cert.AttnRefIdeal.Value.run (F := Ideal) m' ρ')⟩
  obtain ⟨a0, a1, a2, a3, a4, a5⟩ := hag c
  rw [Cert.AttnRefIdeal.Read.val_main_v41_eq, a0, a1, a2, a3, a4, a5]
  exact (value m c hpre).symm

end Cert.AttnClaims

end
-- ==== Proof.Proj.Pay.lean ====
/- The projection kernel's arithmetic on one block of rows, read at an element: the scaled and shifted rows times a
   block of columns of the matrix, and the rotation of pairs of lanes by the tables of cosines and sines. -/
module

public import proofs.«01_k».proof.Proof.Gen.ProjIdeal.Skeleton
public import Idealize.ShloMosaic.Lib.Pointwise

@[expose] public section

set_option maxRecDepth 16384

noncomputable section

namespace Cert.ProjK

open Cert.ProjIdeal Cert.ProjIdeal.Gen Idealize.ShloMosaic Idealize.ShloMosaic.TcCoe Idealize.SL.Sem

/-- One scaled and shifted row times a column of the matrix. -/
def rowdot (x s b w : Fin 1024 → EReal) : EReal := ∑ k, (x k * s k + b k) * w k

/-- The lane a lane is paired with: sixteen further in the first half of its 32 lanes, sixteen back in the second. -/
def pt (l : Fin 128) : Fin 128 := if l.val % 32 < 16 then ⟨(l.val + 16) % 128, by omega⟩ else ⟨(l.val + 112) % 128, by omega⟩

theorem sel_one {α : Type} (x y : α) : Scalar.select 1#1 x y = x := rfl
theorem sel_zero {α : Type} (x y : α) : Scalar.select 0#1 x y = y := rfl

theorem pay4_at (v0 : Vec Ideal S512x1024 .f32) (v2 v6 : Vec Ideal S1x1x1024 .f32) (w : Vec Ideal S1024x256 .bf16) (r : Fin 512) (l : Fin 256) :
    k0_pay4 (F := Ideal) v0 v2 v6 w (ix2 r l)
      = rowdot (fun k => v0 (ix2 r k)) (fun k => v2 (ix3 0 0 k)) (fun k => v6 (ix3 0 0 k)) (fun k => w (ix2 k l)) := by
  pointwise [k0_pay4, k0_pay3, rowdot]

theorem pay5_at (v0 : Vec Ideal S512x1024 .f32) (v2 v6 : Vec Ideal S1x1x1024 .f32) (w : Vec Ideal S1024x384 .bf16) (r : Fin 512) (l : Fin 384) :
    k0_pay5 (F := Ideal) v0 v2 v6 w (ix2 r l)
      = rowdot (fun k => v0 (ix2 r k)) (fun k => v2 (ix3 0 0 k)) (fun k => v6 (ix3 0 0 k)) (fun k => w (ix2 k l)) := by
  pointwise [k0_pay5, k0_pay3, rowdot]

theorem pay6_at (v0 : Vec Ideal S512x1024 .f32) (v2 v6 : Vec Ideal S1x1x1024 .f32) (w : Vec Ideal S1024x384 .bf16) (r : Fin 512) (l : Fin 384) :
    k0_pay6 (F := Ideal) v0 v2 v6 w (ix2 r l)
      = rowdot (fun k => v0 (ix2 r k)) (fun k => v2 (ix3 0 0 k)) (fun k => v6 (ix3 0 0 k)) (fun k => w (ix2 k l)) := by
  pointwise [k0_pay6, k0_pay3, rowdot]

theorem pay7_at (v0 : Vec Ideal S512x1024 .f32) (v2 v6 : Vec Ideal S1x1x1024 .f32) (w : Vec Ideal S1024x128 .bf16) (r : Fin 512) (l : Fin 128) :
    k0_pay7 (F := Ideal) v0 v2 v6 w (ix2 r l)
      = rowdot (fun k => v0 (ix2 r k)) (fun k => v2 (ix3 0 0 k)) (fun k => v6 (ix3 0 0 k)) (fun k => w (ix2 k l)) := by
  pointwise [k0_pay7, k0_pay3, rowdot]

theorem pay8_at (v0 : Vec Ideal S512x1024 .f32) (v2 v6 : Vec Ideal S1x1x1024 .f32) (w : Vec Ideal S1024x128 .bf16) (r : Fin 512) (l : Fin 128) :
    k0_pay8 (F := Ideal) (k0_pay3 v0 v2 v6) w (ix2 r l)
      = rowdot (fun k => v0 (ix2 r k)) (fun k => v2 (ix3 0 0 k)) (fun k => v6 (ix3 0 0 k)) (fun k => w (ix2 k l)) := by
  pointwise [k0_pay8, k0_pay3, rowdot]

theorem pay9_at (v0 : Vec Ideal S512x1024 .f32) (v2 v6 : Vec Ideal S1x1x1024 .f32) (w : Vec Ideal S1024x256 .bf16) (r : Fin 512) (l : Fin 256) :
    k0_pay9 (F := Ideal) (k0_pay3 v0 v2 v6) w (ix2 r l)
      = rowdot (fun k => v0 (ix2 r k)) (fun k => v2 (ix3 0 0 k)) (fun k => v6 (ix3 0 0 k)) (fun k => w (ix2 k l)) := by
  pointwise [k0_pay9, k0_pay3, rowdot]

theorem pay10_at (v0 : Vec Ideal S512x1024 .f32) (v2 v6 : Vec Ideal S1x1x1024 .f32) (w : Vec Ideal S1024x384 .bf16) (r : Fin 512) (l : Fin 384) :
    k0_pay10 (F := Ideal) (k0_pay3 v0 v2 v6) w (ix2 r l)
      = rowdot (fun k => v0 (ix2 r k)) (fun k => v2 (ix3 0 0 k)) (fun k => v6 (ix3 0 0 k)) (fun k => w (ix2 k l)) * Ideal.ofBits .f32 0x3E000000#32 := by
  pointwise [k0_pay10, k0_pay3, rowdot]

theorem pay11_at (v0 : Vec Ideal S512x1024 .f32) (v2 v6 : Vec Ideal S1x1x1024 .f32) (w : Vec Ideal S1024x384 .bf16) (r : Fin 512) (l : Fin 384) :
    k0_pay11 (F := Ideal) (k0_pay3 v0 v2 v6) w (ix2 r l)
      = rowdot (fun k => v0 (ix2 r k)) (fun k => v2 (ix3 0 0 k)) (fun k => v6 (ix3 0 0 k)) (fun k => w (ix2 k l)) := by
  pointwise [k0_pay11, k0_pay3, rowdot]

/-- A lane of a group of 128 after the rotation, from the lanes before it and the tables' entries. -/
def rot (x : Fin 128 → EReal) (l : Fin 128) (cs sn : EReal) : EReal := x l * cs + x (pt l) * sn

/-- The kernel's word for "in the first half of its 32 lanes". -/
def halfWord (l : ℕ) : BitVec 1 :=
  IntOp.cmpi CmpIPredicate.slt
    (Scalar.select
      (IntOp.andi
        (IntOp.xori
          (IntOp.cmpi CmpIPredicate.slt
            (IntOp.remsi ArithUnit.vector (BitVec.ofNat 32 l) (Scalar.select (Scalar.cmpi CmpIPredicate.eq 32#32 0#32) 1#32 32#32)) 0#32)
          (Scalar.cmpi CmpIPredicate.slt 32#32 0#32))
        (IntOp.cmpi CmpIPredicate.ne
          (IntOp.remsi ArithUnit.vector (BitVec.ofNat 32 l) (Scalar.select (Scalar.cmpi CmpIPredicate.eq 32#32 0#32) 1#32 32#32)) 0#32))
      (IntOp.addi
        (IntOp.remsi ArithUnit.vector (BitVec.ofNat 32 l) (Scalar.select (Scalar.cmpi CmpIPredicate.eq 32#32 0#32) 1#32 32#32)) 32#32)
      (IntOp.remsi ArithUnit.vector (BitVec.ofNat 32 l) (Scalar.select (Scalar.cmpi CmpIPredicate.eq 32#32 0#32) 1#32 32#32)))
    16#32

theorem halfWord_eq : ∀ l : Fin 128, halfWord l.val = if l.val % 32 < 16 then 1#1 else 0#1 := by decide +kernel

/-- The same word, spelt out at the kernel's later groups of lanes. -/
def halfWord' (l : ℕ) : BitVec 1 :=
  IntOp.cmpi CmpIPredicate.slt
    (Scalar.select
      (IntOp.andi
        (IntOp.xori
          (IntOp.cmpi CmpIPredicate.slt
            (IntOp.remsi ArithUnit.vector (BitVec.ofNat 32 l) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 l) (Scalar.select (Scalar.cmpi CmpIPredicate.eq 32#32 0#32) 1#32 32#32)) 0#32))
      (IntOp.addi
        (IntOp.remsi ArithUnit.vector (BitVec.ofNat 32 l) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l) (Scalar.select (Scalar.cmpi CmpIPredicate.eq 32#32 0#32) 1#32 32#32)))
    16#32

theorem halfWord'_eq : ∀ l : Fin 128, halfWord' l.val = if l.val % 32 < 16 then 1#1 else 0#1 := by decide +kernel

/-- The kernel's choice between the two rotated copies of a row reads the paired lane. -/
theorem sel_pt (f : Fin 128 → EReal) (l : Fin 128) (b : BitVec 1) (hb : b = if l.val % 32 < 16 then 1#1 else 0#1)
    (h1 : (l.val + 128 - 112) % 128 < 128) (h2 : (l.val + 128 - 16) % 128 < 128) :
    Scalar.select b (f ⟨(l.val + 128 - 112) % 128, h1⟩) (f ⟨(l.val + 128 - 16) % 128, h2⟩) = f (pt l) := by
  rw [hb, pt]
  split
  · rw [sel_one]; congr 2
  · rw [sel_zero]; congr 2

theorem rot_congr {f g : Fin 128 → EReal} {l l' : Fin 128} {c c' s s' : EReal} (hf : ∀ e, f e = g e) (hl : l = l') (hc : c = c') (hs : s = s') :
    rot f l c s = rot g l' c' s' := by
  obtain rfl := funext hf
  subst hl hc hs
  rfl

theorem rot1_at (x cs sn : FVec Ideal S512x128 .f32) (r : Fin 512) (l : Fin 128) :
    k0_pay17 (F := Ideal) x cs sn 32#32 k0_pay14 k0_pay15 k0_pay16 (ix2 r l) = rot (fun l => x (ix2 r l)) l (cs (ix2 r l)) (sn (ix2 r l)) := by
  pointwise [k0_pay17, k0_pay14, k0_pay15, k0_pay16, rot]
  exact congrArg (fun z => x (ix2 r l) * cs (ix2 r l) + z * sn (ix2 r l)) (sel_pt (fun l => x (ix2 r l)) l (halfWord l.val) (halfWord_eq l) _ _)

theorem nak_at (x cs sn : FVec Ideal S512x128 .f32) (r : Fin 512) (l : Fin 128) :
    k0_pay1 (F := Ideal) (k0_pay17 x cs sn 32#32 k0_pay14 k0_pay15 k0_pay16) (ix2 r l) = rot (fun l => x (ix2 r l)) l (cs (ix2 r l)) (sn (ix2 r l)) :=
  rot1_at x cs sn r l

theorem rot2_at (x : FVec Ideal S512x384 .f32) (cs sn : FVec Ideal S512x128 .f32) (r : Fin 512) (l : Fin 128) :
    k0_pay18 (F := Ideal) x cs sn (ix2 r l) = rot (fun l => x (ix2 r ⟨l.val, by omega⟩)) l (cs (ix2 r l)) (sn (ix2 r l)) := by
  pointwise [k0_pay18, rot]
  refine congrArg₂ (· + ·) rfl (congrArg (· * sn (ix2 r l)) ?_)
  exact sel_pt (fun l => x (ix2 r ⟨l.val, by omega⟩)) l (halfWord' l.val) (halfWord'_eq l) (by omega) (by omega)

theorem rot3_at (x : FVec Ideal S512x384 .f32) (cs sn : FVec Ideal S512x128 .f32) (r : Fin 512) (l : Fin 128) :
    k0_pay20 (F := Ideal) cs sn (k0_pay19 x) (iota .tc S512x128 32 [1] iota_S512x128_d1_w32) 32#32 0#32 (ix2 r l)
      = rot (fun l => x (ix2 r ⟨128 + l.val, by omega⟩)) l (cs (ix2 r l)) (sn (ix2 r l)) := by
  pointwise [k0_pay20, k0_pay19, rot]
  refine congrArg₂ (· + ·) rfl (congrArg (· * sn (ix2 r l)) ?_)
  exact sel_pt (fun l => x (ix2 r ⟨128 + l.val, by omega⟩)) l (halfWord' l.val) (halfWord'_eq l) (by omega) (by omega)

theorem rot4_at (x : FVec Ideal S512x384 .f32) (cs sn : FVec Ideal S512x128 .f32) (r : Fin 512) (l : Fin 128) :
    addf (mulf (k0_pay21 x) cs) (mulf (select k0_pay22 (k0_pay23 x) (dynamicRotate 1 16#32 none (k0_pay21 x) rotates_S512x128_d1)) sn) (ix2 r l)
      = rot (fun l => x (ix2 r ⟨256 + l.val, by omega⟩)) l (cs (ix2 r l)) (sn (ix2 r l)) := by
  pointwise [k0_pay21, k0_pay22, k0_pay23, rot]
  refine congrArg₂ (· + ·) rfl (congrArg (· * sn (ix2 r l)) ?_)
  exact sel_pt (fun l => x (ix2 r ⟨256 + l.val, by omega⟩)) l (halfWord' l.val) (halfWord'_eq l) (by omega) (by omega)

theorem cat_at (a b d : FVec Ideal S512x128 .f32) (r : Fin 512) (l : Fin 384) :
    mulf (concatenate S512x384 1 [⟨S512x128, a⟩, ⟨S512x128, b⟩, ⟨S512x128, d⟩] concatenates_S512x128_S512x128_S512x128_S512x384_d1)
        (broadcast S512x384 (Scalar.ofBits (F := Ideal) .f32 0x3E000000#32)) (ix2 r l)
      = (if h : l.val < 128 then a (ix2 r ⟨l.val, h⟩) else if h' : l.val - 128 < 128 then b (ix2 r ⟨l.val - 128, h'⟩)
          else d (ix2 r ⟨l.val - 128 - 128, by omega⟩)) * Ideal.ofBits .f32 0x3E000000#32 := by
  pointwise []

/-- The three groups of 128 lanes of a row side by side, each rotated, then scaled. -/
theorem gq_at (x : FVec Ideal S512x384 .f32) (cs sn : FVec Ideal S512x128 .f32) (r : Fin 512) (l : Fin 384) :
    k0_pay2 (F := Ideal) cs sn (k0_pay18 x cs sn) (k0_pay20 cs sn (k0_pay19 x) (iota .tc S512x128 32 [1] iota_S512x128_d1_w32) 32#32 0#32)
        (k0_pay21 x) k0_pay22 (k0_pay23 x) (ix2 r l)
      = rot (fun e => x (ix2 r ⟨128 * (l.val / 128) + e.val, by omega⟩)) ⟨l.val % 128, by omega⟩ (cs (ix2 r ⟨l.val % 128, by omega⟩)) (sn (ix2 r ⟨l.val % 128, by omega⟩))
          * Ideal.ofBits .f32 0x3E000000#32 := by
  refine (cat_at _ _ _ r l).trans (congrArg (· * _) ?_)
  split
  · next h =>
    refine (rot2_at x cs sn r _).trans (rot_congr (fun e => congrArg x (congrArg (ix2 r) (Fin.ext ?_))) (Fin.ext ?_)
      (congrArg cs (congrArg (ix2 r) (Fin.ext ?_))) (congrArg sn (congrArg (ix2 r) (Fin.ext ?_))))
    · show e.val = 128 * (l.val / 128) + e.val; omega
    all_goals (show l.val = l.val % 128; omega)
  · split
    · next h h' =>
      refine (rot3_at x cs sn r _).trans (rot_congr (fun e => congrArg x (congrArg (ix2 r) (Fin.ext ?_))) (Fin.ext ?_)
        (congrArg cs (congrArg (ix2 r) (Fin.ext ?_))) (congrArg sn (congrArg (ix2 r) (Fin.ext ?_))))
      · show 128 + e.val = 128 * (l.val / 128) + e.val; omega
      all_goals (show l.val - 128 = l.val % 128; omega)
    · next h h' =>
      refine (rot4_at x cs sn r _).trans (rot_congr (fun e => congrArg x (congrArg (ix2 r) (Fin.ext ?_))) (Fin.ext ?_)
        (congrArg cs (congrArg (ix2 r) (Fin.ext ?_))) (congrArg sn (congrArg (ix2 r) (Fin.ext ?_))))
      · show 256 + e.val = 128 * (l.val / 128) + e.val; omega
      all_goals (show l.val - 128 - 128 = l.val % 128; omega)

end Cert.ProjK

end
-- ==== Proof.Proj.Glob.lean ====
/- What the projection kernel's blocks hold of the arguments. -/
module

public import proofs.«01_k».proof.Proof.Proj.Pay
public import proofs.«01_k».proof.Proof.Gen.ProjIdeal.Value
public import Idealize.ShloMosaic.Lib.Pipeline.ValueKit
public import Idealize.ShloMosaic.Lib.StableHlo.ReadAt

@[expose] public section

set_option maxRecDepth 16384

noncomputable section

namespace Cert.ProjK

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev ax (c : Dev nD) : S8x8192x1024.Idx → EReal := m ((c : Thread nD τ).loc main_arg0)
abbrev asc (c : Dev nD) : S8x1024.Idx → EReal := m ((c : Thread nD τ).loc main_arg1)
abbrev ash (c : Dev nD) : S8x1024.Idx → EReal := m ((c : Thread nD τ).loc main_arg2)
abbrev aw (c : Dev nD) : S1024x2304.Idx → EReal := m ((c : Thread nD τ).loc main_arg3)

theorem idx : ∀ t : Fin cfg0.N, win0_0.index t = ![t.val, 0] ∧ win0_1.index t = ![t.val / 16, 0, 0] ∧ win0_2.index t = ![t.val / 16, 0, 0]
    ∧ win0_3.index t = ![0, 0] ∧ win0_4.index t = ![t.val % 16, 0] ∧ win0_5.index t = ![t.val % 16, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 0] ∧ win0_1.index t = ![t.val / 16, 0, 0] ∧ win0_2.index t = ![t.val / 16, 0, 0]
    ∧ win0_3.index t = ![0, 0] ∧ win0_4.index t = ![t.val % 16, 0] ∧ win0_5.index t = ![t.val % 16, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0])

theorem t_lt (t : Fin cfg0.N) : t.val < 128 := lt_of_lt_of_eq t.isLt N_0

theorem val_x (c : Dev nD) (r : Fin 65536) (k : Fin 1024) : V m c main_v39 (ix2 r k)
    = ax m c (ix3 ⟨r.val / 8192, by omega⟩ ⟨r.val % 8192, by omega⟩ k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem val_sc (c : Dev nD) (b : Fin 8) (k : Fin 1024) : V m c main_v42 (ix3 b 0 k)
    = Ideal.ofBits .f32 0x3F800000#32 + asc m c (ix2 b k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem val_sh (c : Dev nD) (b : Fin 8) (k : Fin 1024) : V m c main_v43 (ix3 b 0 k) = ash m c (ix2 b k) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem val_w (c : Dev nD) (k : Fin 1024) (l : Fin 2304) : V m c main_v44 (ix2 k l) = aw m c (ix2 k l) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem win0 (c : Dev nD) (t : Fin cfg0.N) (x : Fin 512) (k : Fin 1024) : iblk m c 0 t (ix2 x k)
    = V m c main_v39 (ix2 ⟨t.val * 512 + x.val, by have := t_lt t; omega⟩ k) := by
  blk_ext [iblk, idx t]

theorem win1 (c : Dev nD) (t : Fin cfg0.N) (k : Fin 1024) : iblk m c 1 t (ix3 0 0 k)
    = V m c main_v42 (ix3 ⟨t.val / 16, by have := t_lt t; omega⟩ 0 k) := by
  blk_ext [iblk, idx t]

theorem win2 (c : Dev nD) (t : Fin cfg0.N) (k : Fin 1024) : iblk m c 2 t (ix3 0 0 k)
    = V m c main_v43 (ix3 ⟨t.val / 16, by have := t_lt t; omega⟩ 0 k) := by
  blk_ext [iblk, idx t]

theorem win3 (c : Dev nD) (t : Fin cfg0.N) (k : Fin 1024) (l : Fin 2304) : iblk m c 3 t (ix2 k l) = V m c main_v44 (ix2 k l) := by
  blk_ext [iblk, idx t]

theorem win4 (c : Dev nD) (t : Fin cfg0.N) (x : Fin 512) (l : Fin 128) : iblk m c 4 t (ix2 x l)
    = V m c main_v34 (ix2 ⟨t.val % 16 * 512 + x.val, by have := t_lt t; omega⟩ l) := by
  blk_ext [iblk, idx t]

theorem win5 (c : Dev nD) (t : Fin cfg0.N) (x : Fin 512) (l : Fin 128) : iblk m c 5 t (ix2 x l)
    = V m c main_v38 (ix2 ⟨t.val % 16 * 512 + x.val, by have := t_lt t; omega⟩ l) := by
  blk_ext [iblk, idx t]

end Cert.ProjK

end
-- ==== Proof.Proj.Tab.lean ====
/- The entries of the tables of cosines and sines. -/
module

public import proofs.«01_k».proof.Proof.Proj.Glob
public import proofs.«01_k».proof.Proof.Gen.ProjIdeal.Value
public import Idealize.ShloMosaic.Lib.Pipeline.ValueKit
public import Idealize.ShloMosaic.Lib.StableHlo.ReadAt
public import Idealize.ShloMosaic.Lib.Routing.OpsSet

@[expose] public section

set_option maxRecDepth 16384

noncomputable section

namespace Cert.ProjK

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

theorem val_row (c : Dev nD) (s : Fin 8192) : V m c main_v1 (ix1 s) = BitVec.ofNat 32 (s.val / 64) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  revert s
  decide +kernel

theorem val_col (c : Dev nD) (s : Fin 8192) : V m c main_v2 (ix1 s) = BitVec.ofNat 32 (s.val % 64) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  revert s
  decide +kernel

theorem val_lane (c : Dev nD) (l : Fin 128) : V m c main_v24 (ix2 l 0) = BitVec.ofNat 32 (l.val % 16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  revert l
  decide +kernel

theorem val_half (c : Dev nD) (l : Fin 128) : V m c main_v13 (ix2 0 l) = if l.val % 64 < 32 then 1#1 else 0#1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  revert l
  decide +kernel

theorem val_sgnw (c : Dev nD) (l : Fin 128) : V m c main_v31 (ix1 l) = if l.val % 32 < 16 then 1#1 else 0#1 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  revert l
  decide +kernel

theorem step25 (c : Dev nD) : V m c main_v25 = Host.gather gather_S16_S128x1_S128_n_0_n_n_0_1_1 (V m c main_v8) (V m c main_v24) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp

theorem step16 (c : Dev nD) (s : Fin 8192) (l : Fin 128) : V m c main_v16 (ix2 s l) = Scalar.select (V m c main_v13 (ix2 0 l)) (V m c main_v1 (ix1 s)) (V m c main_v2 (ix1 s)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem step28 (c : Dev nD) (s : Fin 8192) (l : Fin 128) : V m c main_v28 (ix2 s l) = FloatOps.sitofp (F := Ideal) .f32 (V m c main_v16 (ix2 s l)) * (V m c main_v25 (ix1 l) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
theorem step34 (c : Dev nD) (s : Fin 8192) (l : Fin 128) : V m c main_v34 (ix2 s l) = Ideal.cos (V m c main_v28 (ix2 s l)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem step38 (c : Dev nD) (s : Fin 8192) (l : Fin 128) : V m c main_v38 (ix2 s l) = Ideal.sin (V m c main_v28 (ix2 s l)) * (V m c main_v33 (ix1 l) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

theorem val_inv (c : Dev nD) (j : Fin 16) : V m c main_v8 (ix1 j) = Ideal.pow (Ideal.ofBits .f32 0x461C4000#32)
      (Ideal.div (-FloatOps.sitofp (F := Ideal) .f32 (BitVec.ofNat 32 j.val)) (Ideal.ofBits .f32 0x41800000#32)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at

end Cert.ProjK

end
-- ==== Proof.Proj.Cos.lean ====
/- The closed forms of the entries of the tables of cosines and sines. -/
module

public import proofs.«01_k».proof.Proof.Proj.Tab
public import proofs.«01_k».proof.Proof.Gen.ProjIdeal.Value
public import Idealize.ShloMosaic.Lib.Pipeline.ValueKit
public import Idealize.ShloMosaic.Lib.StableHlo.ReadAt
public import Idealize.ShloMosaic.Lib.Routing.OpsSet

@[expose] public section

set_option maxRecDepth 16384

noncomputable section

namespace Cert.ProjK

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

theorem step33 (c : Dev nD) (l : Fin 128) : V m c main_v33 (ix1 l) = (Scalar.select (V m c main_v31 (ix1 l)) (Ideal.ofBits .f32 0xBF800000#32) (Ideal.ofBits .f32 0x3F800000#32) : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
  simp only [id_eq]
  rfl

/-- The rate of pair `j` of an axis: ten thousand to the power `-j/16`. -/
def rate (j : ℕ) : EReal := Ideal.pow (Ideal.ofBits .f32 0x461C4000#32)
    (Ideal.div (-FloatOps.sitofp (F := Ideal) .f32 (BitVec.ofNat 32 j)) (Ideal.ofBits .f32 0x41800000#32))

/-- The angle of lane `l` at position `s`: of the row for the first half of a head and of the column for the second. -/
def ang (s l : ℕ) : EReal := FloatOps.sitofp (F := Ideal) .f32 (if l % 64 < 32 then BitVec.ofNat 32 (s / 64) else BitVec.ofNat 32 (s % 64))
    * rate (l % 16)

theorem val_rate (c : Dev nD) (l : Fin 128) : V m c main_v25 (ix1 l) = rate (l.val % 16) := by
  rw [step25]
  refine (Routing.gather_take1 gather_S16_S128x1_S128_n_0_n_n_0_1_1 rfl rfl rfl rfl (V m c main_v8) (V m c main_v24) l
    ⟨l.val % 16, by omega⟩ (val_lane m c l) (by norm_num)).trans (val_inv m c ⟨l.val % 16, by omega⟩)

theorem val_ang (c : Dev nD) (s : Fin 8192) (l : Fin 128) : V m c main_v28 (ix2 s l) = ang s.val l.val := by
  rw [step28, step16, val_half, val_row, val_col, val_rate]
  by_cases h : l.val % 64 < 32
  · simp only [ang, if_pos h]; rfl
  · simp only [ang, if_neg h]; rfl

theorem val_cos (c : Dev nD) (s : Fin 8192) (l : Fin 128) : V m c main_v34 (ix2 s l) = Ideal.cos (ang s.val l.val) := by
  rw [step34, val_ang]

theorem val_sin (c : Dev nD) (s : Fin 8192) (l : Fin 128) : V m c main_v38 (ix2 s l) = Ideal.sin (ang s.val l.val)
    * (if l.val % 32 < 16 then Ideal.ofBits .f32 0xBF800000#32 else Ideal.ofBits .f32 0x3F800000#32) := by
  rw [step38, val_ang, step33, val_sgnw]
  by_cases h : l.val % 32 < 16
  · simp only [if_pos h]; rfl
  · simp only [if_neg h]; rfl

end Cert.ProjK

end
-- ==== Proof.Proj.Kern.lean ====
/- The eight result arrays of the projection kernel, entry by entry. -/
module

public import proofs.«01_k».proof.Proof.Proj.Cos
public import proofs.«01_k».proof.Proof.Gen.ProjIdeal.Value
public import Idealize.ShloMosaic.Lib.Pipeline.ValueKit
public import Idealize.ShloMosaic.Lib.StableHlo.ReadAt
public import Idealize.ShloMosaic.Lib.Routing.OpsSet

@[expose] public section

set_option maxRecDepth 16384

noncomputable section

namespace Cert.ProjK

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- Entry `(r, q)` of the projection: row `r` of the modulated activations, of all batches one after another, against column `q`
    of the weights. -/
def pd (x : S8x8192x1024.Idx → EReal) (sc sh : S8x1024.Idx → EReal) (w : S1024x2304.Idx → EReal) (r q : ℕ) : EReal :=
  rowdot (fun k => x (ix3 ⟨r / 8192 % 8, by omega⟩ ⟨r % 8192, by omega⟩ k))
    (fun k => Ideal.ofBits .f32 0x3F800000#32 + sc (ix2 ⟨r / 8192 % 8, by omega⟩ k))
    (fun k => sh (ix2 ⟨r / 8192 % 8, by omega⟩ k)) (fun k => w (ix2 k ⟨q % 2304, by omega⟩))

/-- The lane a lane is paired with, at any number of lanes. -/
def ptn (l : ℕ) : ℕ := if l % 32 < 16 then l + 16 else l - 16

/-- Entry `(r, base + l)` of the projection after the rotation of its head. -/
def rp (x : S8x8192x1024.Idx → EReal) (sc sh : S8x1024.Idx → EReal) (w : S1024x2304.Idx → EReal) (base r l : ℕ) : EReal :=
  pd x sc sh w r (base + l) * Ideal.cos (ang (r % 8192) l)
    + pd x sc sh w r (base + ptn l) * (Ideal.sin (ang (r % 8192) l)
      * (if l % 32 < 16 then Ideal.ofBits .f32 0xBF800000#32 else Ideal.ofBits .f32 0x3F800000#32))

theorem rowdot_congr {x x' s s' b b' w w' : Fin 1024 → EReal} (hx : ∀ k, x k = x' k) (hs : ∀ k, s k = s' k) (hb : ∀ k, b k = b' k)
    (hw : ∀ k, w k = w' k) : rowdot x s b w = rowdot x' s' b' w' := by
  rw [funext hx, funext hs, funext hb, funext hw]

theorem ang_mod (s l l' : ℕ) (h : l % 64 = l' % 64) : ang s l = ang s l' := by
  have e : l % 16 = l' % 16 := by omega
  unfold ang
  rw [h, e]

theorem blk_x (c : Dev nD) (t : Fin cfg0.N) (x : Fin 512) (k : Fin 1024) (r : ℕ) (gr : r = t.val * 512 + x.val) :
    iblk m c 0 t (ix2 x k) = ax m c (ix3 ⟨r / 8192 % 8, by omega⟩ ⟨r % 8192, by omega⟩ k) := by
  have gt := t_lt t
  subst gr
  refine (win0 m c t x k).trans ((val_x m c _ k).trans (congrArg (ax m c) (congrArg₂ (fun a b => ix3 a b k) (Fin.ext ?_) (Fin.ext ?_))))
  · show (t.val * 512 + x.val) / 8192 = (t.val * 512 + x.val) / 8192 % 8; omega
  · rfl

theorem blk_sc (c : Dev nD) (t : Fin cfg0.N) (x : Fin 512) (k : Fin 1024) (r : ℕ) (gr : r = t.val * 512 + x.val) :
    iblk m c 1 t (ix3 0 0 k) = Ideal.ofBits .f32 0x3F800000#32 + asc m c (ix2 ⟨r / 8192 % 8, by omega⟩ k) := by
  have gt := t_lt t
  subst gr
  refine (win1 m c t k).trans ((val_sc m c _ k).trans (congrArg (fun a => Ideal.ofBits .f32 0x3F800000#32 + asc m c (ix2 a k)) (Fin.ext ?_)))
  show t.val / 16 = (t.val * 512 + x.val) / 8192 % 8; omega

theorem blk_sh (c : Dev nD) (t : Fin cfg0.N) (x : Fin 512) (k : Fin 1024) (r : ℕ) (gr : r = t.val * 512 + x.val) :
    iblk m c 2 t (ix3 0 0 k) = ash m c (ix2 ⟨r / 8192 % 8, by omega⟩ k) := by
  have gt := t_lt t
  subst gr
  refine (win2 m c t k).trans ((val_sh m c _ k).trans (congrArg (fun a => ash m c (ix2 a k)) (Fin.ext ?_)))
  show t.val / 16 = (t.val * 512 + x.val) / 8192 % 8; omega

theorem blk_w (c : Dev nD) (t : Fin cfg0.N) (k : Fin 1024) (l : Fin 2304) (q : ℕ) (gq : q = l.val) :
    iblk m c 3 t (ix2 k l) = aw m c (ix2 k ⟨q % 2304, by omega⟩) := by
  subst gq
  refine (win3 m c t k l).trans ((val_w m c k l).trans (congrArg (fun a => aw m c (ix2 k a)) (Fin.ext ?_)))
  show l.val = l.val % 2304; omega

theorem blk_cos (c : Dev nD) (t : Fin cfg0.N) (x : Fin 512) (l : Fin 128) (r : ℕ) (gr : r = t.val * 512 + x.val) :
    iblk m c 4 t (ix2 x l) = Ideal.cos (ang (r % 8192) l.val) := by
  have gt := t_lt t
  subst gr
  refine (win4 m c t x l).trans ((val_cos m c _ l).trans (congrArg (fun a => Ideal.cos (ang a l.val)) ?_))
  show t.val % 16 * 512 + x.val = (t.val * 512 + x.val) % 8192; omega

theorem blk_sin (c : Dev nD) (t : Fin cfg0.N) (x : Fin 512) (l : Fin 128) (r : ℕ) (gr : r = t.val * 512 + x.val) :
    iblk m c 5 t (ix2 x l) = Ideal.sin (ang (r % 8192) l.val)
      * (if l.val % 32 < 16 then Ideal.ofBits .f32 0xBF800000#32 else Ideal.ofBits .f32 0x3F800000#32) := by
  have gt := t_lt t
  subst gr
  refine (win5 m c t x l).trans ((val_sin m c _ l).trans (congrArg (fun a => Ideal.sin (ang a l.val) * _) ?_))
  show t.val % 16 * 512 + x.val = (t.val * 512 + x.val) % 8192; omega

/-- A row of a block against a column of the weights is the projection's entry. -/
theorem dot_at (c : Dev nD) (t : Fin cfg0.N) (x : Fin 512) (l : Fin 2304) (r q : ℕ) (gr : r = t.val * 512 + x.val) (gq : q = l.val) :
    rowdot (fun k => iblk m c 0 t (ix2 x k)) (fun k => iblk m c 1 t (ix3 0 0 k)) (fun k => iblk m c 2 t (ix3 0 0 k))
      (fun k => iblk m c 3 t (ix2 k l)) = pd (ax m c) (asc m c) (ash m c) (aw m c) r q :=
  rowdot_congr (fun k => blk_x m c t x k r gr) (fun k => blk_sc m c t x k r gr) (fun k => blk_sh m c t x k r gr)
    (fun k => blk_w m c t k l q gq)

/-- A rotated lane of a group of 128 lanes at an offset. -/
theorem rot_at (c : Dev nD) (t : Fin cfg0.N) (x : Fin 512) (l : Fin 128) (y : Fin 128 → EReal) (cs sn : EReal) (r base n : ℕ)
    (gr : r = t.val * 512 + x.val) (gl : n % 128 = l.val)
    (hy : ∀ e : Fin 128, y e = pd (ax m c) (asc m c) (ash m c) (aw m c) r (base + (n - l.val + e.val)))
    (hc : cs = iblk m c 4 t (ix2 x l)) (hs : sn = iblk m c 5 t (ix2 x l)) :
    rot y l cs sn = rp (ax m c) (asc m c) (ash m c) (aw m c) base r n := by
  unfold rot rp
  rw [hc, hs, hy, hy, blk_cos m c t x l r gr, blk_sin m c t x l r gr, ang_mod (r % 8192) l.val n (by omega)]
  have e : l.val % 32 = n % 32 := by omega
  rw [e, show n - l.val + l.val = n by omega]
  refine congrArg (fun z => _ + pd _ _ _ _ r (base + z) * _) ?_
  unfold pt ptn
  rw [e]
  split
  · show n - l.val + (l.val + 16) % 128 = n + 16; omega
  · show n - l.val + (l.val + 112) % 128 = n - 16; omega

theorem point6 (c : Dev nD) (t : Fin cfg0.N) (y : S512x256.Idx) (r : ℕ) (gr : r = t.val * 512 + (y 0).val) :
    out0_6 (F := Ideal) (iblk m c 0 t) (iblk m c 1 t) (iblk m c 2 t) (iblk m c 3 t) (iblk m c 4 t) (iblk m c 5 t) y
      = pd (ax m c) (asc m c) (ash m c) (aw m c) r (0 + (y 1).val) := by
  unfold_out out0_6
  canon_tiles x h
  obtain ⟨x0, x1, rfl⟩ : ∃ (a : Fin 512) (b : Fin 256), x = ix2 a b := ⟨x 0, x 1, by funext k; fin_cases k <;> rfl⟩
  change (y 0).val = x0.val at h0
  change (y 1).val = x1.val at h1
  refine (pay4_at _ _ _ _ x0 x1).trans ?_
  pointwise []
  exact (dot_at m c t x0 ⟨x1.val, by omega⟩ r _ (by omega) h1)

/-- Result 0 of the kernel. -/
def arr6 (c : Dev nD) (i : S65536x256.Idx) : EReal := pd (ax m c) (asc m c) (ash m c) (aw m c) (i 0).val (0 + (i 1).val)

theorem final6 (c : Dev nD) : (dats m 0 c).arrAt 6 cfg0.N = arr6 m c := by
  refine (dats m 0 c).arrAt_eq_of_covers 6 _ (by decide +kernel) fun t _ y => ?_
  blk_simp
  rw [after0_6]
  refine (point6 m c t y _ rfl).trans ?_
  unfold arr6
  blk_simp [idx t]

theorem point7 (c : Dev nD) (t : Fin cfg0.N) (y : S512x256.Idx) (r : ℕ) (gr : r = t.val * 512 + (y 0).val) :
    out0_7 (F := Ideal) (iblk m c 0 t) (iblk m c 1 t) (iblk m c 2 t) (iblk m c 3 t) (iblk m c 4 t) (iblk m c 5 t) y
      = pd (ax m c) (asc m c) (ash m c) (aw m c) r (1280 + (y 1).val) := by
  unfold_out out0_7
  canon_tiles x h
  obtain ⟨x0, x1, rfl⟩ : ∃ (a : Fin 512) (b : Fin 256), x = ix2 a b := ⟨x 0, x 1, by funext k; fin_cases k <;> rfl⟩
  change (y 0).val = x0.val at h0
  change (y 1).val = x1.val at h1
  refine (pay9_at _ _ _ _ x0 x1).trans ?_
  pointwise []
  exact (dot_at m c t x0 ⟨1280 + x1.val, by omega⟩ r _ (by omega) (by show (1280 + (y 1).val : ℕ) = 1280 + x1.val; omega))

/-- Result 1 of the kernel. -/
def arr7 (c : Dev nD) (i : S65536x256.Idx) : EReal := pd (ax m c) (asc m c) (ash m c) (aw m c) (i 0).val (1280 + (i 1).val)

theorem final7 (c : Dev nD) : (dats m 0 c).arrAt 7 cfg0.N = arr7 m c := by
  refine (dats m 0 c).arrAt_eq_of_covers 7 _ (by decide +kernel) fun t _ y => ?_
  blk_simp
  rw [after0_7]
  refine (point7 m c t y _ rfl).trans ?_
  unfold arr7
  blk_simp [idx t]

theorem point8 (c : Dev nD) (t : Fin cfg0.N) (y : S512x384.Idx) (r : ℕ) (gr : r = t.val * 512 + (y 0).val) :
    out0_8 (F := Ideal) (iblk m c 0 t) (iblk m c 1 t) (iblk m c 2 t) (iblk m c 3 t) (iblk m c 4 t) (iblk m c 5 t) y
      = pd (ax m c) (asc m c) (ash m c) (aw m c) r (256 + (y 1).val) := by
  unfold_out out0_8
  canon_tiles x h
  obtain ⟨x0, x1, rfl⟩ : ∃ (a : Fin 512) (b : Fin 384), x = ix2 a b := ⟨x 0, x 1, by funext k; fin_cases k <;> rfl⟩
  change (y 0).val = x0.val at h0
  change (y 1).val = x1.val at h1
  refine (pay5_at _ _ _ _ x0 x1).trans ?_
  pointwise []
  exact (dot_at m c t x0 ⟨256 + x1.val, by omega⟩ r _ (by omega) (by show (256 + (y 1).val : ℕ) = 256 + x1.val; omega))

/-- Result 2 of the kernel. -/
def arr8 (c : Dev nD) (i : S65536x384.Idx) : EReal := pd (ax m c) (asc m c) (ash m c) (aw m c) (i 0).val (256 + (i 1).val)

theorem final8 (c : Dev nD) : (dats m 0 c).arrAt 8 cfg0.N = arr8 m c := by
  refine (dats m 0 c).arrAt_eq_of_covers 8 _ (by decide +kernel) fun t _ y => ?_
  blk_simp
  rw [after0_8]
  refine (point8 m c t y _ rfl).trans ?_
  unfold arr8
  blk_simp [idx t]

theorem point9 (c : Dev nD) (t : Fin cfg0.N) (y : S512x384.Idx) (r : ℕ) (gr : r = t.val * 512 + (y 0).val) :
    out0_9 (F := Ideal) (iblk m c 0 t) (iblk m c 1 t) (iblk m c 2 t) (iblk m c 3 t) (iblk m c 4 t) (iblk m c 5 t) y
      = pd (ax m c) (asc m c) (ash m c) (aw m c) r (640 + (y 1).val) := by
  unfold_out out0_9
  canon_tiles x h
  obtain ⟨x0, x1, rfl⟩ : ∃ (a : Fin 512) (b : Fin 384), x = ix2 a b := ⟨x 0, x 1, by funext k; fin_cases k <;> rfl⟩
  change (y 0).val = x0.val at h0
  change (y 1).val = x1.val at h1
  refine (pay6_at _ _ _ _ x0 x1).trans ?_
  pointwise []
  exact (dot_at m c t x0 ⟨640 + x1.val, by omega⟩ r _ (by omega) (by show (640 + (y 1).val : ℕ) = 640 + x1.val; omega))

/-- Result 3 of the kernel. -/
def arr9 (c : Dev nD) (i : S65536x384.Idx) : EReal := pd (ax m c) (asc m c) (ash m c) (aw m c) (i 0).val (640 + (i 1).val)

theorem final9 (c : Dev nD) : (dats m 0 c).arrAt 9 cfg0.N = arr9 m c := by
  refine (dats m 0 c).arrAt_eq_of_covers 9 _ (by decide +kernel) fun t _ y => ?_
  blk_simp
  rw [after0_9]
  refine (point9 m c t y _ rfl).trans ?_
  unfold arr9
  blk_simp [idx t]

theorem point10 (c : Dev nD) (t : Fin cfg0.N) (y : S512x384.Idx) (r : ℕ) (gr : r = t.val * 512 + (y 0).val) :
    out0_10 (F := Ideal) (iblk m c 0 t) (iblk m c 1 t) (iblk m c 2 t) (iblk m c 3 t) (iblk m c 4 t) (iblk m c 5 t) y
      = pd (ax m c) (asc m c) (ash m c) (aw m c) r (1536 + (y 1).val) * Ideal.ofBits .f32 0x3E000000#32 := by
  unfold_out out0_10
  canon_tiles x h
  obtain ⟨x0, x1, rfl⟩ : ∃ (a : Fin 512) (b : Fin 384), x = ix2 a b := ⟨x 0, x 1, by funext k; fin_cases k <;> rfl⟩
  change (y 0).val = x0.val at h0
  change (y 1).val = x1.val at h1
  refine (pay10_at _ _ _ _ x0 x1).trans ?_
  pointwise []
  exact congrArg (· * _) (dot_at m c t x0 ⟨1536 + x1.val, by omega⟩ r _ (by omega) (by show (1536 + (y 1).val : ℕ) = 1536 + x1.val; omega))

/-- Result 4 of the kernel. -/
def arr10 (c : Dev nD) (i : S65536x384.Idx) : EReal := pd (ax m c) (asc m c) (ash m c) (aw m c) (i 0).val (1536 + (i 1).val) * Ideal.ofBits .f32 0x3E000000#32

theorem final10 (c : Dev nD) : (dats m 0 c).arrAt 10 cfg0.N = arr10 m c := by
  refine (dats m 0 c).arrAt_eq_of_covers 10 _ (by decide +kernel) fun t _ y => ?_
  blk_simp
  rw [after0_10]
  refine (point10 m c t y _ rfl).trans ?_
  unfold arr10
  blk_simp [idx t]

theorem point12 (c : Dev nD) (t : Fin cfg0.N) (y : S512x128.Idx) (r : ℕ) (gr : r = t.val * 512 + (y 0).val) :
    out0_12 (F := Ideal) (iblk m c 0 t) (iblk m c 1 t) (iblk m c 2 t) (iblk m c 3 t) (iblk m c 4 t) (iblk m c 5 t) y
      = pd (ax m c) (asc m c) (ash m c) (aw m c) r (1152 + (y 1).val) := by
  unfold_out out0_12
  canon_tiles x h
  obtain ⟨x0, x1, rfl⟩ : ∃ (a : Fin 512) (b : Fin 128), x = ix2 a b := ⟨x 0, x 1, by funext k; fin_cases k <;> rfl⟩
  change (y 0).val = x0.val at h0
  change (y 1).val = x1.val at h1
  refine (pay8_at _ _ _ _ x0 x1).trans ?_
  pointwise []
  exact (dot_at m c t x0 ⟨1152 + x1.val, by omega⟩ r _ (by omega) (by show (1152 + (y 1).val : ℕ) = 1152 + x1.val; omega))

/-- Result 6 of the kernel. -/
def arr12 (c : Dev nD) (i : S65536x128.Idx) : EReal := pd (ax m c) (asc m c) (ash m c) (aw m c) (i 0).val (1152 + (i 1).val)

theorem final12 (c : Dev nD) : (dats m 0 c).arrAt 12 cfg0.N = arr12 m c := by
  refine (dats m 0 c).arrAt_eq_of_covers 12 _ (by decide +kernel) fun t _ y => ?_
  blk_simp
  rw [after0_12]
  refine (point12 m c t y _ rfl).trans ?_
  unfold arr12
  blk_simp [idx t]

theorem point11 (c : Dev nD) (t : Fin cfg0.N) (y : S512x128.Idx) (r : ℕ) (gr : r = t.val * 512 + (y 0).val) :
    out0_11 (F := Ideal) (iblk m c 0 t) (iblk m c 1 t) (iblk m c 2 t) (iblk m c 3 t) (iblk m c 4 t) (iblk m c 5 t) y
      = rp (ax m c) (asc m c) (ash m c) (aw m c) 1024 r (y 1).val := by
  unfold_out out0_11
  canon_tiles x h
  obtain ⟨x0, x1, rfl⟩ : ∃ (a : Fin 512) (b : Fin 128), x = ix2 a b := ⟨x 0, x 1, by funext k; fin_cases k <;> rfl⟩
  change (y 0).val = x0.val at h0
  change (y 1).val = x1.val at h1
  refine (nak_at _ _ _ x0 x1).trans (rot_at m c t x0 x1 _ _ _ r 1024 _ (by omega) (by omega) (fun e => ?_) ?_ ?_)
  · refine (pay7_at _ _ _ _ x0 e).trans ?_
    pointwise []
    exact dot_at m c t x0 ⟨1024 + e.val, by omega⟩ r _ (by omega) (by show (1024 + ((y 1).val - x1.val + e.val) : ℕ) = 1024 + e.val; omega)
  · pointwise [k0_pay12]
  · pointwise [k0_pay13]

/-- Result 5 of the kernel. -/
def arr11 (c : Dev nD) (i : S65536x128.Idx) : EReal := rp (ax m c) (asc m c) (ash m c) (aw m c) 1024 (i 0).val (i 1).val

theorem final11 (c : Dev nD) : (dats m 0 c).arrAt 11 cfg0.N = arr11 m c := by
  refine (dats m 0 c).arrAt_eq_of_covers 11 _ (by decide +kernel) fun t _ y => ?_
  blk_simp
  rw [after0_11]
  refine (point11 m c t y _ rfl).trans ?_
  unfold arr11
  blk_simp [idx t]

theorem point13 (c : Dev nD) (t : Fin cfg0.N) (y : S512x384.Idx) (r : ℕ) (gr : r = t.val * 512 + (y 0).val) :
    out0_13 (F := Ideal) (iblk m c 0 t) (iblk m c 1 t) (iblk m c 2 t) (iblk m c 3 t) (iblk m c 4 t) (iblk m c 5 t) y
      = rp (ax m c) (asc m c) (ash m c) (aw m c) 1920 r (y 1).val * Ideal.ofBits .f32 0x3E000000#32 := by
  unfold_out out0_13
  canon_tiles x h
  obtain ⟨x0, x1, rfl⟩ : ∃ (a : Fin 512) (b : Fin 384), x = ix2 a b := ⟨x 0, x 1, by funext k; fin_cases k <;> rfl⟩
  change (y 0).val = x0.val at h0
  change (y 1).val = x1.val at h1
  refine (gq_at _ _ _ x0 x1).trans (congrArg (· * _) (rot_at m c t x0 ⟨x1.val % 128, by omega⟩ _ _ _ r 1920 _ (by omega)
    (by show (y 1).val % 128 = x1.val % 128; omega) (fun e => ?_) ?_ ?_))
  · refine (pay11_at _ _ _ _ x0 _).trans ?_
    pointwise []
    exact dot_at m c t x0 ⟨1920 + (128 * (x1.val / 128) + e.val), by omega⟩ r _ (by omega)
      (by show (1920 + ((y 1).val - x1.val % 128 + e.val) : ℕ) = 1920 + (128 * (x1.val / 128) + e.val); omega)
  · pointwise [k0_pay12]
  · pointwise [k0_pay13]

/-- Result 7 of the kernel. -/
def arr13 (c : Dev nD) (i : S65536x384.Idx) : EReal := rp (ax m c) (asc m c) (ash m c) (aw m c) 1920 (i 0).val (i 1).val * Ideal.ofBits .f32 0x3E000000#32

theorem final13 (c : Dev nD) : (dats m 0 c).arrAt 13 cfg0.N = arr13 m c := by
  refine (dats m 0 c).arrAt_eq_of_covers 13 _ (by decide +kernel) fun t _ y => ?_
  blk_simp
  rw [after0_13]
  refine (point13 m c t y _ rfl).trans ?_
  unfold arr13
  blk_simp [idx t]

end Cert.ProjK

end
-- ==== Proof.Proj.Ref.lean ====
/- The reference's results read at an entry: the modulated rows against the columns of the weights, and the rotation of every head. -/
module

public import proofs.«01_k».proof.Proof.Proj.Kern
public import proofs.«01_k».proof.Proof.Gen.ProjRefIdeal.Read
public import Idealize.ShloMosaic.Lib.Pointwise

@[expose] public section

set_option maxRecDepth 16384

noncomputable section

namespace Cert.ProjR

open Cert.ProjRefIdeal Cert.ProjRefIdeal.Gen Cert.ProjRefIdeal.Read Idealize.ShloMosaic Idealize.ShloMosaic.TcCoe Idealize.SL.Sem
open Cert.ProjK (pd rp ang rate ptn rowdot)

theorem one_val : Ideal.ofBits .f32 0x3F800000#32 = 1 := by
  simp [Ideal.ofBits, Ideal.ieee, -EReal.coe_mul]
  norm_num

theorem neg_one_val : Ideal.ofBits .f32 0xBF800000#32 = -1 := by
  simp [Ideal.ofBits, Ideal.ieee, -EReal.coe_mul]
  norm_num

theorem turn_lo (x y c s : EReal) : x * c - y * s = x * c + y * (s * Ideal.ofBits .f32 0xBF800000#32) := by
  rw [neg_one_val, sub_eq_add_neg, mul_neg, mul_one, mul_neg]

theorem turn_hi (x y c s : EReal) : y * s + x * c = x * c + y * (s * Ideal.ofBits .f32 0x3F800000#32) := by
  rw [one_val, mul_one, add_comm]

theorem row_at (s : Fin 8192) : val_main_v1 (F := Ideal) (ix1 s) = BitVec.ofNat 32 (s.val / 64) := by
  pointwise [val_main_v1, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_v0, val_main_c]
  revert s
  decide +kernel

theorem col_at (s : Fin 8192) : val_main_v2 (F := Ideal) (ix1 s) = BitVec.ofNat 32 (s.val % 64) := by
  pointwise [val_main_v2, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_v0, val_main_c_0]
  revert s
  decide +kernel

theorem rate36_at (j : Fin 16) : val_main_v36 (F := Ideal) (ix1 j) = rate j.val := by
  pointwise [val_main_v31, val_main_v32, val_main_v33, val_main_v34, val_main_v35, val_main_v36, val_main_cst_2, val_main_cst_3, rate]

theorem rate97_at (j : Fin 16) : val_main_v97 (F := Ideal) (ix1 j) = rate j.val := by
  pointwise [val_main_v92, val_main_v93, val_main_v94, val_main_v95, val_main_v96, val_main_v97, val_main_cst_4, val_main_cst_5, rate]

theorem ang43_at (s : Fin 8192) (j : Fin 16) (l : ℕ) (gl : l % 16 = j.val) (gh : l % 64 < 32) :
    val_main_v43 (F := Ideal) (ix2 s j) = ang s.val l := by
  pointwise [val_main_v38, val_main_v39, val_main_v40, val_main_v41, val_main_v42, val_main_v43, row_at, rate36_at, ang]
  rw [if_pos gh, gl]

theorem ang67_at (s : Fin 8192) (j : Fin 16) (l : ℕ) (gl : l % 16 = j.val) (gh : ¬ l % 64 < 32) :
    val_main_v67 (F := Ideal) (ix2 s j) = ang s.val l := by
  pointwise [val_main_v62, val_main_v63, val_main_v64, val_main_v65, val_main_v66, val_main_v67, col_at, rate36_at, ang]
  rw [if_neg gh, gl]

theorem ang104_at (s : Fin 8192) (j : Fin 16) (l : ℕ) (gl : l % 16 = j.val) (gh : l % 64 < 32) :
    val_main_v104 (F := Ideal) (ix2 s j) = ang s.val l := by
  pointwise [val_main_v99, val_main_v100, val_main_v101, val_main_v102, val_main_v103, val_main_v104, row_at, rate97_at, ang]
  rw [if_pos gh, gl]

theorem ang128_at (s : Fin 8192) (j : Fin 16) (l : ℕ) (gl : l % 16 = j.val) (gh : ¬ l % 64 < 32) :
    val_main_v128 (F := Ideal) (ix2 s j) = ang s.val l := by
  pointwise [val_main_v123, val_main_v124, val_main_v125, val_main_v126, val_main_v127, val_main_v128, col_at, rate97_at, ang]
  rw [if_neg gh, gl]

section
variable (x0 : S8x8192x1024.Idx → EReal) (x1 x2 : S8x1024.Idx → EReal) (x3 : S1024x2304.Idx → EReal)

theorem mod_at (b : Fin 8) (s : Fin 8192) (k : Fin 1024) : val_main_v10 (F := Ideal) x0 x1 x2 (ix3 b s k)
    = x0 (ix3 b s k) * (Ideal.ofBits .f32 0x3F800000#32 + x1 (ix2 b k)) + x2 (ix2 b k) := by
  pointwise [val_main_v3, val_main_v4, val_main_v5, val_main_v6, val_main_v7, val_main_v8, val_main_v9, val_main_v10, val_main_cst]

theorem dot_at (b : Fin 8) (s : Fin 8192) (q : Fin 2304) (r n : ℕ) (gr : r = 8192 * b.val + s.val) (gn : n = q.val) :
    val_main_v11 (F := Ideal) x0 x1 x2 x3 (ix3 b s q) = pd x0 x1 x2 x3 r n := by
  subst gr gn
  have eb : (⟨(8192 * b.val + s.val) / 8192 % 8, by omega⟩ : Fin 8) = b := Fin.ext (by show (8192 * b.val + s.val) / 8192 % 8 = b.val; omega)
  have es : (⟨(8192 * b.val + s.val) % 8192, by omega⟩ : Fin 8192) = s := Fin.ext (by show (8192 * b.val + s.val) % 8192 = s.val; omega)
  have eq : (⟨q.val % 2304, by omega⟩ : Fin 2304) = q := Fin.ext (by show q.val % 2304 = q.val; omega)
  unfold pd rowdot
  rw [val_main_v11_apply, eb, es, eq]
  refine Finset.sum_congr rfl fun k _ => ?_
  have el : lidx_main_v11 (ix3 b s q) k = ix3 b s k := by
    funext a; match a with | ⟨0, _⟩ => rfl | ⟨1, _⟩ => rfl | ⟨2, _⟩ => rfl
  have er : ridx_main_v11 (ix3 b s q) k = ix2 k q := by
    funext a; match a with | ⟨0, _⟩ => rfl | ⟨1, _⟩ => rfl
  rw [el, er, mod_at]

theorem res20_at (r : Fin 65536) (l : Fin 256) : val_main_v20 (F := Ideal) x0 x1 x2 x3 (ix2 r l) = pd x0 x1 x2 x3 r.val (0 + l.val) := by
  pointwise [val_main_v20, val_main_v12]
  refine (dot_at x0 x1 x2 x3 _ _ _ r.val l.val ?_ ?_)
  · show r.val = 8192 * (r.val / 8192) + r.val % 8192; omega
  · rfl

theorem res21_at (r : Fin 65536) (l : Fin 256) : val_main_v21 (F := Ideal) x0 x1 x2 x3 (ix2 r l) = pd x0 x1 x2 x3 r.val (1280 + l.val) := by
  pointwise [val_main_v21, val_main_v17]
  refine (dot_at x0 x1 x2 x3 _ _ _ r.val (1280 + l.val) ?_ ?_)
  · show r.val = 8192 * (r.val / 8192) + r.val % 8192; omega
  · first | rfl | (show 1280 + l.val = l.val; omega)

theorem res23_at (r : Fin 65536) (l : Fin 384) : val_main_v23 (F := Ideal) x0 x1 x2 x3 (ix2 r l) = pd x0 x1 x2 x3 r.val (256 + l.val) := by
  pointwise [val_main_v23, val_main_v22, val_main_v13]
  refine (dot_at x0 x1 x2 x3 _ _ _ r.val (256 + l.val) ?_ ?_)
  · show r.val = 8192 * (r.val / 8192) + r.val % 8192; omega
  · first | rfl | (show 256 + l.val = l.val; omega)

theorem res25_at (r : Fin 65536) (l : Fin 384) : val_main_v25 (F := Ideal) x0 x1 x2 x3 (ix2 r l) = pd x0 x1 x2 x3 r.val (640 + l.val) := by
  pointwise [val_main_v25, val_main_v24, val_main_v14]
  refine (dot_at x0 x1 x2 x3 _ _ _ r.val (640 + l.val) ?_ ?_)
  · show r.val = 8192 * (r.val / 8192) + r.val % 8192; omega
  · first | rfl | (show 640 + l.val = l.val; omega)

theorem res29_at (r : Fin 65536) (l : Fin 384) : val_main_v29 (F := Ideal) x0 x1 x2 x3 (ix2 r l) = pd x0 x1 x2 x3 r.val (1536 + l.val) * Ideal.ofBits .f32 0x3E000000#32 := by
  pointwise [val_main_v29, val_main_v28, val_main_v27, val_main_v26, val_main_v18, val_main_cst_1]
  refine congrArg (· * _) (dot_at x0 x1 x2 x3 _ _ _ r.val (1536 + l.val) ?_ ?_)
  · show r.val = 8192 * (r.val / 8192) + r.val % 8192; omega
  · first | rfl | (show 1536 + l.val = l.val; omega)

theorem res90_at (r : Fin 65536) (l : Fin 128) : val_main_v90 (F := Ideal) x0 x1 x2 x3 (ix2 r l) = pd x0 x1 x2 x3 r.val (1152 + l.val) := by
  pointwise [val_main_v90, val_main_v89, val_main_v16]
  refine (dot_at x0 x1 x2 x3 _ _ _ r.val (1152 + l.val) ?_ ?_)
  · show r.val = 8192 * (r.val / 8192) + r.val % 8192; omega
  · first | rfl | (show 1152 + l.val = l.val; omega)

theorem v30_at (b : Fin 8) (s : Fin 8192) (p : Fin 2) (e : Fin 64) (r n : ℕ) (gr : r = 8192 * b.val + s.val) (gn : n = 1024 + (64 * p.val + e.val)) :
    val_main_v30 (F := Ideal) x0 x1 x2 x3 (ix4 b s p e) = pd x0 x1 x2 x3 r n := by
  pointwise [val_main_v30, val_main_v15]
  exact dot_at x0 x1 x2 x3 _ _ _ r n gr (by rw [gn]; first | rfl | (show (_ + (64 * p.val + e.val) : ℕ) = _ + (p.val * 64 + e.val); omega))

theorem v60_at (b : Fin 8) (s : Fin 8192) (p : Fin 2) (e : Fin 32) (r l : ℕ) (gr : r = 8192 * b.val + s.val)
    (gl : l = 64 * p.val + (0 + e.val)) : val_main_v60 (F := Ideal) x0 x1 x2 x3 (ix4 b s p e) = rp x0 x1 x2 x3 1024 r l := by
  have es : r % 8192 = s.val := by omega
  pointwise [val_main_v37, val_main_v44, val_main_v45, val_main_v46, val_main_v47, val_main_v48, val_main_v49, val_main_v50, val_main_v51, val_main_v52, val_main_v53, val_main_v54, val_main_v55, val_main_v56, val_main_v57, val_main_v58, val_main_v59, val_main_v60]
  unfold rp ptn
  rw [es]
  by_cases g : e.val < 16
  · have g' : l % 32 < 16 := by omega
    rw [dif_pos g, if_pos g', if_pos g', ang43_at s ⟨e.val, g⟩ l (by show l % 16 = e.val; omega) (by omega),
      v30_at x0 x1 x2 x3 b s p _ r (1024 + l) gr (by show 1024 + l = 1024 + (64 * p.val + e.val); omega),
      v30_at x0 x1 x2 x3 b s p _ r (1024 + (l + 16)) gr (by show 1024 + (l + 16) = 1024 + (64 * p.val + (16 + e.val)); omega)]
    exact turn_lo _ _ _ _
  · have g' : ¬ l % 32 < 16 := by omega
    rw [dif_neg g, if_neg g', if_neg g', ang43_at s ⟨e.val - 16, by omega⟩ l (by show l % 16 = e.val - 16; omega) (by omega),
      v30_at x0 x1 x2 x3 b s p _ r (1024 + (l - 16)) gr (by show 1024 + (l - 16) = 1024 + (64 * p.val + (e.val - 16)); omega),
      v30_at x0 x1 x2 x3 b s p _ r (1024 + l) gr (by show 1024 + l = 1024 + (64 * p.val + (16 + (e.val - 16))); omega)]
    exact turn_hi _ _ _ _

theorem v84_at (b : Fin 8) (s : Fin 8192) (p : Fin 2) (e : Fin 32) (r l : ℕ) (gr : r = 8192 * b.val + s.val)
    (gl : l = 64 * p.val + (32 + e.val)) : val_main_v84 (F := Ideal) x0 x1 x2 x3 (ix4 b s p e) = rp x0 x1 x2 x3 1024 r l := by
  have es : r % 8192 = s.val := by omega
  pointwise [val_main_v61, val_main_v68, val_main_v69, val_main_v70, val_main_v71, val_main_v72, val_main_v73, val_main_v74, val_main_v75, val_main_v76, val_main_v77, val_main_v78, val_main_v79, val_main_v80, val_main_v81, val_main_v82, val_main_v83, val_main_v84]
  unfold rp ptn
  rw [es]
  by_cases g : e.val < 16
  · have g' : l % 32 < 16 := by omega
    rw [dif_pos g, if_pos g', if_pos g', ang67_at s ⟨e.val, g⟩ l (by show l % 16 = e.val; omega) (by omega),
      v30_at x0 x1 x2 x3 b s p _ r (1024 + l) gr (by show 1024 + l = 1024 + (64 * p.val + (32 + e.val)); omega),
      v30_at x0 x1 x2 x3 b s p _ r (1024 + (l + 16)) gr (by show 1024 + (l + 16) = 1024 + (64 * p.val + (32 + (16 + e.val))); omega)]
    exact turn_lo _ _ _ _
  · have g' : ¬ l % 32 < 16 := by omega
    rw [dif_neg g, if_neg g', if_neg g', ang67_at s ⟨e.val - 16, by omega⟩ l (by show l % 16 = e.val - 16; omega) (by omega),
      v30_at x0 x1 x2 x3 b s p _ r (1024 + (l - 16)) gr (by show 1024 + (l - 16) = 1024 + (64 * p.val + (32 + (e.val - 16))); omega),
      v30_at x0 x1 x2 x3 b s p _ r (1024 + l) gr (by show 1024 + l = 1024 + (64 * p.val + (32 + (16 + (e.val - 16)))); omega)]
    exact turn_hi _ _ _ _

theorem v85_at (b : Fin 8) (s : Fin 8192) (p : Fin 2) (e : Fin 64) (r l : ℕ) (gr : r = 8192 * b.val + s.val)
    (gl : l = 64 * p.val + e.val) : val_main_v85 (F := Ideal) x0 x1 x2 x3 (ix4 b s p e) = rp x0 x1 x2 x3 1024 r l := by
  pointwise [val_main_v85]
  by_cases g : e.val < 32
  · rw [dif_pos g]
    exact v60_at x0 x1 x2 x3 b s p ⟨e.val, g⟩ r l gr (by show l = 64 * p.val + (0 + e.val); omega)
  · rw [dif_neg g]
    exact v84_at x0 x1 x2 x3 b s p ⟨e.val - 32, by omega⟩ r l gr (by show l = 64 * p.val + (32 + (e.val - 32)); omega)

theorem res88_at (r : Fin 65536) (l : Fin 128) : val_main_v88 (F := Ideal) x0 x1 x2 x3 (ix2 r l) = rp x0 x1 x2 x3 1024 r.val l.val := by
  pointwise [val_main_v88, val_main_v87, val_main_v86]
  refine (v85_at x0 x1 x2 x3 _ _ _ _ r.val l.val ?_ ?_)
  · show r.val = 8192 * (r.val / 8192) + r.val % 8192; omega
  · show l.val = 64 * (l.val / 64) + l.val % 64; omega

theorem v91_at (b : Fin 8) (s : Fin 8192) (p : Fin 6) (e : Fin 64) (r n : ℕ) (gr : r = 8192 * b.val + s.val) (gn : n = 1920 + (64 * p.val + e.val)) :
    val_main_v91 (F := Ideal) x0 x1 x2 x3 (ix4 b s p e) = pd x0 x1 x2 x3 r n := by
  pointwise [val_main_v91, val_main_v19]
  exact dot_at x0 x1 x2 x3 _ _ _ r n gr (by rw [gn]; first | rfl | (show (_ + (64 * p.val + e.val) : ℕ) = _ + (p.val * 64 + e.val); omega))

theorem v121_at (b : Fin 8) (s : Fin 8192) (p : Fin 6) (e : Fin 32) (r l : ℕ) (gr : r = 8192 * b.val + s.val)
    (gl : l = 64 * p.val + (0 + e.val)) : val_main_v121 (F := Ideal) x0 x1 x2 x3 (ix4 b s p e) = rp x0 x1 x2 x3 1920 r l := by
  have es : r % 8192 = s.val := by omega
  pointwise [val_main_v98, val_main_v105, val_main_v106, val_main_v107, val_main_v108, val_main_v109, val_main_v110, val_main_v111, val_main_v112, val_main_v113, val_main_v114, val_main_v115, val_main_v116, val_main_v117, val_main_v118, val_main_v119, val_main_v120, val_main_v121]
  unfold rp ptn
  rw [es]
  by_cases g : e.val < 16
  · have g' : l % 32 < 16 := by omega
    rw [dif_pos g, if_pos g', if_pos g', ang104_at s ⟨e.val, g⟩ l (by show l % 16 = e.val; omega) (by omega),
      v91_at x0 x1 x2 x3 b s p _ r (1920 + l) gr (by show 1920 + l = 1920 + (64 * p.val + e.val); omega),
      v91_at x0 x1 x2 x3 b s p _ r (1920 + (l + 16)) gr (by show 1920 + (l + 16) = 1920 + (64 * p.val + (16 + e.val)); omega)]
    exact turn_lo _ _ _ _
  · have g' : ¬ l % 32 < 16 := by omega
    rw [dif_neg g, if_neg g', if_neg g', ang104_at s ⟨e.val - 16, by omega⟩ l (by show l % 16 = e.val - 16; omega) (by omega),
      v91_at x0 x1 x2 x3 b s p _ r (1920 + (l - 16)) gr (by show 1920 + (l - 16) = 1920 + (64 * p.val + (e.val - 16)); omega),
      v91_at x0 x1 x2 x3 b s p _ r (1920 + l) gr (by show 1920 + l = 1920 + (64 * p.val + (16 + (e.val - 16))); omega)]
    exact turn_hi _ _ _ _

theorem v145_at (b : Fin 8) (s : Fin 8192) (p : Fin 6) (e : Fin 32) (r l : ℕ) (gr : r = 8192 * b.val + s.val)
    (gl : l = 64 * p.val + (32 + e.val)) : val_main_v145 (F := Ideal) x0 x1 x2 x3 (ix4 b s p e) = rp x0 x1 x2 x3 1920 r l := by
  have es : r % 8192 = s.val := by omega
  pointwise [val_main_v122, val_main_v129, val_main_v130, val_main_v131, val_main_v132, val_main_v133, val_main_v134, val_main_v135, val_main_v136, val_main_v137, val_main_v138, val_main_v139, val_main_v140, val_main_v141, val_main_v142, val_main_v143, val_main_v144, val_main_v145]
  unfold rp ptn
  rw [es]
  by_cases g : e.val < 16
  · have g' : l % 32 < 16 := by omega
    rw [dif_pos g, if_pos g', if_pos g', ang128_at s ⟨e.val, g⟩ l (by show l % 16 = e.val; omega) (by omega),
      v91_at x0 x1 x2 x3 b s p _ r (1920 + l) gr (by show 1920 + l = 1920 + (64 * p.val + (32 + e.val)); omega),
      v91_at x0 x1 x2 x3 b s p _ r (1920 + (l + 16)) gr (by show 1920 + (l + 16) = 1920 + (64 * p.val + (32 + (16 + e.val))); omega)]
    exact turn_lo _ _ _ _
  · have g' : ¬ l % 32 < 16 := by omega
    rw [dif_neg g, if_neg g', if_neg g', ang128_at s ⟨e.val - 16, by omega⟩ l (by show l % 16 = e.val - 16; omega) (by omega),
      v91_at x0 x1 x2 x3 b s p _ r (1920 + (l - 16)) gr (by show 1920 + (l - 16) = 1920 + (64 * p.val + (32 + (e.val - 16))); omega),
      v91_at x0 x1 x2 x3 b s p _ r (1920 + l) gr (by show 1920 + l = 1920 + (64 * p.val + (32 + (16 + (e.val - 16)))); omega)]
    exact turn_hi _ _ _ _

theorem v146_at (b : Fin 8) (s : Fin 8192) (p : Fin 6) (e : Fin 64) (r l : ℕ) (gr : r = 8192 * b.val + s.val)
    (gl : l = 64 * p.val + e.val) : val_main_v146 (F := Ideal) x0 x1 x2 x3 (ix4 b s p e) = rp x0 x1 x2 x3 1920 r l := by
  pointwise [val_main_v146]
  by_cases g : e.val < 32
  · rw [dif_pos g]
    exact v121_at x0 x1 x2 x3 b s p ⟨e.val, g⟩ r l gr (by show l = 64 * p.val + (0 + e.val); omega)
  · rw [dif_neg g]
    exact v145_at x0 x1 x2 x3 b s p ⟨e.val - 32, by omega⟩ r l gr (by show l = 64 * p.val + (32 + (e.val - 32)); omega)

theorem res151_at (r : Fin 65536) (l : Fin 384) : val_main_v151 (F := Ideal) x0 x1 x2 x3 (ix2 r l) = rp x0 x1 x2 x3 1920 r.val l.val * Ideal.ofBits .f32 0x3E000000#32 := by
  pointwise [val_main_v151, val_main_v150, val_main_v149, val_main_v148, val_main_v147, val_main_cst_6]
  refine congrArg (· * _) (v146_at x0 x1 x2 x3 _ _ _ _ r.val l.val ?_ ?_)
  · show r.val = 8192 * (r.val / 8192) + r.val % 8192; omega
  · show l.val = 64 * (l.val / 64) + l.val % 64; omega

end

end Cert.ProjR

end
-- ==== Proof.Proj.Claims.lean ====
/- The claims about the projection: both programs run, and their results are equal extended reals. -/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Proj.Ref
public import Idealize.ShloMosaic.Adequacy
public import Idealize.ShloMosaic.Init

@[expose] public section

set_option maxRecDepth 16384

noncomputable section

namespace Cert.ProjClaims

open Idealize.ShloMosaic Idealize.SL.Sem

theorem frame_ref : Cert.quiescent_ProjRefIdeal := fun m ρ _ =>
  (θ_run Cert.ProjRefIdeal.defs _ _).mono (fun r h => ⟨fun c => (h c).2.2.2.2.2.2.2.2, sem_eq_zero_of_no_sems (by decide) r.2⟩)
    (Cert.ProjRefIdeal.Value.run (F := Ideal) m ρ)

theorem value6 (m : (ℓ : Loc Cert.ProjIdeal.nD Cert.ProjIdeal.τ Cert.ProjIdeal.sig) → Buf (Elt Ideal) ℓ) (c : Dev Cert.ProjIdeal.nD) :
    Cert.ProjRefIdeal.Read.val_main_v20 (F := Ideal) (Cert.ProjK.ax m c) (Cert.ProjK.asc m c) (Cert.ProjK.ash m c) (Cert.ProjK.aw m c) = Cert.ProjK.arr6 m c := by
  funext i
  obtain ⟨a, b, rfl⟩ : ∃ (a : Fin 65536) (b : Fin 256), i = ix2 a b := ⟨i 0, i 1, by funext k; fin_cases k <;> rfl⟩
  exact Cert.ProjR.res20_at _ _ _ _ a b

theorem value7 (m : (ℓ : Loc Cert.ProjIdeal.nD Cert.ProjIdeal.τ Cert.ProjIdeal.sig) → Buf (Elt Ideal) ℓ) (c : Dev Cert.ProjIdeal.nD) :
    Cert.ProjRefIdeal.Read.val_main_v21 (F := Ideal) (Cert.ProjK.ax m c) (Cert.ProjK.asc m c) (Cert.ProjK.ash m c) (Cert.ProjK.aw m c) = Cert.ProjK.arr7 m c := by
  funext i
  obtain ⟨a, b, rfl⟩ : ∃ (a : Fin 65536) (b : Fin 256), i = ix2 a b := ⟨i 0, i 1, by funext k; fin_cases k <;> rfl⟩
  exact Cert.ProjR.res21_at _ _ _ _ a b

theorem value8 (m : (ℓ : Loc Cert.ProjIdeal.nD Cert.ProjIdeal.τ Cert.ProjIdeal.sig) → Buf (Elt Ideal) ℓ) (c : Dev Cert.ProjIdeal.nD) :
    Cert.ProjRefIdeal.Read.val_main_v23 (F := Ideal) (Cert.ProjK.ax m c) (Cert.ProjK.asc m c) (Cert.ProjK.ash m c) (Cert.ProjK.aw m c) = Cert.ProjK.arr8 m c := by
  funext i
  obtain ⟨a, b, rfl⟩ : ∃ (a : Fin 65536) (b : Fin 384), i = ix2 a b := ⟨i 0, i 1, by funext k; fin_cases k <;> rfl⟩
  exact Cert.ProjR.res23_at _ _ _ _ a b

theorem value9 (m : (ℓ : Loc Cert.ProjIdeal.nD Cert.ProjIdeal.τ Cert.ProjIdeal.sig) → Buf (Elt Ideal) ℓ) (c : Dev Cert.ProjIdeal.nD) :
    Cert.ProjRefIdeal.Read.val_main_v25 (F := Ideal) (Cert.ProjK.ax m c) (Cert.ProjK.asc m c) (Cert.ProjK.ash m c) (Cert.ProjK.aw m c) = Cert.ProjK.arr9 m c := by
  funext i
  obtain ⟨a, b, rfl⟩ : ∃ (a : Fin 65536) (b : Fin 384), i = ix2 a b := ⟨i 0, i 1, by funext k; fin_cases k <;> rfl⟩
  exact Cert.ProjR.res25_at _ _ _ _ a b

theorem value10 (m : (ℓ : Loc Cert.ProjIdeal.nD Cert.ProjIdeal.τ Cert.ProjIdeal.sig) → Buf (Elt Ideal) ℓ) (c : Dev Cert.ProjIdeal.nD) :
    Cert.ProjRefIdeal.Read.val_main_v29 (F := Ideal) (Cert.ProjK.ax m c) (Cert.ProjK.asc m c) (Cert.ProjK.ash m c) (Cert.ProjK.aw m c) = Cert.ProjK.arr10 m c := by
  funext i
  obtain ⟨a, b, rfl⟩ : ∃ (a : Fin 65536) (b : Fin 384), i = ix2 a b := ⟨i 0, i 1, by funext k; fin_cases k <;> rfl⟩
  exact Cert.ProjR.res29_at _ _ _ _ a b

theorem value11 (m : (ℓ : Loc Cert.ProjIdeal.nD Cert.ProjIdeal.τ Cert.ProjIdeal.sig) → Buf (Elt Ideal) ℓ) (c : Dev Cert.ProjIdeal.nD) :
    Cert.ProjRefIdeal.Read.val_main_v88 (F := Ideal) (Cert.ProjK.ax m c) (Cert.ProjK.asc m c) (Cert.ProjK.ash m c) (Cert.ProjK.aw m c) = Cert.ProjK.arr11 m c := by
  funext i
  obtain ⟨a, b, rfl⟩ : ∃ (a : Fin 65536) (b : Fin 128), i = ix2 a b := ⟨i 0, i 1, by funext k; fin_cases k <;> rfl⟩
  exact Cert.ProjR.res88_at _ _ _ _ a b

theorem value12 (m : (ℓ : Loc Cert.ProjIdeal.nD Cert.ProjIdeal.τ Cert.ProjIdeal.sig) → Buf (Elt Ideal) ℓ) (c : Dev Cert.ProjIdeal.nD) :
    Cert.ProjRefIdeal.Read.val_main_v90 (F := Ideal) (Cert.ProjK.ax m c) (Cert.ProjK.asc m c) (Cert.ProjK.ash m c) (Cert.ProjK.aw m c) = Cert.ProjK.arr12 m c := by
  funext i
  obtain ⟨a, b, rfl⟩ : ∃ (a : Fin 65536) (b : Fin 128), i = ix2 a b := ⟨i 0, i 1, by funext k; fin_cases k <;> rfl⟩
  exact Cert.ProjR.res90_at _ _ _ _ a b

theorem value13 (m : (ℓ : Loc Cert.ProjIdeal.nD Cert.ProjIdeal.τ Cert.ProjIdeal.sig) → Buf (Elt Ideal) ℓ) (c : Dev Cert.ProjIdeal.nD) :
    Cert.ProjRefIdeal.Read.val_main_v151 (F := Ideal) (Cert.ProjK.ax m c) (Cert.ProjK.asc m c) (Cert.ProjK.ash m c) (Cert.ProjK.aw m c) = Cert.ProjK.arr13 m c := by
  funext i
  obtain ⟨a, b, rfl⟩ : ∃ (a : Fin 65536) (b : Fin 384), i = ix2 a b := ⟨i 0, i 1, by funext k; fin_cases k <;> rfl⟩
  exact Cert.ProjR.res151_at _ _ _ _ a b

theorem algebraic : Cert.algebraic_ProjIdeal_ProjRefIdeal := by
  intro m ρ m' ρ' _ hag
  refine ⟨fun c => Cert.ProjK.arr6 m c, fun c => Cert.ProjK.arr7 m c, fun c => Cert.ProjK.arr8 m c, fun c => Cert.ProjK.arr9 m c, fun c => Cert.ProjK.arr10 m c, fun c => Cert.ProjK.arr11 m c, fun c => Cert.ProjK.arr12 m c, fun c => Cert.ProjK.arr13 m c,
    (θ_run Cert.ProjIdeal.defs _ _).mono (fun _ h c => ⟨(h c).1.trans (Cert.ProjK.final6 m c), (h c).2.1.trans (Cert.ProjK.final7 m c), (h c).2.2.1.trans (Cert.ProjK.final8 m c), (h c).2.2.2.1.trans (Cert.ProjK.final9 m c), (h c).2.2.2.2.1.trans (Cert.ProjK.final10 m c), (h c).2.2.2.2.2.1.trans (Cert.ProjK.final11 m c), (h c).2.2.2.2.2.2.1.trans (Cert.ProjK.final12 m c), (h c).2.2.2.2.2.2.2.1.trans (Cert.ProjK.final13 m c), (h c).2.2.2.2.2.2.2.2⟩)
      (Cert.ProjIdeal.Value.run_blocks (F := Ideal) m ρ),
    (θ_run Cert.ProjRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.ProjRefIdeal.Value.run (F := Ideal) m' ρ')⟩
  · obtain ⟨a0, a1, a2, a3⟩ := hag c
    rw [Cert.ProjRefIdeal.Read.val_main_v20_eq]
    show Cert.ProjRefIdeal.Read.val_main_v20 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value6 m c
  · obtain ⟨a0, a1, a2, a3⟩ := hag c
    rw [Cert.ProjRefIdeal.Read.val_main_v21_eq]
    show Cert.ProjRefIdeal.Read.val_main_v21 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value7 m c
  · obtain ⟨a0, a1, a2, a3⟩ := hag c
    rw [Cert.ProjRefIdeal.Read.val_main_v23_eq]
    show Cert.ProjRefIdeal.Read.val_main_v23 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value8 m c
  · obtain ⟨a0, a1, a2, a3⟩ := hag c
    rw [Cert.ProjRefIdeal.Read.val_main_v25_eq]
    show Cert.ProjRefIdeal.Read.val_main_v25 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value9 m c
  · obtain ⟨a0, a1, a2, a3⟩ := hag c
    rw [Cert.ProjRefIdeal.Read.val_main_v29_eq]
    show Cert.ProjRefIdeal.Read.val_main_v29 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value10 m c
  · obtain ⟨a0, a1, a2, a3⟩ := hag c
    rw [Cert.ProjRefIdeal.Read.val_main_v88_eq]
    show Cert.ProjRefIdeal.Read.val_main_v88 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value11 m c
  · obtain ⟨a0, a1, a2, a3⟩ := hag c
    rw [Cert.ProjRefIdeal.Read.val_main_v90_eq]
    show Cert.ProjRefIdeal.Read.val_main_v90 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value12 m c
  · obtain ⟨a0, a1, a2, a3⟩ := hag c
    rw [Cert.ProjRefIdeal.Read.val_main_v151_eq]
    show Cert.ProjRefIdeal.Read.val_main_v151 (F := Ideal) (m' (c.tc.loc Cert.ProjRefIdeal.main_arg0)) (m' (c.tc.loc Cert.ProjRefIdeal.main_arg1)) (m' (c.tc.loc Cert.ProjRefIdeal.main_arg2)) (m' (c.tc.loc Cert.ProjRefIdeal.main_arg3)) = _
    rw [a0, a1, a2, a3]
    exact value13 m c

end Cert.ProjClaims

end
-- ==== Proof.Experts.Spec.lean ====
/- What the feed-forward of a row is: the formula both programs' results are compared at. -/
module

public import Idealize.ShloMosaic.PureOps
public import Idealize.ShloMosaic.PureOps.Ideal

@[expose] public section

set_option maxRecDepth 16384

noncomputable section

namespace Cert.ExpertsSpec

open Idealize.ShloMosaic

/-- A row against a column. -/
def dot (x w : Fin 1024 → EReal) : EReal := ∑ k : Fin 1024, x k * w k

/-- One entry of the gated feed-forward of row `x`: `g` and `u` the columns of the two input weights, `d` a column of the last. -/
def ff (x : Fin 1024 → EReal) (g u : Fin 512 → Fin 1024 → EReal) (d : Fin 512 → EReal) : EReal :=
  ∑ j : Fin 512, dot x (g j) * Ideal.logistic (dot x (g j)) * dot x (u j) * d j

theorem dot_zero (w : Fin 1024 → EReal) : dot (fun _ => 0) w = 0 := by
  unfold dot
  exact Finset.sum_eq_zero fun k _ => zero_mul _

/-- A row of zeros gives zero, whatever the weights. -/
theorem ff_zero (g u : Fin 512 → Fin 1024 → EReal) (d : Fin 512 → EReal) : ff (fun _ => 0) g u d = 0 := by
  unfold ff
  refine Finset.sum_eq_zero fun j _ => ?_
  rw [dot_zero, zero_mul, zero_mul, zero_mul]

end Cert.ExpertsSpec

end
-- ==== Proof.Experts.IdealKit.lean ====
/- The experts' kernel as its pipeline runs it: the tables it reads, the blocks its windows stage, the memrefs its body is handed. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdealK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

/-- The resources the core's assertions speak of. -/
abbrev Res (F : FTy → Type) := MT nD τ sig Unit (Elt F) ℕ (UR sig nD τ) ℕ

variable (m : (ℓ : Loc nD τ sig) → Buf (Elt F) ℓ)

/-- What core `c` holds in its buffer `b` at the launch. -/
abbrev held (c : Dev nD) (b : Ref sig .tc) : Buf (Elt F) ((c : Thread nD τ).loc b) := m ((c : Thread nD τ).loc b)

/-- The two tables at the launch: the expert of every block, and the number of blocks in use. -/
def words : pre0.Contents (Elt F) := fun j => held m (0 : Dev nD) (pre0.ref j)

theorem held_words (c : Dev nD) (j : Fin 2) : held m c (pre0.ref j) = words m j := by
  obtain rfl : c = 0 := Subsingleton.elim _ _; rfl

/-- Every block the tables name lies inside its array. -/
abbrev Inside : Prop := ok0 (F := F) (words m)

abbrev lawful (hO : Inside m) : (pcfg0 (F := F)).Adm := ⟨words m, hO⟩
abbrev pipe (hO : Inside m) : Pipeline.Cfg sig Λ₀ := cfg0 (lawful m hO)

abbrev tab0 : Memref sig .tc .smem S296 .i32 := Memref.whole main_arg1
abbrev htab0 : tab0.IsWhole := Memref.isWhole_whole _
abbrev tab1 : Memref sig .tc .smem S1 .i32 := Memref.whole main_arg2
abbrev htab1 : tab1.IsWhole := Memref.isWhole_whole _

abbrev TabBuf (F : FTy → Type) [FloatOps F] (c : Dev nD) {S : Shape} {e : EltTy} (M : Memref sig .tc .smem S e) : Type := Buf (Elt F) (M.view.loc (c : Thread nD τ))
/-- A table held at half its share, as the body is lent it. -/
abbrev lent (c : Dev nD) {S : Shape} {e : EltTy} (M : Memref sig .tc .smem S e) (f : TabBuf F c M) : sProp (Res F) :=
  M.view.loc (c : Thread nD τ) ↦{fullShare.right} f

theorem lent_eq (c : Dev nD) : (Pipeline.ΦT pre0 (words m) c : sProp (Res F)) = iprop(lent c tab0 (words m 0) ∗ lent c tab1 (words m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`. -/
def part (hO : Inside m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (held m c (Pipeline.arrRef spec0 w))

/-- The memref each window is on at a point. -/
abbrev mw0 (hO : Inside m) (t : Fin (pipe m hO).N) : Memref sig .tc .vmem S512x1024 .f32 := spec0_0.stage ((pipe m hO).slots t 0)
abbrev mw1 (hO : Inside m) (t : Fin (pipe m hO).N) : Memref sig .tc .vmem S1x1024x512 .f32 := spec0_1.stage ((pipe m hO).slots t 1)
abbrev mw2 (hO : Inside m) (t : Fin (pipe m hO).N) : Memref sig .tc .vmem S1x1024x512 .f32 := spec0_2.stage ((pipe m hO).slots t 2)
abbrev mw3 (hO : Inside m) (t : Fin (pipe m hO).N) : Memref sig .tc .vmem S1x512x1024 .f32 := spec0_3.stage ((pipe m hO).slots t 3)
abbrev mw4 (hO : Inside m) (t : Fin (pipe m hO).N) : Memref sig .tc .vmem S512x1024 .f32 := spec0_4.stage ((pipe m hO).slots t 4)

/-- The three narrowed weights, kept between points. -/
abbrev kept0 : Memref sig .tc .vmem S1024x512 .bf16 := Memref.whole cc0_scratch0
abbrev kept1 : Memref sig .tc .vmem S1024x512 .bf16 := Memref.whole cc0_scratch1
abbrev kept2 : Memref sig .tc .vmem S512x1024 .bf16 := Memref.whole cc0_scratch2

theorem rest_eq (c : Dev nD) :
    (Pipeline.ΦA spec0 c : sProp (Res F))
      = iprop(iprop((∃ d, owns (c : Thread nD τ) kept0 fullShare d) ∗ (∃ d, owns (c : Thread nD τ) kept1 fullShare d) ∗ (∃ d, owns (c : Thread nD τ) kept2 fullShare d)) ∗ (∃ r, prngReg c r)) := by
  unfold Pipeline.ΦA; rw [scopedRest0_eq]; simp only [kept0, kept1, kept2, owns_whole]; try rfl

/-- The body at point `t`, on what it is handed there. -/
abbrev bodyAt (hO : Inside m) (t : Fin (pipe m hO).N) : Prog (TpuEff nD τ sig (Elt F) Λ₀ .tc) PUnit :=
  cc0_expert_mlp (grid0.coords t) tab0 htab0 tab1 htab1
    (mw0 m hO t) (hstage0_0 (((pipe m hO).slots t 0).cast nbuf0_0)) (mw1 m hO t) (hstage0_1 (((pipe m hO).slots t 1).cast nbuf0_1))
    (mw2 m hO t) (hstage0_2 (((pipe m hO).slots t 2).cast nbuf0_2)) (mw3 m hO t) (hstage0_3 (((pipe m hO).slots t 3).cast nbuf0_3))
    (mw4 m hO t) (hstage0_4 (((pipe m hO).slots t 4).cast nbuf0_4)) kept0 (Memref.isWhole_whole _) kept1 (Memref.isWhole_whole _) kept2 (Memref.isWhole_whole _)

theorem row_eq (hO : Inside m) (t : Fin (pipe m hO).N) :
    defs₀ (F := F) .tc (pipe m hO).body ((pipe m hO).bodyArgs t ((pipe m hO).slots t)) = bodyAt m hO t := by
  unfold defs₀; rw [Defs.onTc_tc]

/-- The result's block is written back at every point. -/
theorem flushed (hO : Inside m) : ∀ t : Fin (pipe m hO).N, ((pipe m hO).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

section found

variable (hO : Inside m) {c : Dev nD} (dat : Dat τ (Elt F) Unit ℕ (UR sig nD τ) ℕ (pipe m hO) c)

/-- A body that leaves a staged block as it was finds the block of the point there. -/
theorem found0 (hA : dat.A 0 = held m c (Pipeline.arrRef spec0 0)) (ha : ∀ t, dat.after 0 t = part m hO c 0 t) (t : Fin (pipe m hO).N) (d) : dat.before 0 t d = part m hO c 0 t :=
  (dat.before_in_eq_fetched 0 rfl (fun _ => rfl) (fun _ _ _ => rfl) (fun t => by rw [ha]; unfold Dat.blockOf part; rw [hA]; try rfl) t d).trans
    (by unfold Dat.fetched Dat.blockOf part; rw [hA]; try rfl)
theorem found1 (hA : dat.A 1 = held m c (Pipeline.arrRef spec0 1)) (ha : ∀ t, dat.after 1 t = part m hO c 1 t) (t : Fin (pipe m hO).N) (d) : dat.before 1 t d = part m hO c 1 t :=
  (dat.before_in_eq_fetched 1 rfl (fun _ => rfl) (fun _ _ _ => rfl) (fun t => by rw [ha]; unfold Dat.blockOf part; rw [hA]; try rfl) t d).trans
    (by unfold Dat.fetched Dat.blockOf part; rw [hA]; try rfl)
theorem found2 (hA : dat.A 2 = held m c (Pipeline.arrRef spec0 2)) (ha : ∀ t, dat.after 2 t = part m hO c 2 t) (t : Fin (pipe m hO).N) (d) : dat.before 2 t d = part m hO c 2 t :=
  (dat.before_in_eq_fetched 2 rfl (fun _ => rfl) (fun _ _ _ => rfl) (fun t => by rw [ha]; unfold Dat.blockOf part; rw [hA]; try rfl) t d).trans
    (by unfold Dat.fetched Dat.blockOf part; rw [hA]; try rfl)
theorem found3 (hA : dat.A 3 = held m c (Pipeline.arrRef spec0 3)) (ha : ∀ t, dat.after 3 t = part m hO c 3 t) (t : Fin (pipe m hO).N) (d) : dat.before 3 t d = part m hO c 3 t :=
  (dat.before_in_eq_fetched 3 rfl (fun _ => rfl) (fun _ _ _ => rfl) (fun t => by rw [ha]; unfold Dat.blockOf part; rw [hA]; try rfl) t d).trans
    (by unfold Dat.fetched Dat.blockOf part; rw [hA]; try rfl)

end found

end Cert.ExpertsIdealK

end
-- ==== Proof.Experts.IdealRun.lean ====
/- One run of the experts' body at a point of its grid: what it keeps in its scratch, and the block of the result it writes. -/
module

public import proofs.«01_k».proof.Proof.Experts.IdealKit
public import Idealize.ShloMosaic.Lib.VecWindow

@[expose] public section

set_option maxRecDepth 16384

noncomputable section

namespace Cert.ExpertsIdealK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

/-- The expert of a point's block, and of the block before it. -/
def here (c : Dev nD) (i : grid0.Coords) (f : TabBuf F c tab0) : BitVec 32 :=
  View.readAt (Elt F) tab0.view (Rect.unit (s := S296) (k0_off1 i) S1.size (k0_off1_inb i)).toLoadRect f (Shape.Idx.first (Nat.lt_of_lt_of_eq Nat.zero_lt_one numel1_S1.symm))
def past (c : Dev nD) (i : grid0.Coords) (f : TabBuf F c tab0) : BitVec 32 :=
  View.readAt (Elt F) tab0.view (Rect.unit (s := S296) (k0_off2 i) S1.size (k0_off2_inb i)).toLoadRect f (Shape.Idx.first (Nat.lt_of_lt_of_eq Nat.zero_lt_one numel1_S1.symm))
/-- The number of blocks in use. -/
def inUse (c : Dev nD) (f : TabBuf F c tab1) : BitVec 32 :=
  View.readAt (Elt F) tab1.view (Rect.unit (s := S1) ![0] S1.size inb_S1_S1_0).toLoadRect f (Shape.Idx.first (Nat.lt_of_lt_of_eq Nat.zero_lt_one numel1_S1.symm))

/-- Whether a point narrows the weights afresh: it is the first, or its expert is another than the last one's. -/
def fresh (c : Dev nD) (i : grid0.Coords) (f : TabBuf F c tab0) : BitVec 1 :=
  Scalar.cmpi .ne (Scalar.extui (Scalar.ori (Scalar.cmpi .eq (BitVec.ofNat 32 (i 0).val) 0#32) (Scalar.cmpi .ne (here c i f) (past c i f)))) 0#32

/-- What the scratch holds after the point. -/
def afresh {S : Shape} {e : EltTy} (b : BitVec 1) (new old : Vec F S e) : Vec F S e := if b = 1#1 then new else old

/-- The block of the result: the expert's answer for a block in use, zeros for another. -/
def answer (b : BitVec 1) (x0 : Vec F S512x1024 .f32) (w0 w1 : Vec F S1024x512 .bf16) (w2 : Vec F S512x1024 .bf16) : Vec F S512x1024 .f32 :=
  if b = 1#1 then
    View.canon [⟨Rect.unit (s := S512x1024) ![256, 0] S256x1024.size inb_S512x1024_S256x1024_256_0, k0_pay5 (View.ld x0 (Rect.unit (s := S512x1024) ![256, 0] S256x1024.size inb_S512x1024_S256x1024_256_0)) w0 w1 w2⟩,
      ⟨Rect.unit (s := S512x1024) ![0, 0] S256x1024.size inb_S512x1024_S256x1024_0_0, k0_pay4 (View.ld x0 (Rect.unit (s := S512x1024) ![0, 0] S256x1024.size inb_S512x1024_S256x1024_0_0)) w0 w1 w2⟩]
  else k0_pay6

/-- A block is either in use or not. -/
theorem other (i : grid0.Coords) (v : BitVec 32) : k0_cond3 i v = 1#1 ↔ ¬ k0_cond2 i v = 1#1 := by
  unfold k0_cond2 k0_cond3
  generalize BitVec.ofNat 32 (i 0).val = a
  unfold Scalar.cmpi Scalar.extui
  dsimp only
  rw [WordCmp.cmpi_sge_eq, WordCmp.cmpi_slt_eq]
  by_cases h : a.toInt < v.toInt
  · have h' : ¬ v.toInt ≤ a.toInt := by omega
    simp only [h, h', decide_true, decide_false]; decide
  · have h' : v.toInt ≤ a.toInt := by omega
    simp only [h, h', decide_true, decide_false]; decide

/-- What is read of a scratch buffer after a point that may have narrowed a weight into it. -/
theorem kept_read {S : Shape} {e : EltTy} (M : Memref sig .tc .vmem S e) (hM : M.IsWhole) (b : BitVec 1) {off : Fin S.rank → ℕ} (inb : ∀ a, off a + S.size a ≤ S.size a) (w s : Vec F S e) :
    M.view.read (Elt F) (if hc : b = 1#1 then M.view.writes (Elt F) (hM.unread s) [⟨Rect.unit off S.size inb, w⟩] else hM.unread s) = afresh b w s := by
  unfold afresh
  by_cases h : b = 1#1
  · rw [dif_pos h, if_pos h]; exact View.read_writes_full _ _ _ _ _
  · rw [dif_neg h, if_neg h]; exact hM.read_unread _

/-- What is read of the result's block after its two halves are written. -/
theorem halves_read (M : Memref sig .tc .vmem S512x1024 .f32) (f : M.view.ty.Contents (Elt F)) (p5 p4 : Vec F S256x1024 .f32) :
    M.view.read (Elt F) (M.view.writes (Elt F) f [⟨Rect.unit (s := S512x1024) ![256, 0] S256x1024.size inb_S512x1024_S256x1024_256_0, p5⟩, ⟨Rect.unit (s := S512x1024) ![0, 0] S256x1024.size inb_S512x1024_S256x1024_0_0, p4⟩])
      = View.canon [⟨Rect.unit (s := S512x1024) ![256, 0] S256x1024.size inb_S512x1024_S256x1024_256_0, p5⟩, ⟨Rect.unit (s := S512x1024) ![0, 0] S256x1024.size inb_S512x1024_S256x1024_0_0, p4⟩] :=
  View.read_writes_eq_canon _ _ _ (View.cover_of_tiled [⟨Rect.unit (s := S512x1024) ![256, 0] S256x1024.size inb_S512x1024_S256x1024_256_0, p5⟩, ⟨Rect.unit (s := S512x1024) ![0, 0] S256x1024.size inb_S512x1024_S256x1024_0_0, p4⟩] S256x1024.size (by rfl))

theorem answer_of {b : BitVec 1} (h : b = 1#1) (x0 : Vec F S512x1024 .f32) {a5 a4 : Vec F S256x1024 .f32} {w0 w1 v0 v1 : Vec F S1024x512 .bf16} {w2 v2 : Vec F S512x1024 .bf16}
    (h5 : a5 = View.ld x0 (Rect.unit (s := S512x1024) ![256, 0] S256x1024.size inb_S512x1024_S256x1024_256_0)) (h4 : a4 = View.ld x0 (Rect.unit (s := S512x1024) ![0, 0] S256x1024.size inb_S512x1024_S256x1024_0_0)) (h0 : v0 = w0) (h1 : v1 = w1) (h2 : v2 = w2) :
    View.canon [⟨Rect.unit (s := S512x1024) ![256, 0] S256x1024.size inb_S512x1024_S256x1024_256_0, k0_pay5 a5 v0 v1 v2⟩, ⟨Rect.unit (s := S512x1024) ![0, 0] S256x1024.size inb_S512x1024_S256x1024_0_0, k0_pay4 a4 v0 v1 v2⟩] = answer b x0 w0 w1 w2 := by
  subst h5 h4 h0 h1 h2; unfold answer; rw [if_pos h]

set_option maxHeartbeats 2000000 in
theorem run_body (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S512x1024 .f32) (x1 : Vec F S1x1024x512 .f32) (x2 : Vec F S1x1024x512 .f32) (x3 : Vec F S1x512x1024 .f32) (s0 s1 : Vec F S1024x512 .bf16) (s2 : Vec F S512x1024 .bf16) (xt0 : TabBuf F c tab0) (xt1 : TabBuf F c tab1)
    (E : Set ℕ) (K : PUnit → sProp (Res F)) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ lent c tab0 xt0 ∗ lent c tab1 xt1
            ∗ (iprop(owns (c : Thread nD τ) arg3 fullShare x0 ∗ owns (c : Thread nD τ) arg4 fullShare x1 ∗ owns (c : Thread nD τ) arg5 fullShare x2 ∗ owns (c : Thread nD τ) arg6 fullShare x3
              ∗ owns (c : Thread nD τ) arg7 fullShare (answer (k0_cond2 i (inUse c xt1)) x0 (afresh (fresh c i xt0) (k0_pay1 x1) s0) (afresh (fresh c i xt0) (k0_pay2 x2) s1) (afresh (fresh c i xt0) (k0_pay3 x3) s2))
              ∗ owns (c : Thread nD τ) arg8 fullShare (afresh (fresh c i xt0) (k0_pay1 x1) s0) ∗ owns (c : Thread nD τ) arg9 fullShare (afresh (fresh c i xt0) (k0_pay2 x2) s1) ∗ owns (c : Thread nD τ) arg10 fullShare (afresh (fresh c i xt0) (k0_pay3 x3) s2) ∗ lent c tab0 xt0 ∗ lent c tab1 xt1) -∗ K ⟨⟩))
          ⊢ wp frame (wpE (defs₀ (F := F)) Variants.none c none) E (cc0_expert_mlp i tab0 htab0 tab1 htab1 arg3 harg3 arg4 harg4 arg5 harg5 arg6 harg6 arg7 harg7 arg8 harg8 arg9 harg9 arg10 harg10) K := by
    simp only [cc0_expert_mlp_eq_skeleton]; unfold cc0_expert_mlp_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1; obtain rfl := harg10.eq_unread hs2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      by_cases h : k0_cond2 i (inUse c xt1) = 1#1
      · have h' : ¬ k0_cond3 i (inUse c xt1) = 1#1 := by rw [other]; exact not_not.mpr h
        refine (congrArg (arg7.view.read (Elt F)) ((dif_neg h').trans (dif_pos h))).trans ?_
        refine (halves_read arg7 f4 _ _).trans ?_
        have g8 : View.readAt (Elt F) arg8.view (Rect.unit (s := S1024x512) ![0, 0] S1024x512.size inb_S1024x512_S1024x512_0_0).toLoadRect (if hc : fresh c i xt0 = 1#1 then arg8.view.writes (Elt F) (harg8.unread s0) [⟨Rect.unit (s := S1024x512) ![0, 0] S1024x512.size inb_S1024x512_S1024x512_0_0, k0_pay1 (View.readAt (Elt F) arg4.view (Rect.unit (s := S1x1024x512) ![0, 0, 0] S1x1024x512.size inb_S1x1024x512_S1x1024x512_0_0_0).toLoadRect (harg4.unread x1))⟩] else harg8.unread s0) = afresh (fresh c i xt0) (k0_pay1 x1) s0 :=
          ((View.readAt_full _ _ _).trans (kept_read arg8 harg8 _ _ _ _)).trans (congrArg (fun z => afresh (fresh c i xt0) (k0_pay1 z) s0) ((View.readAt_full _ _ _).trans (harg4.read_unread _)))
        have g9 : View.readAt (Elt F) arg9.view (Rect.unit (s := S1024x512) ![0, 0] S1024x512.size inb_S1024x512_S1024x512_0_0).toLoadRect (if hc : fresh c i xt0 = 1#1 then arg9.view.writes (Elt F) (harg9.unread s1) [⟨Rect.unit (s := S1024x512) ![0, 0] S1024x512.size inb_S1024x512_S1024x512_0_0, k0_pay2 (View.readAt (Elt F) arg5.view (Rect.unit (s := S1x1024x512) ![0, 0, 0] S1x1024x512.size inb_S1x1024x512_S1x1024x512_0_0_0).toLoadRect (harg5.unread x2))⟩] else harg9.unread s1) = afresh (fresh c i xt0) (k0_pay2 x2) s1 :=
          ((View.readAt_full _ _ _).trans (kept_read arg9 harg9 _ _ _ _)).trans (congrArg (fun z => afresh (fresh c i xt0) (k0_pay2 z) s1) ((View.readAt_full _ _ _).trans (harg5.read_unread _)))
        have g10 : View.readAt (Elt F) arg10.view (Rect.unit (s := S512x1024) ![0, 0] S512x1024.size inb_S512x1024_S512x1024_0_0).toLoadRect (if hc : fresh c i xt0 = 1#1 then arg10.view.writes (Elt F) (harg10.unread s2) [⟨Rect.unit (s := S512x1024) ![0, 0] S512x1024.size inb_S512x1024_S512x1024_0_0, k0_pay3 (View.readAt (Elt F) arg6.view (Rect.unit (s := S1x512x1024) ![0, 0, 0] S1x512x1024.size inb_S1x512x1024_S1x512x1024_0_0_0).toLoadRect (harg6.unread x3))⟩] else harg10.unread s2) = afresh (fresh c i xt0) (k0_pay3 x3) s2 :=
          ((View.readAt_full _ _ _).trans (kept_read arg10 harg10 _ _ _ _)).trans (congrArg (fun z => afresh (fresh c i xt0) (k0_pay3 z) s2) ((View.readAt_full _ _ _).trans (harg6.read_unread _)))
        have gx : ∀ r : Rect S512x1024, View.readAt (Elt F) arg3.view r.toLoadRect (harg3.unread x0) = View.ld x0 r := fun r => by rw [View.readAt_eq_ld, harg3.read_unread]
        exact answer_of h x0 (gx _) (gx _) g8 g9 g10
      · have h' : k0_cond3 i (inUse c xt1) = 1#1 := (other _ _).mpr h
        unfold answer; rw [if_neg h]
        refine (congrArg (arg7.view.read (Elt F)) (dif_pos h')).trans ?_
        exact View.read_writes_full _ _ _ _ _
    isplitl [HS0]
    · iexists _; isplitr; swap; · iexact HS0
      ipureintro
      refine (kept_read arg8 harg8 (fresh c i xt0) _ _ _).trans (congrArg (fun z => afresh (fresh c i xt0) (k0_pay1 z) s0) ?_)
      exact (View.readAt_full _ _ _).trans (harg4.read_unread _)
    isplitl [HS1]
    · iexists _; isplitr; swap; · iexact HS1
      ipureintro
      refine (kept_read arg9 harg9 (fresh c i xt0) _ _ _).trans (congrArg (fun z => afresh (fresh c i xt0) (k0_pay2 z) s1) ?_)
      exact (View.readAt_full _ _ _).trans (harg5.read_unread _)
    isplitl [HS2]
    · iexists _; isplitr; swap; · iexact HS2
      ipureintro
      refine (kept_read arg10 harg10 (fresh c i xt0) _ _ _).trans (congrArg (fun z => afresh (fresh c i xt0) (k0_pay3 z) s2) ?_)
      exact (View.readAt_full _ _ _).trans (harg6.read_unread _)
    isplitl [HT0]; · iexact HT0
    iexact HT1

end Cert.ExpertsIdealK

end
-- ==== Proof.Experts.IdealBlocks.lean ====
/- The blocks the experts' windows stage, at coordinates; when the kernel narrows a weight afresh. -/
module

public import proofs.«01_k».proof.Proof.Experts.IdealRun
public import Idealize.ShloMosaic.Lib.Pipeline.ValueKit

@[expose] public section

set_option maxRecDepth 16384

noncomputable section

namespace Cert.ExpertsIdealK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

variable (m : (ℓ : Loc nD τ sig) → Buf (Elt F) ℓ)

/-- The expert of block `n`, and the number of blocks in use, as the tables say. -/
def expertOf (n : Fin 296) : BitVec 32 := held m (0 : Dev nD) main_arg1 (ix1 n)
def useOf : BitVec 32 := held m (0 : Dev nD) main_arg2 (ix1 (0 : Fin 1))

theorem coord (t : Fin grid0.N) : (grid0.coords t 0).val = t.val := by revert t; decide +kernel
theorem off1 (t : Fin grid0.N) : k0_off1 (grid0.coords t) 0 = t.val := by revert t; decide +kernel
theorem off2 (t : Fin grid0.N) : k0_off2 (grid0.coords t) 0 = t.val - 1 := by revert t; decide +kernel

theorem tab_at (n : Fin 296) (x : S296.Idx) (h : (x 0).val = n.val) : held m (0 : Dev nD) main_arg1 x = expertOf m n :=
  congrArg (held m (0 : Dev nD) main_arg1) (funext fun k => by obtain rfl : k = 0 := Subsingleton.elim _ _; exact Fin.ext h)

theorem here_eq (c : Dev nD) (t : Fin grid0.N) (n : Fin 296) (h : n.val = t.val) : here c (grid0.coords t) (words m 0) = expertOf m n := by
  obtain rfl : c = 0 := Subsingleton.elim _ _
  refine tab_at m n _ ?_
  show k0_off1 (grid0.coords t) 0 + 1 * 0 = n.val
  rw [off1]; omega

theorem past_eq (c : Dev nD) (t : Fin grid0.N) (n : Fin 296) (h : n.val = t.val - 1) : past c (grid0.coords t) (words m 0) = expertOf m n := by
  obtain rfl : c = 0 := Subsingleton.elim _ _
  refine tab_at m n _ ?_
  show k0_off2 (grid0.coords t) 0 + 1 * 0 = n.val
  rw [off2]; omega

theorem inUse_eq (c : Dev nD) : inUse c (words m 1) = useOf m := by
  obtain rfl : c = 0 := Subsingleton.elim _ _
  exact congrArg (held m (0 : Dev nD) main_arg2) (funext fun (k : Fin 1) => by obtain rfl : k = 0 := Subsingleton.elim _ _; rfl)

/-- The first point narrows the weights; so does a point whose expert is another than the last one's. -/
theorem fresh_of {a : BitVec 32} {h p : BitVec 32} (hn : ¬ Scalar.cmpi .ne (Scalar.extui (Scalar.ori (Scalar.cmpi .eq a 0#32) (Scalar.cmpi .ne h p))) 0#32 = 1#1) : a ≠ 0#32 ∧ h = p := by
  unfold Scalar.cmpi Scalar.extui Scalar.ori at hn
  rw [WordCmp.cmpi_eq_eq, WordCmp.cmpi_ne_eq h p] at hn
  by_cases h1 : a = 0#32
  · exfalso; apply hn; simp only [h1, decide_true]
    by_cases h2 : h ≠ p
    · simp only [h2, not_false_eq_true, decide_true, ne_eq]; decide
    · simp only [h2, decide_false]; decide
  · refine ⟨h1, ?_⟩
    by_contra h2
    apply hn
    simp only [h1, ne_eq, h2, not_false_eq_true, decide_true, decide_false]; decide

variable (hO : Inside m)

theorem part1_at (c : Dev nD) (t : Fin (pipe m hO).N) (n : Fin 296) (h : n.val = t.val) (e : Fin 32) (he : e.val = (expertOf m n).toNat) (a : Fin 1024) (b : Fin 512) :
    part m hO c 1 t (ix3 (0 : Fin 1) a b) = held m c main_arg3 (ix3 e a b) := by
  unfold part
  refine congrArg (held m c main_arg3) (funext fun k => Fin.ext ?_)
  have hx : cc0_transform_1 k0_off1_inb numel1_S1 (words m) (grid0.coords t) 0 = e.val := by
    rw [he, ← here_eq m (0 : Dev nD) t n h]; rfl
  match k with
  | ⟨0, _⟩ => show cc0_transform_1 k0_off1_inb numel1_S1 (words m) (grid0.coords t) 0 * 1 + 1 * 0 = e.val; omega
  | ⟨1, _⟩ => show 0 * 1024 + 1 * a.val = a.val; omega
  | ⟨2, _⟩ => show 0 * 512 + 1 * b.val = b.val; omega

theorem part2_at (c : Dev nD) (t : Fin (pipe m hO).N) (n : Fin 296) (h : n.val = t.val) (e : Fin 32) (he : e.val = (expertOf m n).toNat) (a : Fin 1024) (b : Fin 512) :
    part m hO c 2 t (ix3 (0 : Fin 1) a b) = held m c main_arg4 (ix3 e a b) := by
  unfold part
  refine congrArg (held m c main_arg4) (funext fun k => Fin.ext ?_)
  have hx : cc0_transform_2 k0_off1_inb numel1_S1 (words m) (grid0.coords t) 0 = e.val := by
    rw [he, ← here_eq m (0 : Dev nD) t n h]; rfl
  match k with
  | ⟨0, _⟩ => show cc0_transform_2 k0_off1_inb numel1_S1 (words m) (grid0.coords t) 0 * 1 + 1 * 0 = e.val; omega
  | ⟨1, _⟩ => show 0 * 1024 + 1 * a.val = a.val; omega
  | ⟨2, _⟩ => show 0 * 512 + 1 * b.val = b.val; omega

theorem part3_at (c : Dev nD) (t : Fin (pipe m hO).N) (n : Fin 296) (h : n.val = t.val) (e : Fin 32) (he : e.val = (expertOf m n).toNat) (a : Fin 512) (b : Fin 1024) :
    part m hO c 3 t (ix3 (0 : Fin 1) a b) = held m c main_arg5 (ix3 e a b) := by
  unfold part
  refine congrArg (held m c main_arg5) (funext fun k => Fin.ext ?_)
  have hx : cc0_transform_3 k0_off1_inb numel1_S1 (words m) (grid0.coords t) 0 = e.val := by
    rw [he, ← here_eq m (0 : Dev nD) t n h]; rfl
  match k with
  | ⟨0, _⟩ => show cc0_transform_3 k0_off1_inb numel1_S1 (words m) (grid0.coords t) 0 * 1 + 1 * 0 = e.val; omega
  | ⟨1, _⟩ => show 0 * 512 + 1 * a.val = a.val; omega
  | ⟨2, _⟩ => show 0 * 1024 + 1 * b.val = b.val; omega

/-- Every expert the table names is one of the thirty-two. -/
theorem expert_lt (hO : Inside m) (n : Fin 296) : (expertOf m n).toNat < 32 := by
  have hN : n.val < grid0.N := by rw [N_0]; exact n.isLt
  obtain ⟨h, -⟩ := hO.2.1 (grid0.coords ⟨n.val, hN⟩)
  have h0 := h 0
  have hx : cc0_transform_1 k0_off1_inb numel1_S1 (words m) (grid0.coords ⟨n.val, hN⟩) 0 = (expertOf m n).toNat := by
    rw [← here_eq m (0 : Dev nD) ⟨n.val, hN⟩ n rfl]; rfl
  have h1 : (cc0_transform_1 k0_off1_inb numel1_S1 (words m) (grid0.coords ⟨n.val, hN⟩) 0 + 1) * 1 ≤ 32 := h0
  omega

/-- Where nothing is narrowed afresh, the point before had the same blocks of weights. -/
theorem same (c : Dev nD) (t : Fin (pipe m hO).N) (hf : ¬ fresh c (grid0.coords t) (words m 0) = 1#1) :
    ∃ h : 0 < t.val, part m hO c 1 ⟨t.val - 1, by omega⟩ = part m hO c 1 t ∧ part m hO c 2 ⟨t.val - 1, by omega⟩ = part m hO c 2 t ∧ part m hO c 3 ⟨t.val - 1, by omega⟩ = part m hO c 3 t := by
  have ht : t.val < 296 := lt_of_lt_of_eq t.isLt N_0
  obtain ⟨h0, h1⟩ := fresh_of hf
  have hp : 0 < t.val := by
    rcases Nat.eq_zero_or_pos t.val with h | h
    · exfalso; apply h0; rw [coord, h]
    · exact h
  refine ⟨hp, ?_⟩
  rw [here_eq m c t ⟨t.val, ht⟩ rfl, past_eq m c t ⟨t.val - 1, by omega⟩ rfl] at h1
  have e0 := expert_lt m hO ⟨t.val, ht⟩
  have split3 : ∀ {A B : ℕ} (y : (⟨3, ![1, A, B]⟩ : Shape).Idx), ∃ (a : Fin A) (b : Fin B), y = ix3 (0 : Fin 1) a b := fun y =>
    ⟨y 1, y 2, by funext k; fin_cases k; · exact Subsingleton.elim (α := Fin 1) _ _
                  · rfl
                  · rfl⟩
  refine ⟨funext fun (y : S1x1024x512.Idx) => ?_, funext fun (y : S1x1024x512.Idx) => ?_, funext fun (y : S1x512x1024.Idx) => ?_⟩
  · obtain ⟨a, b, rfl⟩ := split3 y
    exact (part1_at m hO c ⟨t.val - 1, by omega⟩ ⟨t.val - 1, by omega⟩ rfl ⟨_, e0⟩ (congrArg BitVec.toNat h1) a b).trans (part1_at m hO c t ⟨t.val, ht⟩ rfl ⟨_, e0⟩ rfl a b).symm
  · obtain ⟨a, b, rfl⟩ := split3 y
    exact (part2_at m hO c ⟨t.val - 1, by omega⟩ ⟨t.val - 1, by omega⟩ rfl ⟨_, e0⟩ (congrArg BitVec.toNat h1) a b).trans (part2_at m hO c t ⟨t.val, ht⟩ rfl ⟨_, e0⟩ rfl a b).symm
  · obtain ⟨a, b, rfl⟩ := split3 y
    exact (part3_at m hO c ⟨t.val - 1, by omega⟩ ⟨t.val - 1, by omega⟩ rfl ⟨_, e0⟩ (congrArg BitVec.toNat h1) a b).trans (part3_at m hO c t ⟨t.val, ht⟩ rfl ⟨_, e0⟩ rfl a b).symm

end Cert.ExpertsIdealK

end
-- ==== Proof.Experts.IdealFrame.lean ====
/- The experts' run: what every point keeps and leaves, the body's obligation, the launch, and the frame. -/
module

public import proofs.«01_k».proof.Proof.Experts.IdealBlocks
public import Idealize.ShloMosaic.Lib.Claim

@[expose] public section

set_option maxRecDepth 16384

noncomputable section

namespace Cert.ExpertsIdealK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

variable (m : (ℓ : Loc nD τ sig) → Buf (Elt F) ℓ) (ρ : Dev nD → PrngReg) (hO : Inside m)

/-- The scratch before a point: anything before the first, and after a point the narrowed blocks of its expert's weights. -/
def kept (c : Dev nD) (t : Fin ((pipe m hO).N + 1)) : sProp (Res F) :=
  if h : 0 < t.val then
    iprop(owns (c : Thread nD τ) kept0 fullShare (k0_pay1 (part m hO c 1 ⟨t.val - 1, by omega⟩)) ∗ owns (c : Thread nD τ) kept1 fullShare (k0_pay2 (part m hO c 2 ⟨t.val - 1, by omega⟩)) ∗ owns (c : Thread nD τ) kept2 fullShare (k0_pay3 (part m hO c 3 ⟨t.val - 1, by omega⟩)))
  else iprop((∃ d, owns (c : Thread nD τ) kept0 fullShare d) ∗ (∃ d, owns (c : Thread nD τ) kept1 fullShare d) ∗ (∃ d, owns (c : Thread nD τ) kept2 fullShare d))

/-- The block of the result a point writes. -/
def left (c : Dev nD) (t : Fin (pipe m hO).N) : Vec F S512x1024 .f32 :=
  answer (k0_cond2 (grid0.coords t) (inUse c (words m 1))) (part m hO c 0 t) (k0_pay1 (part m hO c 1 t)) (k0_pay2 (part m hO c 2 t)) (k0_pay3 (part m hO c 3 t))

/-- The proof data of the pipeline. -/
def dats (_ : Fin 1) (c : Dev nD) : Dat τ (Elt F) Unit ℕ (UR sig nD τ) ℕ (pipe m hO) c where
  A w := held m c (Pipeline.arrRef spec0 w)
  after w t := match w with
    | ⟨0, _⟩ => part m hO c 0 t
    | ⟨1, _⟩ => part m hO c 1 t
    | ⟨2, _⟩ => part m hO c 2 t
    | ⟨3, _⟩ => part m hO c 3 t
    | ⟨4, _⟩ => left m hO c t
  Φ t := iprop((kept m hO c t ∗ (∃ r, prngReg c r)) ∗ (lent c tab0 (words m 0) ∗ lent c tab1 (words m 1)))
  q _ := fullShare
  owed _ := 0

theorem dats_A (c : Dev nD) (w : Fin (pipe m hO).W) : (dats m hO 0 c).A w = held m c (Pipeline.arrRef spec0 w) := by
  dsimp only [dats]
theorem after0 (c : Dev nD) (t : Fin (pipe m hO).N) : (dats m hO 0 c).after 0 t = part m hO c 0 t := by dsimp only [dats]; try rfl
theorem after1 (c : Dev nD) (t : Fin (pipe m hO).N) : (dats m hO 0 c).after 1 t = part m hO c 1 t := by dsimp only [dats]; try rfl
theorem after2 (c : Dev nD) (t : Fin (pipe m hO).N) : (dats m hO 0 c).after 2 t = part m hO c 2 t := by dsimp only [dats]; try rfl
theorem after3 (c : Dev nD) (t : Fin (pipe m hO).N) : (dats m hO 0 c).after 3 t = part m hO c 3 t := by dsimp only [dats]; try rfl
theorem after4 (c : Dev nD) (t : Fin (pipe m hO).N) : (dats m hO 0 c).after 4 t = left m hO c t := by dsimp only [dats]; try rfl

theorem before0 (c : Dev nD) (t : Fin (pipe m hO).N) (d) : (dats m hO 0 c).before 0 t d = part m hO c 0 t := found0 m hO _ (dats_A m hO c 0) (after0 m hO c) t d
theorem before1 (c : Dev nD) (t : Fin (pipe m hO).N) (d) : (dats m hO 0 c).before 1 t d = part m hO c 1 t := found1 m hO _ (dats_A m hO c 1) (after1 m hO c) t d
theorem before2 (c : Dev nD) (t : Fin (pipe m hO).N) (d) : (dats m hO 0 c).before 2 t d = part m hO c 2 t := found2 m hO _ (dats_A m hO c 2) (after2 m hO c) t d
theorem before3 (c : Dev nD) (t : Fin (pipe m hO).N) (d) : (dats m hO 0 c).before 3 t d = part m hO c 3 t := found3 m hO _ (dats_A m hO c 3) (after3 m hO c) t d

/-- The scratch before a point holds contents that the point turns into the narrowed blocks of its own. -/
theorem kept_before (c : Dev nD) (t : Fin (pipe m hO).N) :
    kept m hO c t.castSucc ⊢ iprop(∃ s0 s1 s2, ⌜afresh (fresh c (grid0.coords t) (words m 0)) (k0_pay1 (part m hO c 1 t)) s0 = k0_pay1 (part m hO c 1 t)
      ∧ afresh (fresh c (grid0.coords t) (words m 0)) (k0_pay2 (part m hO c 2 t)) s1 = k0_pay2 (part m hO c 2 t)
      ∧ afresh (fresh c (grid0.coords t) (words m 0)) (k0_pay3 (part m hO c 3 t)) s2 = k0_pay3 (part m hO c 3 t)⌝
      ∗ owns (c : Thread nD τ) kept0 fullShare s0 ∗ owns (c : Thread nD τ) kept1 fullShare s1 ∗ owns (c : Thread nD τ) kept2 fullShare s2) := by
  unfold kept
  by_cases h : 0 < t.castSucc.val
  · rw [dif_pos h]
    iintro ⟨H0, H1, H2⟩
    iexists _, _, _
    isplitr
    swap
    · isplitl [H0]; · iexact H0
      isplitl [H1]; · iexact H1
      iexact H2
    ipureintro
    unfold afresh
    by_cases hf : fresh c (grid0.coords t) (words m 0) = 1#1
    · exact ⟨if_pos hf, if_pos hf, if_pos hf⟩
    · obtain ⟨_, e1, e2, e3⟩ := same m hO c t hf
      simp only [if_neg hf]
      exact ⟨congrArg k0_pay1 e1, congrArg k0_pay2 e2, congrArg k0_pay3 e3⟩
  · rw [dif_neg h]
    have hf : fresh c (grid0.coords t) (words m 0) = 1#1 := by
      by_contra hf
      exact h (same m hO c t hf).1
    iintro ⟨⟨%d0, H0⟩, ⟨%d1, H1⟩, ⟨%d2, H2⟩⟩
    iexists d0, d1, d2
    isplitr
    swap
    · isplitl [H0]; · iexact H0
      isplitl [H1]; · iexact H1
      iexact H2
    ipureintro
    unfold afresh
    exact ⟨if_pos hf, if_pos hf, if_pos hf⟩

theorem kept_after (c : Dev nD) (t : Fin (pipe m hO).N) :
    kept m hO c t.succ = iprop(owns (c : Thread nD τ) kept0 fullShare (k0_pay1 (part m hO c 1 t)) ∗ owns (c : Thread nD τ) kept1 fullShare (k0_pay2 (part m hO c 2 t)) ∗ owns (c : Thread nD τ) kept2 fullShare (k0_pay3 (part m hO c 3 t))) := by
  unfold kept
  exact (dif_pos (Nat.succ_pos t.val)).trans rfl

def given (c : Dev nD) (t : Fin (pipe m hO).N) : sProp (Res F) :=
  iprop((dats m hO 0 c).Φ t.castSucc ∗ (dats m hO 0 c).owesAt () t.castSucc
    ∗ (∃ d, owns (c : Thread nD τ) (mw0 m hO t) fullShare ((dats m hO 0 c).before 0 t d))
    ∗ (∃ d, owns (c : Thread nD τ) (mw1 m hO t) fullShare ((dats m hO 0 c).before 1 t d))
    ∗ (∃ d, owns (c : Thread nD τ) (mw2 m hO t) fullShare ((dats m hO 0 c).before 2 t d))
    ∗ (∃ d, owns (c : Thread nD τ) (mw3 m hO t) fullShare ((dats m hO 0 c).before 3 t d))
    ∗ (∃ d, owns (c : Thread nD τ) (mw4 m hO t) fullShare ((dats m hO 0 c).before 4 t d)))

def handed (c : Dev nD) (t : Fin (pipe m hO).N) : sProp (Res F) :=
  iprop((dats m hO 0 c).Φ t.succ ∗ (dats m hO 0 c).owesAt () t.succ
    ∗ owns (c : Thread nD τ) (mw0 m hO t) fullShare ((dats m hO 0 c).after 0 t)
    ∗ owns (c : Thread nD τ) (mw1 m hO t) fullShare ((dats m hO 0 c).after 1 t)
    ∗ owns (c : Thread nD τ) (mw2 m hO t) fullShare ((dats m hO 0 c).after 2 t)
    ∗ owns (c : Thread nD τ) (mw3 m hO t) fullShare ((dats m hO 0 c).after 3 t)
    ∗ owns (c : Thread nD τ) (mw4 m hO t) fullShare ((dats m hO 0 c).after 4 t))

set_option maxHeartbeats 800000 in
/-- The body at any point. -/
theorem body_runs (c : Dev nD) (t : Fin (pipe m hO).N) :
    given m hO c t ⊢ wp frame (wpE (defs₀ (F := F)) Variants.none c none) Set.univ (bodyAt m hO t) (fun _ => handed m hO c t) := by
  unfold given handed bodyAt
  simp only [before0, before1, before2, before3]
  rw [show (dats m hO 0 c).owesAt () t.succ = (dats m hO 0 c).owesAt () t.castSucc from rfl, after0, after1, after2, after3, after4]
  rw [show (dats m hO 0 c).Φ t.castSucc = iprop((kept m hO c t.castSucc ∗ (∃ r, prngReg c r)) ∗ (lent c tab0 (words m 0) ∗ lent c tab1 (words m 1))) from rfl,
    show (dats m hO 0 c).Φ t.succ = iprop((kept m hO c t.succ ∗ (∃ r, prngReg c r)) ∗ (lent c tab0 (words m 0) ∗ lent c tab1 (words m 1))) from rfl, kept_after]
  iintro ⟨⟨⟨HS, Hg⟩, ⟨HT0, HT1⟩⟩, Ho, ⟨%d0, H0⟩, ⟨%d1, H1⟩, ⟨%d2, H2⟩, ⟨%d3, H3⟩, ⟨%d4, H4⟩⟩
  ihave HS' := (kept_before m hO c t) $$ HS
  icases HS' with ⟨%s0, %s1, %s2, %hs, HS0, HS1, HS2⟩
  obtain ⟨e0, e1, e2⟩ := hs
  iapply ((run_body c (grid0.coords t) _ _ _ _ _ _ _ _ _ _ _ _ _ _ _ _ (part m hO c 0 t) (part m hO c 1 t) (part m hO c 2 t) (part m hO c 3 t) s0 s1 s2 (words m 0) (words m 1)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  rw [e0, e1, e2]
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]
        · iexact HS0
        isplitl [HS1]
        · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body writes the result's block at every point. -/
theorem busy (t : Fin (pipe m hO).N) : (pipe m hO).idle 4 ((pipe m hO).grid.coords t) = false := by
  show (!(k0_cond2 (grid0.coords t) ((words m).atD 1 ![0]) == 1#1) && !(k0_cond3 (grid0.coords t) ((words m).atD 1 ![0]) == 1#1)) = false
  generalize (words m).atD 1 ![0] = v
  have ho := other (grid0.coords t) v
  by_cases h : k0_cond2 (grid0.coords t) v = 1#1
  · rw [h]; rfl
  · rw [ho.mpr h]; simp

theorem obligation (c : Dev nD) : BodyObligation (dats (F := F) m hO 0 c) (defs₀ (F := F)) Variants.none () Set.univ := fun t => by
  rw [bigSep_W0, bigSep_W0, row_eq m hO]
  have e : (owns (c : Thread nD τ) (mw4 m hO t) fullShare ((dats m hO 0 c).after 4 t) : sProp (Res F)) =
      (match (pipe m hO).idle 4 ((pipe m hO).grid.coords t) with
        | true => match ((pipe m hO).win 4).flush t with
          | false => iprop(∃ d, owns (c : Thread nD τ) (mw4 m hO t) fullShare ((dats m hO 0 c).before 4 t d))
          | true => owns (c : Thread nD τ) (mw4 m hO t) fullShare ((dats m hO 0 c).after 4 t)
        | false => owns (c : Thread nD τ) (mw4 m hO t) fullShare ((dats m hO 0 c).after 4 t)) := by
    rw [busy m hO t]
  have b := body_runs m hO c t
  unfold handed at b
  rw [e] at b
  exact triple_restated b rfl .rfl fun _ => .rfl

theorem start (c : Dev nD) : iprop(Pipeline.ΦA spec0 c ∗ Pipeline.ΦT pre0 (words m) c) ⊢ (dats m hO 0 c).Φ 0 := by
  rw [show (dats m hO 0 c).Φ 0 = iprop((kept m hO c 0 ∗ (∃ r, prngReg c r)) ∗ (lent c tab0 (words m 0) ∗ lent c tab1 (words m 1))) from rfl, rest_eq, lent_eq]
  have e : kept m hO c 0 = iprop((∃ d, owns (c : Thread nD τ) kept0 fullShare d) ∗ (∃ d, owns (c : Thread nD τ) kept1 fullShare d) ∗ (∃ d, owns (c : Thread nD τ) kept2 fullShare d)) := by
    unfold kept
    exact dif_neg (Nat.lt_irrefl 0)
  rw [e]

theorem finish (c : Dev nD) : (dats m hO 0 c).Φ (Fin.last (pipe m hO).N) ⊢ Pipeline.ΦA spec0 c := by
  rw [show (dats m hO 0 c).Φ (Fin.last (pipe m hO).N) = iprop((kept m hO c (Fin.last (pipe m hO).N) ∗ (∃ r, prngReg c r)) ∗ (lent c tab0 (words m 0) ∗ lent c tab1 (words m 1))) from rfl, rest_eq]
  unfold kept
  rw [dif_pos (show 0 < (Fin.last (pipe m hO).N).val from lt_of_lt_of_eq (by decide : 0 < 296) N_0.symm)]
  iintro ⟨⟨⟨H0, H1, H2⟩, Hg⟩, -⟩
  isplitl [H0 H1 H2]
  · isplitl [H0]
    · iexists _; iexact H0
    isplitl [H1]
    · iexists _; iexact H1
    iexists _; iexact H2
  iexact Hg

set_option backward.isDefEq.respectTransparency.types false in
/-- The launch: every array of the pipeline ends as its proof data say, and every semaphore counter at zero. -/
theorem launched : θ_run defs (onTc (τ := τ) (main (F := F))) (s₀ m ρ) (fun r => (Pipeline.FramePost (Pipeline.pin pcfgs fun _ => lawful m hO) (dats m hO) 0 (held m)) r ∧ r.2.sem = fun _ => 0) :=
  Pipeline.θ_run_frameP_track (Q' := _) pcfgs (fun _ => lawful m hO) (dats m hO) (0 : Fin 1) launch0 defs₀ Variants.none m ρ main
    (hbody := fun c => (obligation m hO c).loose) (hshare := fun c => (dats m hO 0 c).share_full fun _ => rfl)
    (howed := fun _ _ => rfl) (V := held m) (hmain := Pipeline.hmainP_region pcfgs 0 defs₀ Variants.none m main fun c => (main_chain c).trans rfl)
    (hA := dats_A m hO) (hpf := held_words m) (hin := start m hO) (hout := finish m hO)

/-- The result array, the arguments unchanged, the counters at zero. -/
theorem ends : θ_run defs (onTc (τ := τ) (main (F := F))) ⟨m, fun _ => 0, ρ⟩ (fun r => (∀ c : Dev nD,
      r.2.mem ((c.tc : Thread nD τ).loc main_v0) = (dats m hO 0 c).arrAt 4 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4,
      ((h.1 c).1 0).trans (((dats m hO 0 c).arrAt_in 0 rfl _).trans (dats_A m hO c 0)),
      (h.1 c).2 main_arg1 (by decide : main_arg1 ∈ Pipeline.restRefs sig spec0),
      (h.1 c).2 main_arg2 (by decide : main_arg2 ∈ Pipeline.restRefs sig spec0),
      ((h.1 c).1 1).trans (((dats m hO 0 c).arrAt_in 1 rfl _).trans (dats_A m hO c 1)),
      ((h.1 c).1 2).trans (((dats m hO 0 c).arrAt_in 2 rfl _).trans (dats_A m hO c 2)),
      ((h.1 c).1 3).trans (((dats m hO 0 c).arrAt_in 3 rfl _).trans (dats_A m hO c 3))⟩, h.2⟩) (launched m ρ hO)

end Cert.ExpertsIdealK

end
-- ==== Proof.Experts.IdealPre.lean ====
/- The range the tables are drawn from keeps every block inside its array. -/
module

public import proofs.«01_k».proof.Defs
public import proofs.«01_k».proof.Proof.Gen.Pre_experts_in_range
public import proofs.«01_k».proof.Proof.Experts.IdealBlocks

@[expose] public section

set_option maxRecDepth 16384

noncomputable section

namespace Cert.ExpertsIdealK

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

variable (m : (ℓ : Loc nD τ sig) → Buf (Elt F) ℓ)

theorem off1_all (i : grid0.Coords) : k0_off1 i 0 = (i 0).val := by
  have h : (i 0).val < 296 := (i 0).isLt
  show (BitVec.ofNat 32 (i 0).val).toNat = (i 0).val
  rw [BitVec.toNat_ofNat]; omega

theorem here_all (i : grid0.Coords) : here (0 : Dev nD) i (words m 0) = expertOf m ⟨(i 0).val, (i 0).isLt⟩ := by
  refine tab_at m _ _ ?_
  show k0_off1 i 0 + 1 * 0 = (i 0).val
  rw [off1_all]; omega

/-- The block of rows a point stages: its own, or the last one in use. -/
theorem row_word (a : ℕ) (ha : a < 296) (v : BitVec 32) (hv : 1 ≤ v.toInt) :
    (Scalar.minsi (BitVec.ofNat 32 a) (Scalar.subi v 1#32)).toNat = min a (v.toNat - 1) := by
  have h1 : v.toNat < 2 ^ 31 := by
    by_contra h
    have := BitVec.toInt_eq_toNat_cond v
    rw [if_neg (by omega)] at this
    have := v.isLt
    omega
  have h2 : v.toInt = v.toNat := by rw [BitVec.toInt_eq_toNat_cond, if_pos (by omega)]
  have h3 : (v - 1#32).toNat = v.toNat - 1 := by rw [BitVec.toNat_sub]; simp; omega
  have h4 : (v - 1#32).toInt = ((v.toNat - 1 : ℕ) : ℤ) := by rw [BitVec.toInt_eq_toNat_cond, h3, if_pos (by omega)]
  have h5 : (BitVec.ofNat 32 a).toNat = a := by rw [BitVec.toNat_ofNat]; omega
  have h6 : (BitVec.ofNat 32 a).toInt = (a : ℤ) := by rw [BitVec.toInt_eq_toNat_cond, h5, if_pos (by omega)]
  show (IntOp.minsi (BitVec.ofNat 32 a) (v - 1#32)).toNat = _
  unfold IntOp.minsi
  rw [BitVec.slt_eq_decide, h4, h6]
  split
  · rename_i h; rw [h5]; simp at h; omega
  · rename_i h; rw [h3]; simp at h; omega

theorem inside_of (hb : ∀ n, (expertOf m n).toNat < 32) (hu : 1 ≤ (useOf m).toInt) : Inside m := by
  have e1 : ∀ i : grid0.Coords, cc0_transform_1 k0_off1_inb numel1_S1 (words m) i = ![(expertOf m ⟨(i 0).val, (i 0).isLt⟩).toNat, 0, 0] := fun i => by
    rw [← here_all m i]; rfl
  have e0 : ∀ i : grid0.Coords, cc0_transform_0 inb_S1_S1_0 numel1_S1 (words m) i = ![min (i 0).val ((useOf m).toNat - 1), 0] := fun i => by
    rw [← row_word (i 0).val (i 0).isLt _ hu, ← inUse_eq m (0 : Dev nD)]; rfl
  refine ⟨fun i => ⟨?_, .inl rfl⟩, fun i => ⟨?_, .inl rfl⟩, fun i => ⟨?_, .inl rfl⟩, fun i => ⟨?_, .inl rfl⟩⟩
  · rw [e0 i]
    have h : (i 0).val < 296 := (i 0).isLt
    intro a
    match a with
    | ⟨0, _⟩ => show (min (i 0).val ((useOf m).toNat - 1) + 1) * 512 ≤ 151552; omega
    | ⟨1, _⟩ => show (0 + 1) * 1024 ≤ 1024; omega
  · rw [e1 i]
    have h := hb ⟨(i 0).val, (i 0).isLt⟩
    intro a
    match a with
    | ⟨0, _⟩ => show ((expertOf m ⟨(i 0).val, (i 0).isLt⟩).toNat + 1) * 1 ≤ 32; omega
    | ⟨1, _⟩ => show (0 + 1) * 1024 ≤ 1024; omega
    | ⟨2, _⟩ => show (0 + 1) * 512 ≤ 512; omega
  · rw [show cc0_transform_2 k0_off1_inb numel1_S1 (words m) i = cc0_transform_1 k0_off1_inb numel1_S1 (words m) i from rfl, e1 i]
    have h := hb ⟨(i 0).val, (i 0).isLt⟩
    intro a
    match a with
    | ⟨0, _⟩ => show ((expertOf m ⟨(i 0).val, (i 0).isLt⟩).toNat + 1) * 1 ≤ 32; omega
    | ⟨1, _⟩ => show (0 + 1) * 1024 ≤ 1024; omega
    | ⟨2, _⟩ => show (0 + 1) * 512 ≤ 512; omega
  · rw [show cc0_transform_3 k0_off1_inb numel1_S1 (words m) i = cc0_transform_1 k0_off1_inb numel1_S1 (words m) i from rfl, e1 i]
    have h := hb ⟨(i 0).val, (i 0).isLt⟩
    intro a
    match a with
    | ⟨0, _⟩ => show ((expertOf m ⟨(i 0).val, (i 0).isLt⟩).toNat + 1) * 1 ≤ 32; omega
    | ⟨1, _⟩ => show (0 + 1) * 512 ≤ 512; omega
    | ⟨2, _⟩ => show (0 + 1) * 1024 ≤ 1024; omega

end Cert.ExpertsIdealK

namespace Cert.ExpertsIdealPre

open Cert.ExpertsIdeal Cert.ExpertsIdeal.Gen Cert.ExpertsIdealK Idealize.ShloMosaic Idealize.ShloMosaic.TcCoe Idealize.SL.Sem

variable (m : (ℓ : Loc nD τ sig) → Buf (Elt Ideal) ℓ)

theorem both (a b : BitVec 1) : IntOp.andi a b = 1#1 ↔ a = 1#1 ∧ b = 1#1 := by revert a b; decide

/-- What the precondition says of the tables. -/
theorem tables (h : Cert.Pre_ExpertsIdeal m) : (∀ n, (expertOf m n).toNat < 32) ∧ 1 ≤ (useOf m).toInt := by
  obtain ⟨h1, h2⟩ := h (0 : Dev nD)
  constructor
  · intro n
    have hn := congrFun h1 (ix1 n)
    simp only [Cert.Pre_experts_in_range.fn, constantI, broadcastInDim, cmpi, andi, both] at hn
    have hn : IntOp.cmpi .sge (expertOf m n) 0#32 = 1#1 ∧ IntOp.cmpi .sle (expertOf m n) 31#32 = 1#1 := hn
    rw [WordCmp.cmpi_sge_eq, WordCmp.cmpi_sle_eq, WordCmp.ofBool_decide_eq_one_iff, WordCmp.ofBool_decide_eq_one_iff] at hn
    obtain ⟨a, b⟩ := hn
    have e := BitVec.toInt_eq_toNat_cond (expertOf m n)
    have l := (expertOf m n).isLt
    have z : (0#32 : BitVec 32).toInt = 0 := by decide
    have z' : (31#32 : BitVec 32).toInt = 31 := by decide
    split at e <;> omega
  · have hn := congrFun h2 (ix1 (0 : Fin 1))
    simp only [Cert.Pre_experts_in_range.fn, constantI, broadcastInDim, cmpi] at hn
    have hn : IntOp.cmpi .sge (useOf m) 1#32 = 1#1 := hn
    rw [WordCmp.cmpi_sge_eq, WordCmp.ofBool_decide_eq_one_iff] at hn
    exact hn

theorem inside (h : Cert.Pre_ExpertsIdeal m) : Inside m := inside_of m (tables m h).1 (tables m h).2

end Cert.ExpertsIdealPre

end
-- ==== Proof.Experts.Kern.lean ====
/- The result array of the experts' kernel, entry by entry. -/
module

public import proofs.«01_k».proof.Proof.Experts.Spec
public import proofs.«01_k».proof.Proof.Experts.IdealFrame
public import proofs.«01_k».proof.Proof.Experts.IdealPre
public import Idealize.ShloMosaic.Lib.Pipeline.ValueKit
public import Idealize.ShloMosaic.Lib.StableHlo.ReadAt
public import Idealize.ShloMosaic.Lib.WordCmp

@[expose] public section

set_option maxRecDepth 16384

noncomputable section

namespace Cert.ExpertsVal

open Cert.ExpertsIdeal Cert.ExpertsIdeal.Gen Cert.ExpertsIdealK Cert.ExpertsSpec Idealize.ShloMosaic Idealize.ShloMosaic.TcCoe Idealize.SL.Sem
open Idealize.ShloMosaic.Pipeline (Dat)

variable (m : (ℓ : Loc nD τ sig) → Buf (Elt Ideal) ℓ) (hO : Inside m)

theorem pay4_at (x : Vec Ideal S256x1024 .f32) (w1 w2 : Vec Ideal S1x1024x512 .f32) (w3 : Vec Ideal S1x512x1024 .f32) (r : Fin 256) (l : Fin 1024) :
    k0_pay4 (F := Ideal) x (k0_pay1 w1) (k0_pay2 w2) (k0_pay3 w3) (ix2 r l)
      = ff (fun k => x (ix2 r k)) (fun j k => w1 (ix3 0 k j)) (fun j k => w2 (ix3 0 k j)) (fun j => w3 (ix3 0 j l)) := by
  pointwise [k0_pay4, k0_pay1, k0_pay2, k0_pay3, ff, dot]

theorem pay5_at (x : Vec Ideal S256x1024 .f32) (w1 w2 : Vec Ideal S1x1024x512 .f32) (w3 : Vec Ideal S1x512x1024 .f32) (r : Fin 256) (l : Fin 1024) :
    k0_pay5 (F := Ideal) x (k0_pay1 w1) (k0_pay2 w2) (k0_pay3 w3) (ix2 r l)
      = ff (fun k => x (ix2 r k)) (fun j k => w1 (ix3 0 k j)) (fun j k => w2 (ix3 0 k j)) (fun j => w3 (ix3 0 j l)) := by
  pointwise [k0_pay5, k0_pay1, k0_pay2, k0_pay3, ff, dot]

theorem pay6_at (i : S512x1024.Idx) : k0_pay6 (F := Ideal) i = 0 := by
  obtain ⟨x0, x1, rfl⟩ : ∃ (a : Fin 512) (b : Fin 1024), i = ix2 a b := ⟨i 0, i 1, by funext k; fin_cases k <;> rfl⟩
  pointwise [k0_pay6]

theorem rows_congr (x0 : Vec Ideal S512x1024 .f32) (f : Fin 1024 → EReal) (r : Fin 512) (g u : Fin 512 → Fin 1024 → EReal) (w3 : Vec Ideal S1x512x1024 .f32)
    (b b' : Fin 1024) (hf : ∀ k, f k = x0 (ix2 r k)) (hb : b = b') :
    ff f g u (fun j => w3 (ix3 0 j b)) = ff (fun k => x0 (ix2 r k)) g u (fun j => w3 (ix3 0 j b')) := by
  rw [show f = fun k => x0 (ix2 r k) from funext hf, hb]

/-- The first 256 rows of a block, and the last 256. -/
theorem answer_at (x0 : Vec Ideal S512x1024 .f32) (w1 w2 : Vec Ideal S1x1024x512 .f32) (w3 : Vec Ideal S1x512x1024 .f32) (y : S512x1024.Idx) :
    answer (F := Ideal) 1#1 x0 (k0_pay1 w1) (k0_pay2 w2) (k0_pay3 w3) y
      = ff (fun k => x0 (ix2 (y 0) k)) (fun j k => w1 (ix3 0 k j)) (fun j k => w2 (ix3 0 k j)) (fun j => w3 (ix3 0 j (y 1))) := by
  unfold answer
  rw [if_pos rfl]
  canon_tiles x h
  · obtain ⟨a, b, rfl⟩ : ∃ (a : Fin 256) (b : Fin 1024), x = ix2 a b := ⟨x 0, x 1, by funext k; fin_cases k <;> rfl⟩
    refine (pay5_at _ _ _ _ a b).trans ?_
    exact rows_congr x0 _ _ _ _ w3 _ _ (fun k => congrArg x0 (by
      funext q
      match q with
      | ⟨0, _⟩ => exact Fin.ext (by show 256 + 1 * a.val = (y 0).val; rw [h0]; show 256 + 1 * a.val = 256 + a.val; omega)
      | ⟨1, _⟩ => exact Fin.ext (by show 0 + 1 * k.val = k.val; omega))) (Fin.ext h1.symm)
  · obtain ⟨a, b, rfl⟩ : ∃ (a : Fin 256) (b : Fin 1024), x = ix2 a b := ⟨x 0, x 1, by funext k; fin_cases k <;> rfl⟩
    refine (pay4_at _ _ _ _ a b).trans ?_
    exact rows_congr x0 _ _ _ _ w3 _ _ (fun k => congrArg x0 (by
      funext q
      match q with
      | ⟨0, _⟩ => exact Fin.ext (by show 0 + 1 * a.val = (y 0).val; rw [h0]; show 0 + 1 * a.val = a.val; omega)
      | ⟨1, _⟩ => exact Fin.ext (by show 0 + 1 * k.val = k.val; omega))) (Fin.ext h1.symm)

/-- A point's number is below the count exactly where its body multiplies. -/
theorem cond2_iff (i : grid0.Coords) (v : BitVec 32) : k0_cond2 i v = 1#1 ↔ ((i 0).val : ℤ) < v.toInt := by
  have h : (i 0).val < 296 := (i 0).isLt
  have h5 : (BitVec.ofNat 32 (i 0).val).toNat = (i 0).val := by rw [BitVec.toNat_ofNat]; omega
  have h6 : (BitVec.ofNat 32 (i 0).val).toInt = ((i 0).val : ℤ) := by rw [BitVec.toInt_eq_toNat_cond, h5, if_pos (by omega)]
  have e : k0_cond2 i v = IntOp.cmpi .slt (BitVec.ofNat 32 (i 0).val) v := by
    have w : ∀ b : BitVec 1, IntOp.cmpi .ne (b.setWidth 32) 0#32 = b := by decide
    exact w _
  rw [e, WordCmp.cmpi_slt_eq, WordCmp.ofBool_decide_eq_one_iff, h6]

theorem part0_at (c : Dev nD) (t : Fin (pipe m hO).N) (n : Fin 296) (h : n.val = t.val) (hu : 1 ≤ (useOf m).toInt) (hn : (n.val : ℤ) < (useOf m).toInt) (a : Fin 512) (b : Fin 1024) :
    part m hO c 0 t (ix2 a b) = held m c main_arg0 (ix2 ⟨n.val * 512 + a.val, by omega⟩ b) := by
  unfold part
  refine congrArg (held m c main_arg0) (funext fun k => Fin.ext ?_)
  have hc : (grid0.coords t 0).val = n.val := (coord t).trans h.symm
  have hx : cc0_transform_0 inb_S1_S1_0 numel1_S1 (words m) (grid0.coords t) 0 = n.val := by
    have e : cc0_transform_0 inb_S1_S1_0 numel1_S1 (words m) (grid0.coords t) 0 = (Scalar.minsi (BitVec.ofNat 32 (grid0.coords t 0).val) (Scalar.subi (useOf m) 1#32)).toNat := by
      rw [← inUse_eq m (0 : Dev nD)]; rfl
    rw [e, row_word _ (grid0.coords t 0).isLt _ hu, hc]
    have hl := (useOf m).isLt
    have hv := BitVec.toInt_eq_toNat_cond (useOf m)
    split at hv <;> omega
  match k with
  | ⟨0, _⟩ => show cc0_transform_0 inb_S1_S1_0 numel1_S1 (words m) (grid0.coords t) 0 * 512 + 1 * a.val = n.val * 512 + a.val; omega
  | ⟨1, _⟩ => show 0 * 1024 + 1 * b.val = b.val; omega

/-- The result of the kernel: the feed-forward of the rows in use, and zero in the rows that are not. -/
def arr (c : Dev nD) (i : S151552x1024.Idx) : EReal :=
  let n : Fin 296 := ⟨(i 0).val / 512, by have h : (i 0).val < 151552 := (i 0).isLt; omega⟩
  let e : Fin 32 := ⟨(expertOf m n).toNat % 32, by omega⟩
  if (n.val : ℤ) < (useOf m).toInt then
    ff (fun k => held m c main_arg0 (ix2 (i 0) k)) (fun j k => held m c main_arg3 (ix3 e k j)) (fun j k => held m c main_arg4 (ix3 e k j)) (fun j => held m c main_arg5 (ix3 e j (i 1)))
  else 0

theorem left_at (hu : 1 ≤ (useOf m).toInt) (c : Dev nD) (t : Fin (pipe m hO).N) (y : S512x1024.Idx) (i : S151552x1024.Idx)
    (h0 : (i 0).val = t.val * 512 + (y 0).val) (h1 : i 1 = y 1) : left m hO c t y = arr m c i := by
  have ht : t.val < 296 := lt_of_lt_of_eq t.isLt N_0
  have hy : (y 0).val < 512 := (y 0).isLt
  have hn : (i 0).val / 512 = t.val := by omega
  have hc : (grid0.coords t 0).val = t.val := coord t
  unfold left arr
  rw [inUse_eq]
  by_cases hin : (t.val : ℤ) < (useOf m).toInt
  · rw [(cond2_iff (grid0.coords t) (useOf m)).mpr (by rw [hc]; exact hin), if_pos (by show (((i 0).val / 512 : ℕ) : ℤ) < _; rw [hn]; exact hin)]
    refine (answer_at _ _ _ _ y).trans ?_
    have el := expert_lt m hO ⟨(i 0).val / 512, by omega⟩
    unfold ff
    have r0 : ∀ k, part m hO c 0 t (ix2 (y 0) k) = held m c main_arg0 (ix2 (i 0) k) := fun k =>
      (part0_at m hO c t ⟨(i 0).val / 512, by omega⟩ hn hu (by show (((i 0).val / 512 : ℕ) : ℤ) < _; rw [hn]; exact hin) (y 0) k).trans
        (congrArg (fun a => held m c main_arg0 (ix2 a k)) (Fin.ext (by show (i 0).val / 512 * 512 + (y 0).val = (i 0).val; omega)))
    have r1 : ∀ j k, part m hO c 1 t (ix3 0 k j) = held m c main_arg3 (ix3 ⟨(expertOf m ⟨(i 0).val / 512, by omega⟩).toNat % 32, by omega⟩ k j) := fun j k =>
      part1_at m hO c t ⟨(i 0).val / 512, by omega⟩ hn ⟨_, by omega⟩ (Nat.mod_eq_of_lt el) k j
    have r2 : ∀ j k, part m hO c 2 t (ix3 0 k j) = held m c main_arg4 (ix3 ⟨(expertOf m ⟨(i 0).val / 512, by omega⟩).toNat % 32, by omega⟩ k j) := fun j k =>
      part2_at m hO c t ⟨(i 0).val / 512, by omega⟩ hn ⟨_, by omega⟩ (Nat.mod_eq_of_lt el) k j
    have r3 : ∀ j, part m hO c 3 t (ix3 0 j (y 1)) = held m c main_arg5 (ix3 ⟨(expertOf m ⟨(i 0).val / 512, by omega⟩).toNat % 32, by omega⟩ j (y 1)) := fun j =>
      part3_at m hO c t ⟨(i 0).val / 512, by omega⟩ hn ⟨_, by omega⟩ (Nat.mod_eq_of_lt el) j (y 1)
    rw [h1]
    simp only [r0, r1, r2, r3]
  · have hb : ¬ k0_cond2 (grid0.coords t) (useOf m) = 1#1 := fun hb => hin (by rw [← hc]; exact (cond2_iff _ _).mp hb)
    rw [if_neg (show ¬ ((((i 0).val / 512 : ℕ) : ℤ) < _) by rw [hn]; exact hin)]
    unfold answer
    rw [if_neg hb]
    exact pay6_at y

theorem mem_of (t : Fin (pipe m hO).N) (x : (((pipe m hO).win 4).xblock (grid0.coords t)).Idx) (i : (((pipe m hO).win 4).blk t).view.ty.Idx)
    (h : (((pipe m hO).win 4).blk t).view.emb x = i) : i ∈ (((pipe m hO).win 4).blk t).view.set := by
  subst h; exact View.emb_mem_set _ _

theorem final (hu : 1 ≤ (useOf m).toInt) (c : Dev nD) : (dats m hO 0 c).arrAt 4 (pipe m hO).N = arr m c := by
  have em : ∀ (t : Fin (pipe m hO).N) (y : S512x1024.Idx) (i : S151552x1024.Idx), (i 0).val = t.val * 512 + (y 0).val → i 1 = y 1 →
      (((pipe m hO).win 4).blk t).view.emb y = i := fun t y i h0 h1 => funext fun k => Fin.ext (by
    have hc : (grid0.coords t 0).val = t.val := coord t
    have ht : t.val < 296 := lt_of_lt_of_eq t.isLt N_0
    have hx : cc0_transform_4 (grid0.coords t) 0 = t.val := by
      refine Eq.trans ?_ hc
      show (BitVec.ofNat 32 (grid0.coords t 0).val).toNat = _
      rw [BitVec.toNat_ofNat]; omega
    match k with
    | ⟨0, _⟩ => show cc0_transform_4 (grid0.coords t) 0 * 512 + 1 * (y 0).val = (i 0).val; omega
    | ⟨1, _⟩ => show 0 * 1024 + 1 * (y 1).val = (i 1).val; rw [h1]; omega)
  refine (dats m hO 0 c).arrAt_eq_of_emb 4 (arr m c) (fun t _ (y : S512x1024.Idx) => ?_) (fun (i : S151552x1024.Idx) => ?_)
  · have ht : t.val < 296 := lt_of_lt_of_eq t.isLt N_0
    have hy : (y 0).val < 512 := (y 0).isLt
    have e := em t y (ix2 (⟨t.val * 512 + (y 0).val, by omega⟩ : Fin 151552) (y 1)) rfl rfl
    refine (congrFun (after4 m hO c t) y).trans ?_
    refine Eq.trans ?_ (congrArg (arr m c) e.symm)
    exact left_at m hO hu c t y _ rfl rfl
  · have hi : (i 0).val < 151552 := (i 0).isLt
    refine ⟨⟨(i 0).val / 512, lt_of_lt_of_eq (by omega : (i 0).val / 512 < 296) N_0.symm⟩, flushed m hO _, ?_⟩
    have e := em ⟨(i 0).val / 512, lt_of_lt_of_eq (by omega : (i 0).val / 512 < 296) N_0.symm⟩ (ix2 (⟨(i 0).val % 512, by omega⟩ : Fin 512) (i 1)) i
      (by show (i 0).val = (i 0).val / 512 * 512 + (i 0).val % 512; omega) rfl
    exact mem_of m hO _ _ _ e

end Cert.ExpertsVal

end
-- ==== Proof.Experts.Dense.lean ====
/- The experts' reference, entry by entry. -/
module

public import proofs.«01_k».proof.Proof.Experts.Spec
public import proofs.«01_k».proof.Proof.Gen.ExpertsRefIdeal.Read
public import Idealize.ShloMosaic.Lib.Pipeline.ValueKit
public import Idealize.ShloMosaic.Lib.StableHlo.ReadAt
public import Idealize.ShloMosaic.Lib.Routing.OpsSet
public import Idealize.ShloMosaic.Lib.WordCmp

@[expose] public section

set_option maxRecDepth 16384

noncomputable section

namespace Cert.ExpertsDense

open Cert.ExpertsRefIdeal Cert.ExpertsRefIdeal.Gen Cert.ExpertsRefIdeal.Read Cert.ExpertsSpec Idealize.ShloMosaic Idealize.ShloMosaic.TcCoe Idealize.SL.Sem

/-- The numbers of a gather that takes one block of thirty-two, for every row of a table of block starts. -/
abbrev blkDims (A B : ℕ) (wf : GatherDims.WF ⟨3, ![32, A, B]⟩ ⟨2, ![296, 3]⟩ ⟨4, ![296, 1, A, B]⟩ [1, 2, 3] [] [] [0, 1, 2] [] 1 ![1, A, B]) :
    GatherDims ⟨3, ![32, A, B]⟩ ⟨2, ![296, 3]⟩ ⟨4, ![296, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

theorem gather_blk {A B : ℕ} (wf : GatherDims.WF ⟨3, ![32, A, B]⟩ ⟨2, ![296, 3]⟩ ⟨4, ![296, 1, A, B]⟩ [1, 2, 3] [] [] [0, 1, 2] [] 1 ![1, A, B])
    (x : (⟨3, ![32, A, B]⟩ : Shape).Idx → EReal) (idx : IVec ⟨2, ![296, 3]⟩ 32) (n : Fin 296) (a : Fin A) (b : Fin B) (e : Fin 32)
    (h0 : (idx (ix2 n (0 : Fin 3))).toInt.toNat = e.val) (h1 : idx (ix2 n (1 : Fin 3)) = 0#32) (h2 : idx (ix2 n (2 : Fin 3)) = 0#32) :
    Host.gather (blkDims A B wf) x idx (ix4 n (0 : Fin 1) a b) = x (ix3 e a b) := by
  unfold Host.gather
  congr 1
  funext q
  refine Fin.ext ?_
  show (blkDims A B wf).start _ idx q + (blkDims A B wf).batchCoord _ q + (blkDims A B wf).offCoord _ q = _
  rw [GatherDims.batchCoord_eq_zero _ _ _ List.not_mem_nil]
  have h3 : ∀ q : Fin 3, q ∈ ([0, 1, 2] : List (Fin 3)) := by decide
  have hm : ∀ q : Fin 3, q ∈ (blkDims A B wf).startIndexMap := h3
  have hk : ∀ q : Fin 3, q ∈ (blkDims A B wf).sKept := fun q => (GatherDims.mem_sKept _ _).mpr ⟨List.not_mem_nil, List.not_mem_nil⟩
  unfold GatherDims.start GatherDims.offCoord
  rw [dif_pos (hm q), dif_pos (hk q)]
  have hsi : (blkDims A B wf).siIdx (ix4 n (0 : Fin 1) a b) ⟨List.idxOf q (blkDims A B wf).startIndexMap, List.idxOf_lt_length_iff.2 (hm q)⟩ = ix2 n q := by
    funext z
    refine Fin.ext ?_
    match q, z with
    | ⟨0, _⟩, ⟨0, _⟩ => rfl
    | ⟨0, _⟩, ⟨1, _⟩ => rfl
    | ⟨1, _⟩, ⟨0, _⟩ => rfl
    | ⟨1, _⟩, ⟨1, _⟩ => rfl
    | ⟨2, _⟩, ⟨0, _⟩ => rfl
    | ⟨2, _⟩, ⟨1, _⟩ => rfl
  rw [hsi]
  match q with
  | ⟨0, _⟩ =>
    show min (idx (ix2 n (0 : Fin 3))).toInt.toNat (32 - 1) + 0 + 0 = e.val
    rw [h0]; omega
  | ⟨1, _⟩ =>
    show min (idx (ix2 n (1 : Fin 3))).toInt.toNat (A - A) + 0 + a.val = a.val
    rw [h1]; omega
  | ⟨2, _⟩ =>
    show min (idx (ix2 n (2 : Fin 3))).toInt.toNat (B - B) + 0 + b.val = b.val
    rw [h2]; omega

variable (x0 : S151552x1024.Idx → EReal) (x1 : S296.Idx → BitVec 32) (x2 : S1.Idx → BitVec 32) (x3 x4 : S32x1024x512.Idx → EReal) (x5 : S32x512x1024.Idx → EReal)

theorem nonneg (v : BitVec 32) (h : v.toNat < 32) : v.toInt = v.toNat := by
  rw [BitVec.toInt_eq_toNat_cond, if_pos (by omega)]

theorem wrap (v : BitVec 32) (h : v.toNat < 32) : IntOp.cmpi .slt v 0#32 = 0#1 := by
  rw [WordCmp.cmpi_slt_eq, nonneg v h, decide_eq_false (show ¬ ((v.toNat : ℤ) < (0#32 : BitVec 32).toInt) from fun hl => by
    have z : (0#32 : BitVec 32).toInt = 0 := by decide
    omega)]
  rfl

theorem v11_at (n : Fin 296) (h : (x1 (ix1 n)).toNat < 32) : val_main_v11 (F := Ideal) x1 (ix1 n) = x1 (ix1 n) := by
  show (if IntOp.cmpi .slt (x1 (ix1 n)) 0#32 = 1#1 then _ else x1 (ix1 n)) = _
  rw [wrap _ h]; rfl

theorem v21_0 (n : Fin 296) (h : (x1 (ix1 n)).toNat < 32) : val_main_v21 (F := Ideal) x1 (ix2 n (0 : Fin 3)) = x1 (ix1 n) := by
  refine Eq.trans ?_ ((val_main_v18_apply (F := Ideal) x1 (ix2 n (0 : Fin 1))).trans ((congrArg (val_main_v11 (F := Ideal) x1)
      (show idx_main_v18 (ix2 n (0 : Fin 1)) = ix1 n by funext q; fin_cases q; rfl)).trans (v11_at x1 n h)))
  unfold val_main_v21
  generalize val_main_v18 (F := Ideal) x1 = y
  refine congrArg y (a₂ := ix2 n (0 : Fin 1)) (funext fun q => ?_)
  match q with
  | ⟨0, _⟩ => rfl
  | ⟨1, _⟩ => rfl
theorem v21_1 (n : Fin 296) : val_main_v21 (F := Ideal) x1 (ix2 n (1 : Fin 3)) = 0#32 := rfl
theorem v21_2 (n : Fin 296) : val_main_v21 (F := Ideal) x1 (ix2 n (2 : Fin 3)) = 0#32 := rfl

theorem idx23 (n : Fin 296) (a : Fin 1024) (b : Fin 512) : idx_main_v23 (ix3 n a b) = ix4 n (0 : Fin 1) a b := by
  funext q
  refine Fin.ext ?_
  match q with
  | ⟨0, _⟩ => show ((n.val * 1024 + a.val) * 512 + b.val) / 524288 = n.val; omega
  | ⟨1, _⟩ => rfl
  | ⟨2, _⟩ => show ((n.val * 1024 + a.val) * 512 + b.val) / 512 % 1024 = a.val; omega
  | ⟨3, _⟩ => show ((n.val * 1024 + a.val) * 512 + b.val) % 512 = b.val; omega

/-- The weights of a block's expert. -/
theorem v23_at (n : Fin 296) (a : Fin 1024) (b : Fin 512) (e : Fin 32) (h : (x1 (ix1 n)).toNat = e.val) :
    val_main_v23 (F := Ideal) x1 x3 (ix3 n a b) = x3 (ix3 e a b) := by
  rw [val_main_v23_apply, idx23]
  refine gather_blk _ x3 _ n a b e ?_ (v21_1 x1 n) (v21_2 x1 n)
  rw [v21_0 x1 n (by omega), nonneg _ (by omega)]; exact h

theorem v42_eq : val_main_v42 (F := Ideal) x1 x3 = val_main_v23 (F := Ideal) x1 x3 := rfl

theorem idx61 (n : Fin 296) (a : Fin 512) (b : Fin 1024) : idx_main_v61 (ix3 n a b) = ix4 n (0 : Fin 1) a b := by
  funext q
  refine Fin.ext ?_
  match q with
  | ⟨0, _⟩ => show ((n.val * 512 + a.val) * 1024 + b.val) / 524288 = n.val; omega
  | ⟨1, _⟩ => rfl
  | ⟨2, _⟩ => show ((n.val * 512 + a.val) * 1024 + b.val) / 1024 % 512 = a.val; omega
  | ⟨3, _⟩ => show ((n.val * 512 + a.val) * 1024 + b.val) % 1024 = b.val; omega

theorem v59_eq : val_main_v59 (F := Ideal) x1 = val_main_v21 (F := Ideal) x1 := rfl

theorem v61_at (n : Fin 296) (a : Fin 512) (b : Fin 1024) (e : Fin 32) (h : (x1 (ix1 n)).toNat = e.val) :
    val_main_v61 (F := Ideal) x1 x5 (ix3 n a b) = x5 (ix3 e a b) := by
  rw [val_main_v61_apply, idx61]
  refine gather_blk _ x5 _ n a b e ?_ (v21_1 x1 n) (v21_2 x1 n)
  rw [v59_eq, v21_0 x1 n (by omega), nonneg _ (by omega)]; exact h

theorem idx5 (n : Fin 296) (a : Fin 512) (b : Fin 1024) : idx_main_v5 (ix3 n a b) = ix2 (⟨n.val * 512 + a.val, by omega⟩ : Fin 151552) b := by
  funext q
  refine Fin.ext ?_
  match q with
  | ⟨0, _⟩ => show ((n.val * 512 + a.val) * 1024 + b.val) / 1024 = n.val * 512 + a.val; omega
  | ⟨1, _⟩ => show ((n.val * 512 + a.val) * 1024 + b.val) % 1024 = b.val; omega

theorem v1_at (i : S_.Idx) : val_main_v1 (F := Ideal) x2 i = x2 (ix1 (0 : Fin 1)) := by
  unfold val_main_v1
  exact shapeCast_apply x2 _ i (ix1 (0 : Fin 1)) (by
    have hl := (S_.rowMajor i).isLt
    have hs : S_.numel = 1 := by decide
    rw [Shape.rowMajor_val_one]; show 0 = _; omega)

/-- The rows of the blocks in use, and zeros in the others. -/
theorem v6_at (n : Fin 296) (a : Fin 512) (b : Fin 1024) :
    val_main_v6 (F := Ideal) x0 x2 (ix3 n a b)
      = if (n.val : ℤ) < (x2 (ix1 (0 : Fin 1))).toInt then x0 (ix2 (⟨n.val * 512 + a.val, by omega⟩ : Fin 151552) b) else 0 := by
  have e : val_main_v6 (F := Ideal) x0 x2 (ix3 n a b) = if IntOp.cmpi .slt (BitVec.ofNat 32 n.val) (val_main_v1 (F := Ideal) x2 (fun a => a.elim0)) = 1#1
      then val_main_v5 (F := Ideal) x0 (ix3 n a b) else Ideal.ofBits .f32 0x00000000#32 := rfl
  have h5 : (BitVec.ofNat 32 n.val).toNat = n.val := by rw [BitVec.toNat_ofNat]; omega
  have h6 : (BitVec.ofNat 32 n.val).toInt = (n.val : ℤ) := by rw [BitVec.toInt_eq_toNat_cond, h5, if_pos (by omega)]
  rw [e, v1_at, WordCmp.cmpi_slt_eq, h6, val_main_v5_apply, idx5]
  refine if_congr (WordCmp.ofBool_decide_eq_one_iff _) rfl ?_
  exact Ideal.ofBits_zero_f32

theorem v24_at (n : Fin 296) (a j : Fin 512) (e : Fin 32) (h : (x1 (ix1 n)).toNat = e.val) :
    val_main_v24 (F := Ideal) x0 x1 x2 x3 (ix3 n a j) = dot (fun k => val_main_v6 (F := Ideal) x0 x2 (ix3 n a k)) (fun k => x3 (ix3 e k j)) := by
  rw [val_main_v24_apply]
  unfold dot
  refine Finset.sum_congr rfl fun k _ => ?_
  have el : lidx_main_v24 (ix3 n a j) k = ix3 n a k := by funext q; fin_cases q <;> rfl
  have er : ridx_main_v24 (ix3 n a j) k = ix3 n k j := by funext q; fin_cases q <;> rfl
  rw [el, er, v23_at x1 x3 n k j e h]

theorem v43_eq : val_main_v43 (F := Ideal) x0 x1 x2 x4 = val_main_v24 (F := Ideal) x0 x1 x2 x4 := rfl

theorem v44_at (n : Fin 296) (a j : Fin 512) :
    val_main_v44 (F := Ideal) x0 x1 x2 x3 x4 (ix3 n a j)
      = val_main_v24 (F := Ideal) x0 x1 x2 x3 (ix3 n a j) * Ideal.logistic (val_main_v24 (F := Ideal) x0 x1 x2 x3 (ix3 n a j)) * val_main_v24 (F := Ideal) x0 x1 x2 x4 (ix3 n a j) := by
  have e : val_main_v44 (F := Ideal) x0 x1 x2 x3 x4 (ix3 n a j)
      = val_main_v24 (F := Ideal) x0 x1 x2 x3 (ix3 n a j)
        * Ideal.div (Ideal.ofBits .f32 0x3F800000#32) (Ideal.ofBits .f32 0x3F800000#32 + Ideal.exp (-(val_main_v24 (F := Ideal) x0 x1 x2 x3 (ix3 n a j))))
        * val_main_v43 (F := Ideal) x0 x1 x2 x4 (ix3 n a j) := rfl
  rw [e, v43_eq, Ideal.ofBits_one_f32]
  rfl

/-- The reference's result at a row of a block. -/
theorem v62_at (n : Fin 296) (a : Fin 512) (b : Fin 1024) (e : Fin 32) (h : (x1 (ix1 n)).toNat = e.val) :
    val_main_v62 (F := Ideal) x0 x1 x2 x3 x4 x5 (ix3 n a b)
      = ff (fun k => val_main_v6 (F := Ideal) x0 x2 (ix3 n a k)) (fun j k => x3 (ix3 e k j)) (fun j k => x4 (ix3 e k j)) (fun j => x5 (ix3 e j b)) := by
  rw [val_main_v62_apply]
  unfold ff
  refine Finset.sum_congr rfl fun j _ => ?_
  have el : lidx_main_v62 (ix3 n a b) j = ix3 n a j := by funext q; fin_cases q <;> rfl
  have er : ridx_main_v62 (ix3 n a b) j = ix3 n j b := by funext q; fin_cases q <;> rfl
  rw [el, er, v61_at x1 x5 n j b e h, v44_at, v24_at x0 x1 x2 x3 n a j e h, v24_at x0 x1 x2 x4 n a j e h]

theorem idx63 (i : S151552x1024.Idx) (n : Fin 296) (a : Fin 512) (hn : n.val = (i 0).val / 512) (ha : a.val = (i 0).val % 512) : idx_main_v63 i = ix3 n a (i 1) := by
  have h0 : (i 0).val < 151552 := (i 0).isLt
  have h1 : (i 1).val < 1024 := (i 1).isLt
  funext q
  refine Fin.ext ?_
  match q with
  | ⟨0, _⟩ => show ((i 0).val * 1024 + (i 1).val) / 524288 = n.val; omega
  | ⟨1, _⟩ => show ((i 0).val * 1024 + (i 1).val) / 1024 % 512 = a.val; omega
  | ⟨2, _⟩ => show ((i 0).val * 1024 + (i 1).val) % 1024 = (i 1).val; omega

/-- The reference's result: the feed-forward of the rows in use, and zero in the rows that are not. -/
theorem v63_at (i : S151552x1024.Idx) (n : Fin 296) (hn : n.val = (i 0).val / 512) (e : Fin 32) (h : (x1 (ix1 n)).toNat = e.val) :
    val_main_v63 (F := Ideal) x0 x1 x2 x3 x4 x5 i
      = if (n.val : ℤ) < (x2 (ix1 (0 : Fin 1))).toInt then
          ff (fun k => x0 (ix2 (i 0) k)) (fun j k => x3 (ix3 e k j)) (fun j k => x4 (ix3 e k j)) (fun j => x5 (ix3 e j (i 1)))
        else 0 := by
  refine (val_main_v63_apply (F := Ideal) x0 x1 x2 x3 x4 x5 i).trans ((congrArg (val_main_v62 (F := Ideal) x0 x1 x2 x3 x4 x5) (idx63 i n ⟨(i 0).val % 512, by omega⟩ hn rfl)).trans
    ((v62_at x0 x1 x2 x3 x4 x5 n ⟨(i 0).val % 512, by omega⟩ (i 1) e h).trans ?_))
  have h0 : (i 0).val < 151552 := (i 0).isLt
  by_cases hin : (n.val : ℤ) < (x2 (ix1 (0 : Fin 1))).toInt
  · rw [if_pos hin]
    refine congrArg (fun f => ff f _ _ _) (funext fun k => ?_)
    rw [v6_at, if_pos hin]
    exact congrArg (fun a => x0 (ix2 a k)) (Fin.ext (by show n.val * 512 + (i 0).val % 512 = (i 0).val; omega))
  · rw [if_neg hin]
    refine (congrArg (fun f => ff f _ _ _) (funext fun k => ?_)).trans (ff_zero _ _ _)
    rw [v6_at, if_neg hin]

end Cert.ExpertsDense

end
-- ==== Proof.Experts.Claims.lean ====
/- The claims about the experts: the programs run, and their results are equal extended reals. -/
module

public import proofs.«01_k».proof.Defs
public import proofs.«01_k».proof.Proof.Experts.Frame
public import proofs.«01_k».proof.Proof.Experts.Pre
public import proofs.«01_k».proof.Proof.Experts.Kern
public import proofs.«01_k».proof.Proof.Experts.Dense
public import Idealize.ShloMosaic.Adequacy
public import Idealize.ShloMosaic.Init

@[expose] public section

set_option maxRecDepth 16384

noncomputable section

namespace Cert.ExpertsClaims

open Idealize.ShloMosaic Idealize.SL.Sem

theorem frame : Cert.quiescent_Experts := fun m ρ h =>
  (θ_run Cert.Experts.defs _ _).mono (fun r h => ⟨fun c => (h.1 c).2, h.2⟩)
    (Cert.ExpertsK.ends m ρ (Cert.ExpertsPre.inside m h))

theorem frame_ideal : Cert.quiescent_ExpertsIdeal := fun m ρ h =>
  (θ_run Cert.ExpertsIdeal.defs _ _).mono (fun r h => ⟨fun c => (h.1 c).2, h.2⟩)
    (Cert.ExpertsIdealK.ends m ρ (Cert.ExpertsIdealPre.inside m h))

theorem frame_ref : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

theorem frame_ref_pre : Cert.quiescent_ExpertsRefIdeal_pre_experts_in_range := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- Under the precondition the two result arrays are the same function of the arguments. -/
theorem value (m : (ℓ : Loc Cert.ExpertsIdeal.nD Cert.ExpertsIdeal.τ Cert.ExpertsIdeal.sig) → Buf (Elt Ideal) ℓ) (h : Cert.Pre_ExpertsIdeal m) :
    Cert.ExpertsVal.arr m 0 = Cert.ExpertsRefIdeal.Read.val_main_v63 (F := Ideal)
      (Cert.ExpertsIdealK.held m 0 Cert.ExpertsIdeal.main_arg0) (Cert.ExpertsIdealK.held m 0 Cert.ExpertsIdeal.main_arg1) (Cert.ExpertsIdealK.held m 0 Cert.ExpertsIdeal.main_arg2)
      (Cert.ExpertsIdealK.held m 0 Cert.ExpertsIdeal.main_arg3) (Cert.ExpertsIdealK.held m 0 Cert.ExpertsIdeal.main_arg4) (Cert.ExpertsIdealK.held m 0 Cert.ExpertsIdeal.main_arg5) := by
  have hb := (Cert.ExpertsIdealPre.tables m h).1
  funext i
  have h0 : (i 0).val < 151552 := (i 0).isLt
  have hl := hb ⟨(i 0).val / 512, by omega⟩
  refine Eq.symm ((Cert.ExpertsDense.v63_at _ _ _ _ _ _ i ⟨(i 0).val / 512, by omega⟩ rfl
    ⟨(Cert.ExpertsIdealK.expertOf m ⟨(i 0).val / 512, by omega⟩).toNat % 32, by omega⟩ (Nat.mod_eq_of_lt hl).symm).trans ?_)
  rfl

theorem algebraic : Cert.algebraic_ExpertsIdeal_ExpertsRefIdeal := by
  intro m ρ m' ρ' hpre hag
  have hO := Cert.ExpertsIdealPre.inside m hpre
  refine ⟨fun c => Cert.ExpertsVal.arr m c, (θ_run Cert.ExpertsIdeal.defs _ _).mono
      (fun _ h c => ⟨(h.1 c).1.trans (Cert.ExpertsVal.final m hO (Cert.ExpertsIdealPre.tables m hpre).2 c), (h.1 c).2⟩)
      (Cert.ExpertsIdealK.ends (F := Ideal) m ρ hO),
    (θ_run Cert.ExpertsRefIdeal.defs _ _).mono (fun _ h c => ⟨(h c).1.trans ?_, (h c).2⟩) (Cert.ExpertsRefIdeal.Value.run (F := Ideal) m' ρ')⟩
  obtain ⟨a0, a1, a2, a3, a4, a5⟩ := hag c
  obtain rfl : c = 0 := Subsingleton.elim (α := Fin 1) _ _
  rw [Cert.ExpertsRefIdeal.Read.val_main_v63_eq, a0, a1, a2, a3, a4, a5]
  exact (value m hpre).symm

end Cert.ExpertsClaims

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_scores_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Pre_experts_in_range
public import proofs.«01_k».proof.Proof.Attn.Claims
public import proofs.«01_k».proof.Proof.Proj.Claims
public import proofs.«01_k».proof.Proof.Experts.Claims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Proj.Gen.facts, Cert.ProjIdeal.Gen.facts, Cert.ProjRefIdeal.Gen.facts,
  Cert.Experts.Gen.facts, Cert.ExpertsIdeal.Gen.facts, Cert.ExpertsRefIdeal.Gen.facts, Cert.Pre_scores_finite.Gen.facts, Cert.Pre_experts_in_range.Gen.facts,
  fun m ρ _ => Cert.Attn.Gen.frame m ρ,
  fun m ρ _ => Cert.AttnIdeal.Gen.frame m ρ,
  fun m ρ _ => Cert.AttnIdeal.Gen.frame m ρ,
  Cert.AttnClaims.frame_ref, Cert.AttnClaims.frame_ref_pre,
  fun m ρ _ => Cert.Proj.Gen.frame m ρ,
  fun m ρ _ => Cert.ProjIdeal.Gen.frame m ρ,
  Cert.ProjClaims.frame_ref,
  Cert.ExpertsClaims.frame, Cert.ExpertsClaims.frame_ideal, Cert.ExpertsClaims.frame_ref, Cert.ExpertsClaims.frame_ref_pre,
  IdealRules.named_const.statement Cert.AttnIdeal.κ "mask" .f32 0xF149F2CA#32 ⊥ rfl,
  Cert.AttnClaims.algebraic,
  trivial,
  Cert.ProjClaims.algebraic,
  trivial,
  Cert.ExpertsClaims.algebraic⟩

end Cert.Proof

end
